-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_expert_in_range : Cert.Pre_expert_in_range.Facts] (m : (ℓ : Loc Cert.Kernel6.nD Cert.Kernel6.τ Cert.Kernel6.sig) → Buf (Elt Bits) ℓ) : Prop :=
  ∀ c : Dev Cert.Kernel6.nD,
    (Cert.Pre_expert_in_range.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5))) = (fun _ => 1#1)

def Pre_Kernel6Ideal [hPre_expert_in_range : Cert.Pre_expert_in_range.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_expert_in_range.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_expert_in_range [hPre_expert_in_range : Cert.Pre_expert_in_range.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_expert_in_range.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] [hPre_expert_in_range : Cert.Pre_expert_in_range.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] [hPre_expert_in_range : Cert.Pre_expert_in_range.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_expert_in_range [hReference6Ideal : Cert.Reference6Ideal.Facts] [hPre_expert_in_range : Cert.Pre_expert_in_range.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_expert_in_range m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v89) = v0 c
          ∧ r.2.mem ((c.tc : Thread Cert.Reference4Ideal.nD Cert.Reference4Ideal.τ).loc Cert.Reference4Ideal.main_v103) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v65_0)) (v1 : (c : Dev Cert.Kernel5Ideal.nD) → Buf (Elt Ideal) ((c.tc : Thread Cert.Kernel5Ideal.nD Cert.Kernel5Ideal.τ).loc Cert.Kernel5Ideal.main_v65_1)) (v2 : (c : Dev Cert.Kernel5Ideal.nD) → Buf (Elt Ideal) ((c.tc : Thread Cert.Kernel5Ideal.nD Cert.Kernel5Ideal.τ).loc Cert.Kernel5Ideal.main_v65_2)) (v3 : (c : Dev Cert.Kernel5Ideal.nD) → Buf (Elt Ideal) ((c.tc : Thread Cert.Kernel5Ideal.nD Cert.Kernel5Ideal.τ).loc Cert.Kernel5Ideal.main_v65_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v65_0) = v0 c
          ∧ r.2.mem ((c.tc : Thread Cert.Kernel5Ideal.nD Cert.Kernel5Ideal.τ).loc Cert.Kernel5Ideal.main_v65_1) = v1 c
          ∧ r.2.mem ((c.tc : Thread Cert.Kernel5Ideal.nD Cert.Kernel5Ideal.τ).loc Cert.Kernel5Ideal.main_v65_2) = v2 c
          ∧ r.2.mem ((c.tc : Thread Cert.Kernel5Ideal.nD Cert.Kernel5Ideal.τ).loc Cert.Kernel5Ideal.main_v65_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v105) = v0 c
          ∧ r.2.mem ((c.tc : Thread Cert.Reference5Ideal.nD Cert.Reference5Ideal.τ).loc Cert.Reference5Ideal.main_v106) = v1 c
          ∧ r.2.mem ((c.tc : Thread Cert.Reference5Ideal.nD Cert.Reference5Ideal.τ).loc Cert.Reference5Ideal.main_v107) = v2 c
          ∧ r.2.mem ((c.tc : Thread Cert.Reference5Ideal.nD Cert.Reference5Ideal.τ).loc Cert.Reference5Ideal.main_v108) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] [hPre_expert_in_range : Cert.Pre_expert_in_range.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_expert_in_range : Cert.Pre_expert_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_expert_in_range := hPre_expert_in_range)
    ∧ quiescent_Kernel6Ideal (hKernel6Ideal := hKernel6Ideal) (hPre_expert_in_range := hPre_expert_in_range)
    ∧ quiescent_Reference6Ideal (hReference6Ideal := hReference6Ideal)
    ∧ quiescent_Reference6Ideal_pre_expert_in_range (hReference6Ideal := hReference6Ideal) (hPre_expert_in_range := hPre_expert_in_range)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_expert_in_range := hPre_expert_in_range)
-- ==== Pre_expert_in_range.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : IVec S40 32) (main_arg1 : IVec S1 32) (main_arg2 : FVec F S40960x1024 .f32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Pre_finite_scores.lean ====
abbrev S4x4096x1024 : Shape := ⟨3, ![4, 4096, 1024]⟩
abbrev S32x640x512 : Shape := ⟨3, ![32, 640, 512]⟩
abbrev S8x1024x3584 : Shape := ⟨3, ![8, 1024, 3584]⟩
abbrev S8x3584x1024 : Shape := ⟨3, ![8, 3584, 1024]⟩
abbrev S4x8x8x80x512 : Shape := ⟨5, ![4, 8, 8, 80, 512]⟩
abbrev S4x8x8x1x512 : Shape := ⟨5, ![4, 8, 8, 1, 512]⟩
abbrev S4x8x8x512 : Shape := ⟨4, ![4, 8, 8, 512]⟩
abbrev S_ : Shape := ⟨0, ![]⟩

class Facts : Prop where
  bitsLt_bf16_f32 : FTy.bits .bf16 < FTy.bits .f32
  shapeCasts_S32x640x512_S4x8x8x80x512 : S32x640x512.ShapeCasts S4x8x8x80x512
  slices_S4x8x8x80x512_S4x8x8x1x512_0_0_0_64_0 : S4x8x8x80x512.Slices ![0, 0, 0, 64, 0] S4x8x8x1x512
  shapeCasts_S4x8x8x1x512_S4x8x8x512 : S4x8x8x1x512.ShapeCasts S4x8x8x512
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x8x8x512 : S_.BroadcastsInDim S4x8x8x512 (![] : Fin 0 → Fin S4x8x8x512.rank)
  reducesTo_S4x8x8x512_S_d0_1_2_3 : S4x8x8x512.ReducesTo [0, 1, 2, 3] S_

variable [Facts]

def fn_part1 {F : FTy → Type} [FloatOps F] (main_v14 : IVec S_ 1) (main_v17 : IVec S_ 1) : IVec S_ 1 :=
  let main_v18 : IVec S_ 1 := andi main_v14 main_v17
  main_v18

def fn {F : FTy → Type} [FloatOps F] (main_arg0 : FVec F S4x4096x1024 .bf16) (main_arg1 : FVec F S4x4096x1024 .bf16) (main_arg2 : FVec F S32x640x512 .bf16) (main_arg3 : FVec F S8x1024x3584 .f32) (main_arg4 : FVec F S8x1024x3584 .f32) (main_arg5 : FVec F S8x3584x1024 .f32) : IVec S_ 1 :=
  let main_v0 : FVec F S32x640x512 .f32 := (extf .f32 · bitsLt_bf16_f32) main_arg2
  let main_v1 : FVec F S4x8x8x80x512 .f32 := shapeCast S4x8x8x80x512 main_v0 shapeCasts_S32x640x512_S4x8x8x80x512
  let main_v2 : FVec F S4x8x8x1x512 .f32 := (extractStridedSlice S4x8x8x1x512 ![0, 0, 0, 64, 0] · slices_S4x8x8x80x512_S4x8x8x1x512_0_0_0_64_0) main_v1
  let main_v3 : FVec F S4x8x8x512 .f32 := shapeCast S4x8x8x512 main_v2 shapeCasts_S4x8x8x1x512_S4x8x8x512
  let main_v4 : FVec F S4x4096x1024 .f32 := (extf .f32 · bitsLt_bf16_f32) main_arg0
  let main_v5 : FVec F S4x4096x1024 .f32 := Host.absf main_v4
  let main_cst : FVec F S_ .f32 := constant S_ .f32 0x7F800000#32
  let main_v6 : FVec F S4x4096x1024 .f32 := broadcastInDim S4x4096x1024 ![] bcast_S_S4x4096x1024 main_cst
  let main_v7 : IVec S4x4096x1024 1 := cmpf .olt main_v5 main_v6
  let main_c : IVec S_ 1 := constantI S_ 1 1#1
  let main_v8 : IVec S_ 1 := (fun x v => Host.reduce IntOp.andi x v reducesTo_S4x4096x1024_S_d0_1_2 h_S_) main_v7 main_c
  let main_v9 : FVec F S4x4096x1024 .f32 := (extf .f32 · bitsLt_bf16_f32) main_arg1
  let main_v10 : FVec F S4x4096x1024 .f32 := Host.absf main_v9
  let main_cst_0 : FVec F S_ .f32 := constant S_ .f32 0x7F800000#32
  let main_v11 : FVec F S4x4096x1024 .f32 := broadcastInDim S4x4096x1024 ![] bcast_S_S4x4096x1024 main_cst_0
  let main_v12 : IVec S4x4096x1024 1 := cmpf .olt main_v10 main_v11
  let main_c_1 : IVec S_ 1 := constantI S_ 1 1#1
  let main_v13 : IVec S_ 1 := (fun x v => Host.reduce IntOp.andi x v reducesTo_S4x4096x1024_S_d0_1_2 h_S_) main_v12 main_c_1
  let main_v14 : IVec S_ 1 := andi main_v8 main_v13
  let main_cst_2 : FVec F S_ .f32 := constant S_ .f32 0x3F800000#32
  let main_v15 : FVec F S4x8x8x512 .f32 := broadcastInDim S4x8x8x512 ![] bcast_S_S4x8x8x512 main_cst_2
  let main_v16 : IVec S4x8x8x512 1 := cmpf .oeq main_v3 main_v15
  let main_c_3 : IVec S_ 1 := constantI S_ 1 1#1
  let main_v17 : IVec S_ 1 := (fun x v => Host.reduce IntOp.andi x v reducesTo_S4x8x8x512_S_d0_1_2_3 h_S_) main_v16 main_c_3
  fn_part1 (F := F) main_v14 main_v17
-- ==== Kernel.lean ====
abbrev S4x4096x1024 : Shape := ⟨3, ![4, 4096, 1024]⟩
abbrev S32x640x512 : Shape := ⟨3, ![32, 640, 512]⟩
abbrev S8x1024x3584 : Shape := ⟨3, ![8, 1024, 3584]⟩
abbrev S8x3584x1024 : Shape := ⟨3, ![8, 3584, 1024]⟩
abbrev S4x4096x512 : Shape := ⟨3, ![4, 4096, 512]⟩
abbrev S8x7x1024x512 : Shape := ⟨4, ![8, 7, 1024, 512]⟩
abbrev S1x512x512 : Shape := ⟨3, ![1, 512, 512]⟩
abbrev S1x4096x512 : Shape := ⟨3, ![1, 4096, 512]⟩
abbrev S8x320x512 : Shape := ⟨3, ![8, 320, 512]⟩
abbrev S1x128x3584 : Shape := ⟨3, ![1, 128, 3584]⟩
abbrev S1x448x1024 : Shape := ⟨3, ![1, 448, 1024]⟩
abbrev S1x512x256 : Shape := ⟨3, ![1, 512, 256]⟩
abbrev S1x7x128x512 : Shape := ⟨4, ![1, 7, 128, 512]⟩
abbrev S4x80x512 : Shape := ⟨3, ![4, 80, 512]⟩
abbrev S1x128x512 : Shape := ⟨3, ![1, 128, 512]⟩
abbrev S128x512 : Shape := ⟨2, ![128, 512]⟩
abbrev S1x1x128x512 : Shape := ⟨4, ![1, 1, 128, 512]⟩
abbrev S448x1024 : Shape := ⟨2, ![448, 1024]⟩
abbrev S1x512 : Shape := ⟨2, ![1, 512]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S1x80x512 : Shape := ⟨3, ![1, 80, 512]⟩
abbrev S80x512 : Shape := ⟨2, ![80, 512]⟩
abbrev S64x512 : Shape := ⟨2, ![64, 512]⟩
abbrev S256x512 : Shape := ⟨2, ![256, 512]⟩
abbrev S512x256 : Shape := ⟨2, ![512, 256]⟩

abbrev nBuf : Space → Nat
  | .hbm => 10
  | .vmem => 21
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S32x640x512, .bf16⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S4x4096x512, .bf16⟩
  | .hbm, ⟨7, _⟩ => ⟨S8x7x1024x512, .bf16⟩
  | .hbm, ⟨8, _⟩ => ⟨S8x7x1024x512, .bf16⟩
  | .hbm, ⟨9, _⟩ => ⟨S8x3584x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S8x320x512, .bf16⟩
  | .local _ .vmem, ⟨5, _⟩ => ⟨S8x320x512, .bf16⟩
  | .local _ .vmem, ⟨6, _⟩ => ⟨S1x128x3584, .f32⟩
  | .local _ .vmem, ⟨7, _⟩ => ⟨S1x128x3584, .f32⟩
  | .local _ .vmem, ⟨8, _⟩ => ⟨S1x128x3584, .f32⟩
  | .local _ .vmem, ⟨9, _⟩ => ⟨S1x128x3584, .f32⟩
  | .local _ .vmem, ⟨10, _⟩ => ⟨S1x448x1024, .f32⟩
  | .local _ .vmem, ⟨11, _⟩ => ⟨S1x448x1024, .f32⟩
  | .local _ .vmem, ⟨12, _⟩ => ⟨S1x512x256, .bf16⟩
  | .local _ .vmem, ⟨13, _⟩ => ⟨S1x512x256, .bf16⟩
  | .local _ .vmem, ⟨14, _⟩ => ⟨S1x7x128x512, .bf16⟩
  | .local _ .vmem, ⟨15, _⟩ => ⟨S1x7x128x512, .bf16⟩
  | .local _ .vmem, ⟨16, _⟩ => ⟨S1x7x128x512, .bf16⟩
  | .local _ .vmem, ⟨17, _⟩ => ⟨S1x7x128x512, .bf16⟩
  | .local _ .vmem, ⟨18, _⟩ => ⟨S1x448x1024, .bf16⟩
  | .local _ .vmem, ⟨19, _⟩ => ⟨S1x448x1024, .bf16⟩
  | .local _ .vmem, ⟨20, _⟩ => ⟨S4x80x512, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 2, 8], ![false, false, false]⟩

@[reducible] def k0_t1_loop (i : grid0.Coords) : Scf.Loop 32 :=
  let c0_i32 : BitVec 32 := 0#32
  let arg2 : BitVec 32 := BitVec.ofNat 32 (i 2).val
  let v95 : BitVec 32 := Scalar.subi arg2 c0_i32
  let c1_i32 : BitVec 32 := 1#32
  let v97 : BitVec 32 := Scalar.divsi v95 c1_i32
  let v98 : BitVec 32 := Scalar.muli v97 c1_i32
  let v99 : BitVec 32 := Scalar.addi c0_i32 v98
  let c1_i32_95 : BitVec 32 := 1#32
  ⟨c0_i32, v99, c1_i32_95⟩
def k0_mult1 (i : grid0.Coords) (k0_t1 : Fin (k0_t1_loop i).trips) : BitVec 32 :=
  let c0_i32 : BitVec 32 := 0#32
  let c1_i32_95 : BitVec 32 := 1#32
  let arg14 : BitVec 32 := Scf.iv c0_i32 c1_i32_95 k0_t1
  let c512_i32_186 : BitVec 32 := 512#32
  let v270 : BitVec 32 := Scalar.muli arg14 c512_i32_186
  v270
def k0_off1 (i : grid0.Coords) (k0_t1 : Fin (k0_t1_loop i).trips) : Fin 3 → Nat :=
  let c0_190 : Index := 0#32
  let c0_i32 : BitVec 32 := 0#32
  let c1_i32_95 : BitVec 32 := 1#32
  let arg14 : BitVec 32 := Scf.iv c0_i32 c1_i32_95 k0_t1
  let c512_i32_186 : BitVec 32 := 512#32
  let v270 : BitVec 32 := Scalar.muli arg14 c512_i32_186
  let v271 : BitVec 32 := v270
  let v274 : Index := Scalar.indexCast v271
  let c0_191 : Index := 0#32
  ![0, v274.toNat, 0]
def k0_off2 (i : grid0.Coords) (k0_t1 : Fin (k0_t1_loop i).trips) : Fin 3 → Nat :=
  let c0_196 : Index := 0#32
  let c0_i32 : BitVec 32 := 0#32
  let c1_i32_95 : BitVec 32 := 1#32
  let arg14 : BitVec 32 := Scf.iv c0_i32 c1_i32_95 k0_t1
  let c512_i32_186 : BitVec 32 := 512#32
  let v270 : BitVec 32 := Scalar.muli arg14 c512_i32_186
  let v271 : BitVec 32 := v270
  let v280 : Index := Scalar.indexCast v271
  let c128_197 : Index := 128#32
  ![0, v280.toNat, 128]
def k0_off3 (i : grid0.Coords) (k0_t1 : Fin (k0_t1_loop i).trips) : Fin 3 → Nat :=
  let c0_202 : Index := 0#32
  let c0_i32 : BitVec 32 := 0#32
  let c1_i32_95 : BitVec 32 := 1#32
  let arg14 : BitVec 32 := Scf.iv c0_i32 c1_i32_95 k0_t1
  let c512_i32_186 : BitVec 32 := 512#32
  let v270 : BitVec 32 := Scalar.muli arg14 c512_i32_186
  let v271 : BitVec 32 := v270
  let v286 : Index := Scalar.indexCast v271
  let c256_203 : Index := 256#32
  ![0, v286.toNat, 256]
def k0_off4 (i : grid0.Coords) (k0_t1 : Fin (k0_t1_loop i).trips) : Fin 3 → Nat :=
  let c0_208 : Index := 0#32
  let c0_i32 : BitVec 32 := 0#32
  let c1_i32_95 : BitVec 32 := 1#32
  let arg14 : BitVec 32 := Scf.iv c0_i32 c1_i32_95 k0_t1
  let c512_i32_186 : BitVec 32 := 512#32
  let v270 : BitVec 32 := Scalar.muli arg14 c512_i32_186
  let v271 : BitVec 32 := v270
  let v292 : Index := Scalar.indexCast v271
  let c384_209 : Index := 384#32
  ![0, v292.toNat, 384]
def k0_off5 (i : grid0.Coords) (k0_t1 : Fin (k0_t1_loop i).trips) : Fin 3 → Nat :=
  let c0_i32 : BitVec 32 := 0#32
  let c1_i32_95 : BitVec 32 := 1#32
  let arg14 : BitVec 32 := Scf.iv c0_i32 c1_i32_95 k0_t1
  let v332 : Index := Scalar.indexCast arg14
  let c0_215 : Index := 0#32
  let c0_216 : Index := 0#32
  ![v332.toNat, 0, 0]
def k0_off6 (i : grid0.Coords) (k0_t1 : Fin (k0_t1_loop i).trips) : Fin 3 → Nat :=
  let c0_i32 : BitVec 32 := 0#32
  let c1_i32_95 : BitVec 32 := 1#32
  let arg14 : BitVec 32 := Scf.iv c0_i32 c1_i32_95 k0_t1
  let v344 : Index := Scalar.indexCast arg14
  let c80_224 : Index := 80#32
  let c0_225 : Index := 0#32
  ![v344.toNat, 80, 0]
def k0_off7 (i : grid0.Coords) (k0_t1 : Fin (k0_t1_loop i).trips) : Fin 3 → Nat :=
  let c0_i32 : BitVec 32 := 0#32
  let c1_i32_95 : BitVec 32 := 1#32
  let arg14 : BitVec 32 := Scf.iv c0_i32 c1_i32_95 k0_t1
  let v356 : Index := Scalar.indexCast arg14
  let c160_233 : Index := 160#32
  let c0_234 : Index := 0#32
  ![v356.toNat, 160, 0]
def k0_off8 (i : grid0.Coords) (k0_t1 : Fin (k0_t1_loop i).trips) : Fin 3 → Nat :=
  let c0_i32 : BitVec 32 := 0#32
  let c1_i32_95 : BitVec 32 := 1#32
  let arg14 : BitVec 32 := Scf.iv c0_i32 c1_i32_95 k0_t1
  let v368 : Index := Scalar.indexCast arg14
  let c240_242 : Index := 240#32
  let c0_243 : Index := 0#32
  ![v368.toNat, 240, 0]
@[reducible] def k0_t2_loop (i : grid0.Coords) : Scf.Loop 32 :=
  let c0_i32 : BitVec 32 := 0#32
  let arg2 : BitVec 32 := BitVec.ofNat 32 (i 2).val
  let v95 : BitVec 32 := Scalar.subi arg2 c0_i32
  let c1_i32 : BitVec 32 := 1#32
  let v97 : BitVec 32 := Scalar.divsi v95 c1_i32
  let v98 : BitVec 32 := Scalar.muli v97 c1_i32
  let v99 : BitVec 32 := Scalar.addi c0_i32 v98
  let v96 : BitVec 32 := Scalar.addi c0_i32 v95
  let c1_i32_96 : BitVec 32 := 1#32
  ⟨v99, v96, c1_i32_96⟩
def k0_mult2 (i : grid0.Coords) (k0_t2 : Fin (k0_t2_loop i).trips) : BitVec 32 :=
  let c0_i32 : BitVec 32 := 0#32
  let arg2 : BitVec 32 := BitVec.ofNat 32 (i 2).val
  let v95 : BitVec 32 := Scalar.subi arg2 c0_i32
  let c1_i32 : BitVec 32 := 1#32
  let v97 : BitVec 32 := Scalar.divsi v95 c1_i32
  let v98 : BitVec 32 := Scalar.muli v97 c1_i32
  let v99 : BitVec 32 := Scalar.addi c0_i32 v98
  let c1_i32_96 : BitVec 32 := 1#32
  let arg14 : BitVec 32 := Scf.iv v99 c1_i32_96 k0_t2
  let c512_i32_186 : BitVec 32 := 512#32
  let v270 : BitVec 32 := Scalar.muli arg14 c512_i32_186
  v270
def k0_off9 (i : grid0.Coords) (k0_t2 : Fin (k0_t2_loop i).trips) : Fin 3 → Nat :=
  let c0_190 : Index := 0#32
  let c0_i32 : BitVec 32 := 0#32
  let arg2 : BitVec 32 := BitVec.ofNat 32 (i 2).val
  let v95 : BitVec 32 := Scalar.subi arg2 c0_i32
  let c1_i32 : BitVec 32 := 1#32
  let v97 : BitVec 32 := Scalar.divsi v95 c1_i32
  let v98 : BitVec 32 := Scalar.muli v97 c1_i32
  let v99 : BitVec 32 := Scalar.addi c0_i32 v98
  let c1_i32_96 : BitVec 32 := 1#32
  let arg14 : BitVec 32 := Scf.iv v99 c1_i32_96 k0_t2
  let c512_i32_186 : BitVec 32 := 512#32
  let v270 : BitVec 32 := Scalar.muli arg14 c512_i32_186
  let v271 : BitVec 32 := v270
  let v274 : Index := Scalar.indexCast v271
  let c0_191 : Index := 0#32
  ![0, v274.toNat, 0]
def k0_off10 (i : grid0.Coords) (k0_t2 : Fin (k0_t2_loop i).trips) : Fin 3 → Nat :=
  let c0_196 : Index := 0#32
  let c0_i32 : BitVec 32 := 0#32
  let arg2 : BitVec 32 := BitVec.ofNat 32 (i 2).val
  let v95 : BitVec 32 := Scalar.subi arg2 c0_i32
  let c1_i32 : BitVec 32 := 1#32
  let v97 : BitVec 32 := Scalar.divsi v95 c1_i32
  let v98 : BitVec 32 := Scalar.muli v97 c1_i32
  let v99 : BitVec 32 := Scalar.addi c0_i32 v98
  let c1_i32_96 : BitVec 32 := 1#32
  let arg14 : BitVec 32 := Scf.iv v99 c1_i32_96 k0_t2
  let c512_i32_186 : BitVec 32 := 512#32
  let v270 : BitVec 32 := Scalar.muli arg14 c512_i32_186
  let v271 : BitVec 32 := v270
  let v280 : Index := Scalar.indexCast v271
  let c128_197 : Index := 128#32
  ![0, v280.toNat, 128]
def k0_off11 (i : grid0.Coords) (k0_t2 : Fin (k0_t2_loop i).trips) : Fin 3 → Nat :=
  let c0_202 : Index := 0#32
  let c0_i32 : BitVec 32 := 0#32
  let arg2 : BitVec 32 := BitVec.ofNat 32 (i 2).val
  let v95 : BitVec 32 := Scalar.subi arg2 c0_i32
  let c1_i32 : BitVec 32 := 1#32
  let v97 : BitVec 32 := Scalar.divsi v95 c1_i32
  let v98 : BitVec 32 := Scalar.muli v97 c1_i32
  let v99 : BitVec 32 := Scalar.addi c0_i32 v98
  let c1_i32_96 : BitVec 32 := 1#32
  let arg14 : BitVec 32 := Scf.iv v99 c1_i32_96 k0_t2
  let c512_i32_186 : BitVec 32 := 512#32
  let v270 : BitVec 32 := Scalar.muli arg14 c512_i32_186
  let v271 : BitVec 32 := v270
  let v286 : Index := Scalar.indexCast v271
  let c256_203 : Index := 256#32
  ![0, v286.toNat, 256]
def k0_off12 (i : grid0.Coords) (k0_t2 : Fin (k0_t2_loop i).trips) : Fin 3 → Nat :=
  let c0_208 : Index := 0#32
  let c0_i32 : BitVec 32 := 0#32
  let arg2 : BitVec 32 := BitVec.ofNat 32 (i 2).val
  let v95 : BitVec 32 := Scalar.subi arg2 c0_i32
  let c1_i32 : BitVec 32 := 1#32
  let v97 : BitVec 32 := Scalar.divsi v95 c1_i32
  let v98 : BitVec 32 := Scalar.muli v97 c1_i32
  let v99 : BitVec 32 := Scalar.addi c0_i32 v98
  let c1_i32_96 : BitVec 32 := 1#32
  let arg14 : BitVec 32 := Scf.iv v99 c1_i32_96 k0_t2
  let c512_i32_186 : BitVec 32 := 512#32
  let v270 : BitVec 32 := Scalar.muli arg14 c512_i32_186
  let v271 : BitVec 32 := v270
  let v292 : Index := Scalar.indexCast v271
  let c384_209 : Index := 384#32
  ![0, v292.toNat, 384]
def k0_off13 (i : grid0.Coords) (k0_t2 : Fin (k0_t2_loop i).trips) : Fin 3 → Nat :=
  let c0_i32 : BitVec 32 := 0#32
  let arg2 : BitVec 32 := BitVec.ofNat 32 (i 2).val
  let v95 : BitVec 32 := Scalar.subi arg2 c0_i32
  let c1_i32 : BitVec 32 := 1#32
  let v97 : BitVec 32 := Scalar.divsi v95 c1_i32
  let v98 : BitVec 32 := Scalar.muli v97 c1_i32
  let v99 : BitVec 32 := Scalar.addi c0_i32 v98
  let c1_i32_96 : BitVec 32 := 1#32
  let arg14 : BitVec 32 := Scf.iv v99 c1_i32_96 k0_t2
  let v332 : Index := Scalar.indexCast arg14
  let c0_215 : Index := 0#32
  let c0_216 : Index := 0#32
  ![v332.toNat, 0, 0]
def k0_off14 (i : grid0.Coords) (k0_t2 : Fin (k0_t2_loop i).trips) : Fin 3 → Nat :=
  let c0_i32 : BitVec 32 := 0#32
  let arg2 : BitVec 32 := BitVec.ofNat 32 (i 2).val
  let v95 : BitVec 32 := Scalar.subi arg2 c0_i32
  let c1_i32 : BitVec 32 := 1#32
  let v97 : BitVec 32 := Scalar.divsi v95 c1_i32
  let v98 : BitVec 32 := Scalar.muli v97 c1_i32
  let v99 : BitVec 32 := Scalar.addi c0_i32 v98
  let c1_i32_96 : BitVec 32 := 1#32
  let arg14 : BitVec 32 := Scf.iv v99 c1_i32_96 k0_t2
  let v344 : Index := Scalar.indexCast arg14
  let c80_224 : Index := 80#32
  let c0_225 : Index := 0#32
  ![v344.toNat, 80, 0]
def k0_off15 (i : grid0.Coords) (k0_t2 : Fin (k0_t2_loop i).trips) : Fin 3 → Nat :=
  let c0_i32 : BitVec 32 := 0#32
  let arg2 : BitVec 32 := BitVec.ofNat 32 (i 2).val
  let v95 : BitVec 32 := Scalar.subi arg2 c0_i32
  let c1_i32 : BitVec 32 := 1#32
  let v97 : BitVec 32 := Scalar.divsi v95 c1_i32
  let v98 : BitVec 32 := Scalar.muli v97 c1_i32
  let v99 : BitVec 32 := Scalar.addi c0_i32 v98
  let c1_i32_96 : BitVec 32 := 1#32
  let arg14 : BitVec 32 := Scf.iv v99 c1_i32_96 k0_t2
  let v356 : Index := Scalar.indexCast arg14
  let c160_233 : Index := 160#32
  let c0_234 : Index := 0#32
  ![v356.toNat, 160, 0]
def k0_off16 (i : grid0.Coords) (k0_t2 : Fin (k0_t2_loop i).trips) : Fin 3 → Nat :=
  let c0_i32 : BitVec 32 := 0#32
  let arg2 : BitVec 32 := BitVec.ofNat 32 (i 2).val
  let v95 : BitVec 32 := Scalar.subi arg2 c0_i32
  let c1_i32 : BitVec 32 := 1#32
  let v97 : BitVec 32 := Scalar.divsi v95 c1_i32
  let v98 : BitVec 32 := Scalar.muli v97 c1_i32
  let v99 : BitVec 32 := Scalar.addi c0_i32 v98
  let c1_i32_96 : BitVec 32 := 1#32
  let arg14 : BitVec 32 := Scf.iv v99 c1_i32_96 k0_t2
  let v368 : Index := Scalar.indexCast arg14
  let c240_242 : Index := 240#32
  let c0_243 : Index := 0#32
  ![v368.toNat, 240, 0]
def k0_mult3 (i : grid0.Coords) : BitVec 32 :=
  let arg2 : BitVec 32 := BitVec.ofNat 32 (i 2).val
  let c512_i32 : BitVec 32 := 512#32
  let v102 : BitVec 32 := Scalar.muli arg2 c512_i32
  v102
def k0_off17 (i : grid0.Coords) : Fin 3 → Nat :=
  let c0_100 : Index := 0#32
  let arg2 : BitVec 32 := BitVec.ofNat 32 (i 2).val
  let c512_i32 : BitVec 32 := 512#32
  let v102 : BitVec 32 := Scalar.muli arg2 c512_i32
  let v103 : BitVec 32 := v102
  let v106 : Index := Scalar.indexCast v103
  let c0_101 : Index := 0#32
  ![0, v106.toNat, 0]
def k0_off18 (i : grid0.Coords) : Fin 3 → Nat :=
  let c0_106 : Index := 0#32
  let arg2 : BitVec 32 := BitVec.ofNat 32 (i 2).val
  let c512_i32 : BitVec 32 := 512#32
  let v102 : BitVec 32 := Scalar.muli arg2 c512_i32
  let v103 : BitVec 32 := v102
  let v117 : Index := Scalar.indexCast v103
  let c128_107 : Index := 128#32
  ![0, v117.toNat, 128]
def k0_off19 (i : grid0.Coords) : Fin 3 → Nat :=
  let c0_112 : Index := 0#32
  let arg2 : BitVec 32 := BitVec.ofNat 32 (i 2).val
  let c512_i32 : BitVec 32 := 512#32
  let v102 : BitVec 32 := Scalar.muli arg2 c512_i32
  let v103 : BitVec 32 := v102
  let v128 : Index := Scalar.indexCast v103
  let c256_113 : Index := 256#32
  ![0, v128.toNat, 256]
def k0_off20 (i : grid0.Coords) : Fin 3 → Nat :=
  let c0_118 : Index := 0#32
  let arg2 : BitVec 32 := BitVec.ofNat 32 (i 2).val
  let c512_i32 : BitVec 32 := 512#32
  let v102 : BitVec 32 := Scalar.muli arg2 c512_i32
  let v103 : BitVec 32 := v102
  let v139 : Index := Scalar.indexCast v103
  let c384_119 : Index := 384#32
  ![0, v139.toNat, 384]
def k0_off21 (i : grid0.Coords) : Fin 3 → Nat :=
  let arg2 : BitVec 32 := BitVec.ofNat 32 (i 2).val
  let v184 : Index := Scalar.indexCast arg2
  let c0_126 : Index := 0#32
  let c0_127 : Index := 0#32
  ![v184.toNat, 0, 0]
def k0_off22 (i : grid0.Coords) : Fin 3 → Nat :=
  let arg2 : BitVec 32 := BitVec.ofNat 32 (i 2).val
  let v196 : Index := Scalar.indexCast arg2
  let c80 : Index := 80#32
  let c0_135 : Index := 0#32
  ![v196.toNat, 80, 0]
def k0_off23 (i : grid0.Coords) : Fin 3 → Nat :=
  let arg2 : BitVec 32 := BitVec.ofNat 32 (i 2).val
  let v208 : Index := Scalar.indexCast arg2
  let c160 : Index := 160#32
  let c0_143 : Index := 0#32
  ![v208.toNat, 160, 0]
def k0_off24 (i : grid0.Coords) : Fin 3 → Nat :=
  let arg2 : BitVec 32 := BitVec.ofNat 32 (i 2).val
  let v220 : Index := Scalar.indexCast arg2
  let c240 : Index := 240#32
  let c0_151 : Index := 0#32
  ![v220.toNat, 240, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c2_i32_5 : BitVec 32 := 2#32
  let v21 : BitVec 32 := Scalar.muli arg0 c2_i32_5
  let v22 : BitVec 32 := Scalar.addi v21 arg1
  let c8_i32_6 : BitVec 32 := 8#32
  let v23 : BitVec 32 := Scalar.muli v22 c8_i32_6
  let v24 : BitVec 32 := Scalar.addi v23 arg2
  let c8_i32_7 : BitVec 32 := 8#32
  let c0_i32_8 : BitVec 32 := 0#32
  let v25 : BitVec 1 := Scalar.cmpi .eq c8_i32_7 c0_i32_8
  let c1_i32_9 : BitVec 32 := 1#32
  let v26 : BitVec 32 := Scalar.select v25 c1_i32_9 c8_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  let c0_i32_14 : BitVec 32 := 0#32
  ![v20.toNat, v34.toNat, c0_i32_13.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c2_i32_5 : BitVec 32 := 2#32
  let v21 : BitVec 32 := Scalar.muli arg0 c2_i32_5
  let v22 : BitVec 32 := Scalar.addi v21 arg1
  let c8_i32_6 : BitVec 32 := 8#32
  let v23 : BitVec 32 := Scalar.muli v22 c8_i32_6
  let v24 : BitVec 32 := Scalar.addi v23 arg2
  let c8_i32_7 : BitVec 32 := 8#32
  let c0_i32_8 : BitVec 32 := 0#32
  let v25 : BitVec 1 := Scalar.cmpi .eq c8_i32_7 c0_i32_8
  let c1_i32_9 : BitVec 32 := 1#32
  let v26 : BitVec 32 := Scalar.select v25 c1_i32_9 c8_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  let c0_i32_14 : BitVec 32 := 0#32
  ![v20.toNat, v34.toNat, c0_i32_13.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c2_i32_5 : BitVec 32 := 2#32
  let v21 : BitVec 32 := Scalar.muli arg0 c2_i32_5
  let v22 : BitVec 32 := Scalar.addi v21 arg1
  let c8_i32_6 : BitVec 32 := 8#32
  let v23 : BitVec 32 := Scalar.muli v22 c8_i32_6
  let v24 : BitVec 32 := Scalar.addi v23 arg2
  let c8_i32_7 : BitVec 32 := 8#32
  let c0_i32_8 : BitVec 32 := 0#32
  let v25 : BitVec 1 := Scalar.cmpi .eq c8_i32_7 c0_i32_8
  let c1_i32_9 : BitVec 32 := 1#32
  let v26 : BitVec 32 := Scalar.select v25 c1_i32_9 c8_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  let c0_i32_14 : BitVec 32 := 0#32
  ![v20.toNat, v34.toNat, c0_i32_13.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c2_i32_5 : BitVec 32 := 2#32
  let v21 : BitVec 32 := Scalar.muli arg0 c2_i32_5
  let v22 : BitVec 32 := Scalar.addi v21 arg1
  let c8_i32_6 : BitVec 32 := 8#32
  let v23 : BitVec 32 := Scalar.muli v22 c8_i32_6
  let v24 : BitVec 32 := Scalar.addi v23 arg2
  let c8_i32_7 : BitVec 32 := 8#32
  let c0_i32_8 : BitVec 32 := 0#32
  let v25 : BitVec 1 := Scalar.cmpi .eq c8_i32_7 c0_i32_8
  let c1_i32_9 : BitVec 32 := 1#32
  let v26 : BitVec 32 := Scalar.select v25 c1_i32_9 c8_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  let c0_i32_14 : BitVec 32 := 0#32
  let c0_i32_15 : BitVec 32 := 0#32
  ![v20.toNat, c0_i32_13.toNat, v34.toNat, c0_i32_14.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c2_i32_5 : BitVec 32 := 2#32
  let v21 : BitVec 32 := Scalar.muli arg0 c2_i32_5
  let v22 : BitVec 32 := Scalar.addi v21 arg1
  let c8_i32_6 : BitVec 32 := 8#32
  let v23 : BitVec 32 := Scalar.muli v22 c8_i32_6
  let v24 : BitVec 32 := Scalar.addi v23 arg2
  let c8_i32_7 : BitVec 32 := 8#32
  let c0_i32_8 : BitVec 32 := 0#32
  let v25 : BitVec 1 := Scalar.cmpi .eq c8_i32_7 c0_i32_8
  let c1_i32_9 : BitVec 32 := 1#32
  let v26 : BitVec 32 := Scalar.select v25 c1_i32_9 c8_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  let c0_i32_14 : BitVec 32 := 0#32
  let c0_i32_15 : BitVec 32 := 0#32
  ![v20.toNat, c0_i32_13.toNat, v34.toNat, c0_i32_14.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c2_i32_5 : BitVec 32 := 2#32
  let v21 : BitVec 32 := Scalar.muli arg0 c2_i32_5
  let v22 : BitVec 32 := Scalar.addi v21 arg1
  let c8_i32_6 : BitVec 32 := 8#32
  let v23 : BitVec 32 := Scalar.muli v22 c8_i32_6
  let v24 : BitVec 32 := Scalar.addi v23 arg2
  let c8_i32_7 : BitVec 32 := 8#32
  let c0_i32_8 : BitVec 32 := 0#32
  let v25 : BitVec 1 := Scalar.cmpi .eq c8_i32_7 c0_i32_8
  let c1_i32_9 : BitVec 32 := 1#32
  let v26 : BitVec 32 := Scalar.select v25 c1_i32_9 c8_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  let c0_i32_14 : BitVec 32 := 0#32
  ![v20.toNat, v34.toNat, c0_i32_13.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x448x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x7x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x7x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x448x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x1024 : Shape := ⟨3, ![4, 4096, 1024]⟩
abbrev S32x640x512 : Shape := ⟨3, ![32, 640, 512]⟩
abbrev S8x1024x3584 : Shape := ⟨3, ![8, 1024, 3584]⟩
abbrev S8x3584x1024 : Shape := ⟨3, ![8, 3584, 1024]⟩
abbrev S4x4096x8x128 : Shape := ⟨4, ![4, 4096, 8, 128]⟩
abbrev S4x8x8x80x512 : Shape := ⟨5, ![4, 8, 8, 80, 512]⟩
abbrev S4x8x8x64x512 : Shape := ⟨5, ![4, 8, 8, 64, 512]⟩
abbrev S4x8x8x512x64 : Shape := ⟨5, ![4, 8, 8, 512, 64]⟩
abbrev S4x8x4096x64 : Shape := ⟨4, ![4, 8, 4096, 64]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x4096x8x64 : Shape := ⟨4, ![4, 4096, 8, 64]⟩
abbrev S4x4096x512 : Shape := ⟨3, ![4, 4096, 512]⟩
abbrev S8x1024x7x512 : Shape := ⟨4, ![8, 1024, 7, 512]⟩
abbrev S8x7x1024x512 : Shape := ⟨4, ![8, 7, 1024, 512]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S32x640x512, .bf16⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S4x4096x1024, .f32⟩
  | .hbm, ⟨7, _⟩ => ⟨S4x4096x8x128, .f32⟩
  | .hbm, ⟨8, _⟩ => ⟨S4x4096x1024, .f32⟩
  | .hbm, ⟨9, _⟩ => ⟨S4x4096x8x128, .f32⟩
  | .hbm, ⟨10, _⟩ => ⟨S32x640x512, .f32⟩
  | .hbm, ⟨11, _⟩ => ⟨S4x8x8x80x512, .f32⟩
  | .hbm, ⟨12, _⟩ => ⟨S4x8x8x64x512, .f32⟩
  | .hbm, ⟨13, _⟩ => ⟨S4x8x8x512x64, .f32⟩
  | .hbm, ⟨14, _⟩ => ⟨S4x8x4096x64, .f32⟩
  | .hbm, ⟨15, _⟩ => ⟨S4x8x4096x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x8x4096x4096, .f32⟩
  | .hbm, ⟨20, _⟩ => ⟨S4x8x4096x4096, .f32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S4x8x4096x4096, .i1⟩
  | .hbm, ⟨30, _⟩ => ⟨S4x8x4096x4096, .f32⟩
  | .hbm, ⟨31, _⟩ => ⟨S4x8x4096x4096, .f32⟩
  | .hbm, ⟨32, _⟩ => ⟨S_, .f32⟩
  | .hbm, ⟨33, _⟩ => ⟨S4x8x4096, .f32⟩
  | .hbm, ⟨34, _⟩ => ⟨S_, .f32⟩
  | .hbm, ⟨35, _⟩ => ⟨S4x8x4096, .f32⟩
  | .hbm, ⟨36, _⟩ => ⟨S4x8x4096, .f32⟩
  | .hbm, ⟨37, _⟩ => ⟨S4x8x4096x1, .f32⟩
  | .hbm, ⟨38, _⟩ => ⟨S4x8x4096x4096, .f32⟩
  | .hbm, ⟨39, _⟩ => ⟨S4x8x4096x4096, .f32⟩
  | .hbm, ⟨40, _⟩ => ⟨S4x8x4096x4096, .f32⟩
  | .hbm, ⟨41, _⟩ => ⟨S_, .f32⟩
  | .hbm, ⟨42, _⟩ => ⟨S4x8x4096, .f32⟩
  | .hbm, ⟨43, _⟩ => ⟨S4x8x4096x1, .f32⟩
  | .hbm, ⟨44, _⟩ => ⟨S4x8x4096x4096, .f32⟩
  | .hbm, ⟨45, _⟩ => ⟨S4x8x4096x4096, .f32⟩
  | .hbm, ⟨46, _⟩ => ⟨S4x8x4096x64, .f32⟩
  | .hbm, ⟨47, _⟩ => ⟨S4x4096x8x64, .f32⟩
  | .hbm, ⟨48, _⟩ => ⟨S4x4096x512, .f32⟩
  | .hbm, ⟨49, _⟩ => ⟨S4x4096x512, .bf16⟩
  | .hbm, ⟨50, _⟩ => ⟨S8x1024x7x512, .f32⟩
  | .hbm, ⟨51, _⟩ => ⟨S8x7x1024x512, .f32⟩
  | .hbm, ⟨52, _⟩ => ⟨S8x7x1024x512, .bf16⟩
  | .hbm, ⟨53, _⟩ => ⟨S8x1024x7x512, .f32⟩
  | .hbm, ⟨54, _⟩ => ⟨S8x7x1024x512, .f32⟩
  | .hbm, ⟨55, _⟩ => ⟨S8x7x1024x512, .bf16⟩
  | .hbm, ⟨56, _⟩ => ⟨S8x3584x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel2.lean ====
abbrev S16384x1024 : Shape := ⟨2, ![16384, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 14
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S1024, .f32⟩
  | .hbm, ⟨6, _⟩ => ⟨S1024, .f32⟩
  | .hbm, ⟨7, _⟩ => ⟨S1024x4096, .bf16⟩
  | .hbm, ⟨8, _⟩ => ⟨S1024x4096, .bf16⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S16384x1024 : Shape := ⟨2, ![16384, 1024]⟩
abbrev S1024x4096 : Shape := ⟨2, ![1024, 4096]⟩
abbrev S4096x1024 : Shape := ⟨2, ![4096, 1024]⟩
abbrev S1024 : Shape := ⟨1, ![1024]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S1024, .f32⟩
  | .hbm, ⟨6, _⟩ => ⟨S1024, .f32⟩
  | .hbm, ⟨7, _⟩ => ⟨S16384x1024, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x1536 : Shape := ⟨2, ![1024, 1536]⟩
abbrev S16384x1024 : Shape := ⟨2, ![16384, 1024]⟩
abbrev S1x1024 : Shape := ⟨2, ![1, 1024]⟩
abbrev S4x16384x128 : Shape := ⟨3, ![4, 16384, 128]⟩
abbrev S1024x1024 : Shape := ⟨2, ![1024, 1024]⟩
abbrev S4x1024x128 : Shape := ⟨3, ![4, 1024, 128]⟩
abbrev S1024x1 : Shape := ⟨2, ![1024, 1]⟩
abbrev S1024x128 : Shape := ⟨2, ![1024, 128]⟩
abbrev S1x1024x128 : Shape := ⟨3, ![1, 1024, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x1536, .f32⟩
  | .hbm, ⟨3, _⟩ => ⟨S16384x1024, .f32⟩
  | .hbm, ⟨4, _⟩ => ⟨S1x1024, .f32⟩
  | .hbm, ⟨5, _⟩ => ⟨S1024x1536, .bf16⟩
  | .hbm, ⟨6, _⟩ => ⟨S4x16384x128, .f32⟩
  | .hbm, ⟨7, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S4x1024x128, .f32⟩
  | .local _ .vmem, ⟨5, _⟩ => ⟨S4x1024x128, .f32⟩
  | .local _ .vmem, ⟨6, _⟩ => ⟨S1024x1024, .bf16⟩
  | .local _ .vmem, ⟨7, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4x4096x1024 : Shape := ⟨3, ![4, 4096, 1024]⟩
abbrev S1024 : Shape := ⟨1, ![1024]⟩
abbrev S1024x1536 : Shape := ⟨2, ![1024, 1536]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x1536 : Shape := ⟨3, ![4, 4096, 1536]⟩
abbrev S16384x1536 : Shape := ⟨2, ![16384, 1536]⟩
abbrev S16384x512 : Shape := ⟨2, ![16384, 512]⟩
abbrev S16384x4x128 : Shape := ⟨3, ![16384, 4, 128]⟩
abbrev S4x16384x128 : Shape := ⟨3, ![4, 16384, 128]⟩
abbrev S16384x1024 : Shape := ⟨2, ![16384, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x1536, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x1536, .f32⟩
  | .hbm, ⟨20, _⟩ => ⟨S16384x1536, .f32⟩
  | .hbm, ⟨21, _⟩ => ⟨S16384x512, .f32⟩
  | .hbm, ⟨22, _⟩ => ⟨S16384x4x128, .f32⟩
  | .hbm, ⟨23, _⟩ => ⟨S4x16384x128, .f32⟩
  | .hbm, ⟨24, _⟩ => ⟨S16384x1024, .f32⟩
  | .hbm, ⟨25, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel4.lean ====
abbrev S4x16384x128 : Shape := ⟨3, ![4, 16384, 128]⟩
abbrev S16384x1024 : Shape := ⟨2, ![16384, 1024]⟩
abbrev S512x512 : Shape := ⟨2, ![512, 512]⟩
abbrev S512 : Shape := ⟨1, ![512]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x64 : Shape := ⟨3, ![128, 8, 64]⟩
abbrev S128x512 : Shape := ⟨2, ![128, 512]⟩
abbrev S1x512 : Shape := ⟨2, ![1, 512]⟩
abbrev S512x1024 : Shape := ⟨2, ![512, 1024]⟩
abbrev S1x1024 : Shape := ⟨2, ![1, 1024]⟩
abbrev S4x512x128 : Shape := ⟨3, ![4, 512, 128]⟩
abbrev S1x512x128 : Shape := ⟨3, ![1, 512, 128]⟩
abbrev S512x128 : Shape := ⟨2, ![512, 128]⟩
abbrev S512x1 : Shape := ⟨2, ![512, 1]⟩

abbrev nBuf : Space → Nat
  | .hbm => 42
  | .vmem => 22
  | .smem => 0
  | _ => 0

abbrev bufTy : (tb : Table) → Fin (tcTables nBuf tb) → BufTy
  | .hbm, ⟨0, _⟩ => ⟨S4x16384x128, .f32⟩
  | .hbm, ⟨1, _⟩ => ⟨S16384x1024, .bf16⟩
  | .hbm, ⟨2, _⟩ => ⟨S16384x1024, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S_, .i1⟩
  | .hbm, ⟨12, _⟩ => ⟨S128x128, .i1⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S_, .i1⟩
  | .hbm, ⟨20, _⟩ => ⟨S128x128, .i1⟩
  | .hbm, ⟨21, _⟩ => ⟨S128x128, .i1⟩
  | .hbm, ⟨22, _⟩ => ⟨S1x128x128, .i1⟩
  | .hbm, ⟨23, _⟩ => ⟨S_, .f32⟩
  | .hbm, ⟨24, _⟩ => ⟨S_, .f32⟩
  | .hbm, ⟨25, _⟩ => ⟨S8x128x128, .i1⟩
  | .hbm, ⟨26, _⟩ => ⟨S8x128x128, .f32⟩
  | .hbm, ⟨27, _⟩ => ⟨S8x128x128, .f32⟩
  | .hbm, ⟨28, _⟩ => ⟨S8x128x128, .bf16⟩
  | .hbm, ⟨29, _⟩ => ⟨S128x8, .f32⟩
  | .hbm, ⟨30, _⟩ => ⟨S128x8x64, .f32⟩
  | .hbm, ⟨31, _⟩ => ⟨S128x512, .f32⟩
  | .hbm, ⟨32, _⟩ => ⟨S1024x1024, .bf16⟩
  | .hbm, ⟨33, _⟩ => ⟨S512x512, .bf16⟩
  | .hbm, ⟨34, _⟩ => ⟨S1x512, .f32⟩
  | .hbm, ⟨35, _⟩ => ⟨S1x512, .f32⟩
  | .hbm, ⟨36, _⟩ => ⟨S512x1024, .bf16⟩
  | .hbm, ⟨37, _⟩ => ⟨S512x1024, .bf16⟩
  | .hbm, ⟨38, _⟩ => ⟨S1x1024, .f32⟩
  | .hbm, ⟨39, _⟩ => ⟨S1x1024, .f32⟩
  | .hbm, ⟨40, _⟩ => ⟨S16384x1024, .f32⟩
  | .hbm, ⟨41, _⟩ => ⟨S16384x1024, .bf16⟩
  | .local _ .vmem, ⟨0, _⟩ => ⟨S4x512x128, .f32⟩
  | .local _ .vmem, ⟨1, _⟩ => ⟨S4x512x128, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S8x128x128, .bf16⟩
  | .local _ .vmem, ⟨12, _⟩ => ⟨S128x512, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x512, .f32⟩
  | _, _ => ⟨S4x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16_0 : Ref sig .tc := ⟨.hbm, 40, rfl⟩
abbrev main_v16_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S4x16384x128 : Shape := ⟨3, ![4, 16384, 128]⟩
abbrev S16384x1024 : Shape := ⟨2, ![16384, 1024]⟩
abbrev S512x512 : Shape := ⟨2, ![512, 512]⟩
abbrev S512 : Shape := ⟨1, ![512]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S16384x4x128 : Shape := ⟨3, ![16384, 4, 128]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S128x128x8x64 : Shape := ⟨4, ![128, 128, 8, 64]⟩
abbrev S128x128 : Shape := ⟨2, ![128, 128]⟩
abbrev S1x128x128 : Shape := ⟨3, ![1, 128, 128]⟩
abbrev S8x128x64x128 : Shape := ⟨4, ![8, 128, 64, 128]⟩
abbrev S128x8 : Shape := ⟨2, ![128, 8]⟩
abbrev S1x128x8x1 : Shape := ⟨4, ![1, 128, 8, 1]⟩
abbrev S1x1024 : Shape := ⟨2, ![1, 1024]⟩

abbrev nBuf : Space → Nat
  | .hbm => 149
  | .vmem => 0
  | .smem => 0
  | _ => 0

abbrev hbmTy0_0 (i : Nat) : BufTy := match i % 128 with
  | 0 => ⟨S4x16384x128, .f32⟩
  | 1 => ⟨S16384x1024, .bf16⟩
  | 2 => ⟨S16384x1024, .f32⟩
  | 3 => ⟨S512x512, .f32⟩
  | 4 => ⟨S512, .f32⟩
  | 5 => ⟨S512, .f32⟩
  | 6 => ⟨S8x128x128, .f32⟩
  | 7 => ⟨S8x128, .f32⟩
  | 8 => ⟨S1024x1024, .f32⟩
  | 9 => ⟨S1024, .f32⟩
  | 10 => ⟨S1024, .f32⟩
  | 11 => ⟨S16384x4x128, .f32⟩
  | 12 => ⟨S16384x512, .f32⟩
  | 13 => ⟨S16384x512, .f32⟩
  | 14 => ⟨S16384x512, .f32⟩
  | 15 => ⟨S16384x512, .f32⟩
  | 16 => ⟨S_, .f32⟩
  | 17 => ⟨S16384x512, .f32⟩
  | 18 => ⟨S16384x512, .f32⟩
  | 19 => ⟨S_, .f32⟩
  | 20 => ⟨S16384x512, .f32⟩
  | 21 => ⟨S16384x512, .f32⟩
  | 22 => ⟨S16384x512, .f32⟩
  | 23 => ⟨S16384x1024, .f32⟩
  | 24 => ⟨S16384x512, .f32⟩
  | 25 => ⟨S16384x512, .f32⟩
  | 26 => ⟨S16384x512, .f32⟩
  | 27 => ⟨S_, .f32⟩
  | 28 => ⟨S16384x512, .f32⟩
  | 29 => ⟨S16384x512, .f32⟩
  | 30 => ⟨S16384x512, .f32⟩
  | 31 => ⟨S_, .f32⟩
  | 32 => ⟨S16384x512, .f32⟩
  | 33 => ⟨S16384x512, .f32⟩
  | 34 => ⟨S16384x512, .f32⟩
  | 35 => ⟨S_, .f32⟩
  | 36 => ⟨S16384x512, .f32⟩
  | 37 => ⟨S16384x512, .f32⟩
  | 38 => ⟨S_, .f32⟩
  | 39 => ⟨S16384x512, .f32⟩
  | 40 => ⟨S16384x512, .f32⟩
  | 41 => ⟨S16384x512, .f32⟩
  | 42 => ⟨S16384x512, .f32⟩
  | 43 => ⟨S16384x512, .f32⟩
  | 44 => ⟨S16384x512, .f32⟩
  | 45 => ⟨S_, .f32⟩
  | 46 => ⟨S16384x512, .f32⟩
  | 47 => ⟨S16384x512, .f32⟩
  | 48 => ⟨S16384x512, .f32⟩
  | 49 => ⟨S_, .f32⟩
  | 50 => ⟨S16384x512, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S_, .f32⟩
  | 57 => ⟨S16384x512, .f32⟩
  | 58 => ⟨S16384x512, .f32⟩
  | 59 => ⟨S16384x512, .f32⟩
  | 60 => ⟨S_, .f32⟩
  | 61 => ⟨S16384, .f32⟩
  | 62 => ⟨S16384x1, .f32⟩
  | 63 => ⟨S_, .f32⟩
  | 64 => ⟨S16384x1, .f32⟩
  | 65 => ⟨S16384x1, .f32⟩
  | 66 => ⟨S16384x512, .f32⟩
  | 67 => ⟨S16384x512, .f32⟩
  | 68 => ⟨S16384x512, .f32⟩
  | 69 => ⟨S_, .f32⟩
  | 70 => ⟨S16384, .f32⟩
  | 71 => ⟨S16384x1, .f32⟩
  | 72 => ⟨S_, .f32⟩
  | 73 => ⟨S16384x1, .f32⟩
  | 74 => ⟨S16384x1, .f32⟩
  | 75 => ⟨S_, .f32⟩
  | 76 => ⟨S16384x1, .f32⟩
  | 77 => ⟨S16384x1, .f32⟩
  | 78 => ⟨S16384x1, .f32⟩
  | 79 => ⟨S16384x512, .f32⟩
  | 80 => ⟨S16384x512, .f32⟩
  | 81 => ⟨S1x512, .f32⟩
  | 82 => ⟨S16384x512, .f32⟩
  | 83 => ⟨S16384x512, .f32⟩
  | 84 => ⟨S1x512, .f32⟩
  | 85 => ⟨S16384x512, .f32⟩
  | 86 => ⟨S16384x512, .f32⟩
  | 87 => ⟨S128x128x8x64, .f32⟩
  | 88 => ⟨S_, .i1⟩
  | 89 => ⟨S128x128, .i1⟩
  | 90 => ⟨S128x128, .i32⟩
  | 91 => ⟨S_, .i32⟩
  | 92 => ⟨S128x128, .i32⟩
  | 93 => ⟨S128x128, .i32⟩
  | 94 => ⟨S128x128, .i32⟩
  | 95 => ⟨S128x128, .i1⟩
  | 96 => ⟨S_, .i1⟩
  | 97 => ⟨S128x128, .i1⟩
  | 98 => ⟨S128x128, .i1⟩
  | 99 => ⟨S1x128x128, .i1⟩
  | 100 => ⟨S_, .f32⟩
  | 101 => ⟨S_, .f32⟩
  | 102 => ⟨S8x128x128, .i1⟩
  | 103 => ⟨S8x128x128, .f32⟩
  | 104 => ⟨S8x128x128, .f32⟩
  | 105 => ⟨S8x128x64x128, .f32⟩
  | 106 => ⟨S128x128x8x64, .f32⟩
  | 107 => ⟨S128x8, .f32⟩
  | 108 => ⟨S1x128x8x1, .f32⟩
  | 109 => ⟨S128x128x8x64, .f32⟩
  | 110 => ⟨S128x128x8x64, .f32⟩
  | 111 => ⟨S16384x512, .f32⟩
  | 112 => ⟨S16384x512, .f32⟩
  | 113 => ⟨S16384x1024, .f32⟩
  | 114 => ⟨S16384x1024, .f32⟩
  | 115 => ⟨S16384x1024, .f32⟩
  | 116 => ⟨S_, .f32⟩
  | 117 => ⟨S16384, .f32⟩
  | 118 => ⟨S16384x1, .f32⟩
  | 119 => ⟨S_, .f32⟩
  | 120 => ⟨S16384x1, .f32⟩
  | 121 => ⟨S16384x1, .f32⟩
  | 122 => ⟨S_, .f32⟩
  | 123 => ⟨S16384x1, .f32⟩
  | 124 => ⟨S16384x1, .f32⟩
  | 125 => ⟨S16384x1, .f32⟩
  | 126 => ⟨S16384x1024, .f32⟩
  | 127 => ⟨S16384x1024, .f32⟩
  | _ => ⟨S4x16384x128, .f32⟩

abbrev hbmTy0_1 (i : Nat) : BufTy := match i % 128 with
  | 0 => ⟨S1x1024, .f32⟩
  | 1 => ⟨S16384x1024, .f32⟩
  | 2 => ⟨S16384x1024, .f32⟩
  | 3 => ⟨S16384x1024, .f32⟩
  | 4 => ⟨S16384x1024, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S_, .f32⟩
  | 12 => ⟨S16384x1, .f32⟩
  | 13 => ⟨S16384x1, .f32⟩
  | 14 => ⟨S16384x1, .f32⟩
  | 15 => ⟨S16384x1024, .f32⟩
  | 16 => ⟨S16384x1024, .f32⟩
  | 17 => ⟨S1x1024, .f32⟩
  | 18 => ⟨S16384x1024, .f32⟩
  | 19 => ⟨S16384x1024, .f32⟩
  | 20 => ⟨S16384x1024, .bf16⟩
  | _ => ⟨S4x16384x128, .f32⟩

abbrev hbmTy (i : Nat) : BufTy := match i / 128 with
  | 0 => hbmTy0_0 i
  | 1 => hbmTy0_1 i
  | _ => ⟨S4x16384x128, .f32⟩

abbrev bufTy : (tb : Table) → Fin (tcTables nBuf tb) → BufTy
  | .hbm, ⟨i, _⟩ => hbmTy i
  | _, _ => ⟨S4x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_cst_13 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c : Ref sig .tc := ⟨.hbm, 88, rfl⟩
abbrev main_v62 : Ref sig .tc := ⟨.hbm, 89, rfl⟩
abbrev main_call0_v0 : Ref sig .tc := ⟨.hbm, 90, rfl⟩
abbrev main_call0_c : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_c_0 : Ref sig .tc := ⟨.hbm, 96, rfl⟩
abbrev main_call0_v5 : Ref sig .tc := ⟨.hbm, 97, rfl⟩
abbrev main_v63 : Ref sig .tc := ⟨.hbm, 98, rfl⟩
abbrev main_v64 : Ref sig .tc := ⟨.hbm, 99, rfl⟩
abbrev main_cst_14 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_15 : Ref sig .tc := ⟨.hbm, 116, rfl⟩
abbrev main_v77 : Ref sig .tc := ⟨.hbm, 117, rfl⟩
abbrev main_v78 : Ref sig .tc := ⟨.hbm, 118, rfl⟩
abbrev main_cst_16 : Ref sig .tc := ⟨.hbm, 119, rfl⟩
abbrev main_v79 : Ref sig .tc := ⟨.hbm, 120, rfl⟩
abbrev main_v80 : Ref sig .tc := ⟨.hbm, 121, rfl⟩
abbrev main_cst_17 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_18 : Ref sig .tc := ⟨.hbm, 133, rfl⟩
abbrev main_v91 : Ref sig .tc := ⟨.hbm, 134, rfl⟩
abbrev main_v92 : Ref sig .tc := ⟨.hbm, 135, rfl⟩
abbrev main_cst_19 : Ref sig .tc := ⟨.hbm, 136, rfl⟩
abbrev main_v93 : Ref sig .tc := ⟨.hbm, 137, rfl⟩
abbrev main_v94 : Ref sig .tc := ⟨.hbm, 138, rfl⟩
abbrev main_cst_20 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩

abbrev nD : Nat := 1
abbrev τ : Topo := Topo.v7x

variable {F : FTy → Type} [FloatOps F]
-- ==== Kernel5.lean ====
abbrev S16384x1024 : Shape := ⟨2, ![16384, 1024]⟩
abbrev S1024x1440 : Shape := ⟨2, ![1024, 1440]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S1024x32 : Shape := ⟨2, ![1024, 32]⟩
abbrev S1024x16 : Shape := ⟨2, ![1024, 16]⟩
abbrev S_ : Shape := ⟨0, ![]⟩
abbrev S1024x64 : Shape := ⟨2, ![1024, 64]⟩
abbrev S1024x1408 : Shape := ⟨2, ![1024, 1408]⟩
abbrev S1024x1664 : Shape := ⟨2, ![1024, 1664]⟩
abbrev S256x8x96 : Shape := ⟨3, ![256, 8, 96]⟩
abbrev S256x8x32 : Shape := ⟨3, ![256, 8, 32]⟩
abbrev S256x8x128 : Shape := ⟨3, ![256, 8, 128]⟩
abbrev S256x1024 : Shape := ⟨2, ![256, 1024]⟩
abbrev S256x8x64 : Shape := ⟨3, ![256, 8, 64]⟩
abbrev S256x8x16 : Shape := ⟨3, ![256, 8, 16]⟩
abbrev S128x8x128 : Shape := ⟨3, ![128, 8, 128]⟩
abbrev S128x8x64 : Shape := ⟨3, ![128, 8, 64]⟩
abbrev S128x8x16 : Shape := ⟨3, ![128, 8, 16]⟩
abbrev S128x8x80 : Shape := ⟨3, ![128, 8, 80]⟩
abbrev S128x640 : Shape := ⟨2, ![128, 640]⟩
abbrev S640x128 : Shape := ⟨2, ![640, 128]⟩
abbrev S8x80 : Shape := ⟨2, ![8, 80]⟩
abbrev S1 : Shape := ⟨1, ![1]⟩
abbrev S8 : Shape := ⟨1, ![8]⟩
abbrev S640x1 : Shape := ⟨2, ![640, 1]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S1x256 : Shape := ⟨2, ![1, 256]⟩
abbrev S1x128 : Shape := ⟨2, ![1, 128]⟩
abbrev S32x640x512 : Shape := ⟨3, ![32, 640, 512]⟩
abbrev S512x1024 : Shape := ⟨2, ![512, 1024]⟩
abbrev S512x128 : Shape := ⟨2, ![512, 128]⟩
abbrev S1x640x512 : Shape := ⟨3, ![1, 640, 512]⟩
abbrev S512x1664 : Shape := ⟨2, ![512, 1664]⟩
abbrev S512x256 : Shape := ⟨2, ![512, 256]⟩
abbrev S512 : Shape := ⟨1, ![512]⟩
abbrev S512x1 : Shape := ⟨2, ![512, 1]⟩
abbrev S640x512 : Shape := ⟨2, ![640, 512]⟩

abbrev nBuf : Space → Nat
  | .hbm => 92
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S1024x1440, .f32⟩
  | .hbm, ⟨2, _⟩ => ⟨S256, .f32⟩
  | .hbm, ⟨3, _⟩ => ⟨S256x768, .f32⟩
  | .hbm, ⟨4, _⟩ => ⟨S128, .f32⟩
  | .hbm, ⟨5, _⟩ => ⟨S128x1024, .f32⟩
  | .hbm, ⟨6, _⟩ => ⟨S1024x32, .f32⟩
  | .hbm, ⟨7, _⟩ => ⟨S1024x16, .f32⟩
  | .hbm, ⟨8, _⟩ => ⟨S1024x16, .f32⟩
  | .hbm, ⟨9, _⟩ => ⟨S1024x32, .f32⟩
  | .hbm, ⟨10, _⟩ => ⟨S_, .f32⟩
  | .hbm, ⟨11, _⟩ => ⟨S1024x64, .f32⟩
  | .hbm, ⟨12, _⟩ => ⟨S_, .f32⟩
  | .hbm, ⟨13, _⟩ => ⟨S1024x32, .f32⟩
  | .hbm, ⟨14, _⟩ => ⟨S1024x1408, .f32⟩
  | .hbm, ⟨15, _⟩ => ⟨S1024x1664, .f32⟩
  | .hbm, ⟨16, _⟩ => ⟨S256x8x96, .f32⟩
  | .hbm, ⟨17, _⟩ => ⟨S_, .f32⟩
  | .hbm, ⟨18, _⟩ => ⟨S256x8x32, .f32⟩
  | .hbm, ⟨19, _⟩ => ⟨S256x8x128, .f32⟩
  | .hbm, ⟨20, _⟩ => ⟨S256x1024, .f32⟩
  | .hbm, ⟨21, _⟩ => ⟨S256x8x64, .f32⟩
  | .hbm, ⟨22, _⟩ => ⟨S_, .f32⟩
  | .hbm, ⟨23, _⟩ => ⟨S256x8x64, .f32⟩
  | .hbm, ⟨24, _⟩ => ⟨S256x8x16, .f32⟩
  | .hbm, ⟨25, _⟩ => ⟨S256x8x16, .f32⟩
  | .hbm, ⟨26, _⟩ => ⟨S256x8x128, .f32⟩
  | .hbm, ⟨27, _⟩ => ⟨S256x1024, .f32⟩
  | .hbm, ⟨28, _⟩ => ⟨S128x8x128, .f32⟩
  | .hbm, ⟨29, _⟩ => ⟨S_, .f32⟩
  | .hbm, ⟨30, _⟩ => ⟨S128x8x64, .f32⟩
  | .hbm, ⟨31, _⟩ => ⟨S128x8x64, .f32⟩
  | .hbm, ⟨32, _⟩ => ⟨S128x8x128, .f32⟩
  | .hbm, ⟨33, _⟩ => ⟨S128x1024, .f32⟩
  | .hbm, ⟨34, _⟩ => ⟨S_, .f32⟩
  | .hbm, ⟨35, _⟩ => ⟨S128x8x16, .f32⟩
  | .hbm, ⟨36, _⟩ => ⟨S128x8x64, .f32⟩
  | .hbm, ⟨37, _⟩ => ⟨S128x8x80, .f32⟩
  | .hbm, ⟨38, _⟩ => ⟨S128x640, .f32⟩
  | .hbm, ⟨39, _⟩ => ⟨S640x128, .f32⟩
  | .hbm, ⟨40, _⟩ => ⟨S_, .f32⟩
  | .hbm, ⟨41, _⟩ => ⟨S8x80, .f32⟩
  | .hbm, ⟨42, _⟩ => ⟨S_, .i32⟩
  | .hbm, ⟨43, _⟩ => ⟨S1, .i32⟩
  | .hbm, ⟨44, _⟩ => ⟨S_, .f32⟩
  | .hbm, ⟨45, _⟩ => ⟨S8, .f32⟩
  | .hbm, ⟨46, _⟩ => ⟨S8x80, .f32⟩
  | .hbm, ⟨47, _⟩ => ⟨S640x1, .f32⟩
  | .hbm, ⟨48, _⟩ => ⟨S1024x1664, .bf16⟩
  | .hbm, ⟨49, _⟩ => ⟨S256x1024, .bf16⟩
  | .hbm, ⟨50, _⟩ => ⟨S256x1024, .bf16⟩
  | .hbm, ⟨51, _⟩ => ⟨S128x1024, .bf16⟩
  | .hbm, ⟨52, _⟩ => ⟨S640x128, .bf16⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S4096, .f32⟩
  | .hbm, ⟨70, _⟩ => ⟨S4096x1, .f32⟩
  | .hbm, ⟨71, _⟩ => ⟨S1x16, .f32⟩
  | .hbm, ⟨72, _⟩ => ⟨S4096x16, .f32⟩
  | .hbm, ⟨73, _⟩ => ⟨S4096x16, .f32⟩
  | .hbm, ⟨74, _⟩ => ⟨S4096x16, .f32⟩
  | .hbm, ⟨75, _⟩ => ⟨S4096x16, .f32⟩
  | .hbm, ⟨76, _⟩ => ⟨S4096x16, .f32⟩
  | .hbm, ⟨77, _⟩ => ⟨S_, .f32⟩
  | .hbm, ⟨78, _⟩ => ⟨S4096x64, .f32⟩
  | .hbm, ⟨79, _⟩ => ⟨S_, .f32⟩
  | .hbm, ⟨80, _⟩ => ⟨S4096x64, .f32⟩
  | .hbm, ⟨81, _⟩ => ⟨S_, .f32⟩
  | .hbm, ⟨82, _⟩ => ⟨S4096x32, .f32⟩
  | .hbm, ⟨83, _⟩ => ⟨S4096x128, .f32⟩
  | .hbm, ⟨84, _⟩ => ⟨S4096x16, .f32⟩
  | .hbm, ⟨85, _⟩ => ⟨S4096x128, .f32⟩
  | .hbm, ⟨86, _⟩ => ⟨S1x256, .f32⟩
  | .hbm, ⟨87, _⟩ => ⟨S1x128, .f32⟩
  | .hbm, ⟨88, _⟩ => ⟨S16384x1024, .bf16⟩
  | .hbm, ⟨89, _⟩ => ⟨S16384x1024, .bf16⟩
  | .hbm, ⟨90, _⟩ => ⟨S16384x1024, .bf16⟩
  | .hbm, ⟨91, _⟩ => ⟨S32x640x512, .bf16⟩
  | .local _ .vmem, ⟨0, _⟩ => ⟨S512x1024, .bf16⟩
  | .local _ .vmem, ⟨1, _⟩ => ⟨S512x1024, .bf16⟩
  | .local _ .vmem, ⟨2, _⟩ => ⟨S1024x1664, .bf16⟩
  | .local _ .vmem, ⟨3, _⟩ => ⟨S1x256, .f32⟩
  | .local _ .vmem, ⟨4, _⟩ => ⟨S1x128, .f32⟩
  | .local _ .vmem, ⟨5, _⟩ => ⟨S256x1024, .bf16⟩
  | .local _ .vmem, ⟨6, _⟩ => ⟨S256x1024, .bf16⟩
  | .local _ .vmem, ⟨7, _⟩ => ⟨S128x1024, .bf16⟩
  | .local _ .vmem, ⟨8, _⟩ => ⟨S640x128, .bf16⟩
  | .local _ .vmem, ⟨9, _⟩ => ⟨S640x1, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x640x512, .bf16⟩
  | .local _ .vmem, ⟨21, _⟩ => ⟨S1x640x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65_0 : Ref sig .tc := ⟨.hbm, 88, rfl⟩
abbrev main_v65_1 : Ref sig .tc := ⟨.hbm, 89, rfl⟩
abbrev main_v65_2 : Ref sig .tc := ⟨.hbm, 90, rfl⟩
abbrev main_v65_3 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S640x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S640x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x640x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S16384x1024 : Shape := ⟨2, ![16384, 1024]⟩
abbrev S1024x1440 : Shape := ⟨2, ![1024, 1440]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S16384x1440 : Shape := ⟨2, ![16384, 1440]⟩
abbrev S4x4096x1440 : Shape := ⟨3, ![4, 4096, 1440]⟩
abbrev S4x4096x1024 : Shape := ⟨3, ![4, 4096, 1024]⟩
abbrev S4x4096x256 : Shape := ⟨3, ![4, 4096, 256]⟩
abbrev S4x4096 : Shape := ⟨2, ![4, 4096]⟩
abbrev S4x4096x1 : Shape := ⟨3, ![4, 4096, 1]⟩
abbrev S1x1x256 : Shape := ⟨3, ![1, 1, 256]⟩
abbrev S4x4096x768 : Shape := ⟨3, ![4, 4096, 768]⟩
abbrev S4x4096x8x96 : Shape := ⟨4, ![4, 4096, 8, 96]⟩
abbrev S4x4096x8x64 : Shape := ⟨4, ![4, 4096, 8, 64]⟩
abbrev S4x4096x8x32 : Shape := ⟨4, ![4, 4096, 8, 32]⟩
abbrev S4x4096x8x16 : Shape := ⟨4, ![4, 4096, 8, 16]⟩
abbrev S4x4096x128 : Shape := ⟨3, ![4, 4096, 128]⟩
abbrev S1x1x128 : Shape := ⟨3, ![1, 1, 128]⟩
abbrev S4x4096x8x128 : Shape := ⟨4, ![4, 4096, 8, 128]⟩
abbrev S4x4096x32 : Shape := ⟨3, ![4, 4096, 32]⟩
abbrev S4x4096x1x32 : Shape := ⟨4, ![4, 4096, 1, 32]⟩
abbrev S4x4096x1x16 : Shape := ⟨4, ![4, 4096, 1, 16]⟩
abbrev S4x4096x8x1 : Shape := ⟨4, ![4, 4096, 8, 1]⟩
abbrev S4x4096x8x15 : Shape := ⟨4, ![4, 4096, 8, 15]⟩
abbrev S4x4096x8x80 : Shape := ⟨4, ![4, 4096, 8, 80]⟩
abbrev S32x512x640 : Shape := ⟨3, ![32, 512, 640]⟩
abbrev S32x640x512 : Shape := ⟨3, ![32, 640, 512]⟩

abbrev nBuf : Space → Nat
  | .hbm => 130
  | .vmem => 0
  | .smem => 0
  | _ => 0

abbrev hbmTy0_0 (i : Nat) : BufTy := match i % 128 with
  | 0 => ⟨S16384x1024, .bf16⟩
  | 1 => ⟨S1024x1440, .f32⟩
  | 2 => ⟨S256, .f32⟩
  | 3 => ⟨S256x768, .f32⟩
  | 4 => ⟨S128, .f32⟩
  | 5 => ⟨S128x1024, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S4096, .f32⟩
  | 23 => ⟨S4096x1, .f32⟩
  | 24 => ⟨S1x16, .f32⟩
  | 25 => ⟨S4096x16, .f32⟩
  | 26 => ⟨S4096x16, .f32⟩
  | 27 => ⟨S4096x16, .f32⟩
  | 28 => ⟨S4096x16, .f32⟩
  | 29 => ⟨S1x4096x1x16, .f32⟩
  | 30 => ⟨S4096x16, .f32⟩
  | 31 => ⟨S1x4096x1x16, .f32⟩
  | 32 => ⟨S16384x1024, .f32⟩
  | 33 => ⟨S16384x1440, .f32⟩
  | 34 => ⟨S4x4096x1440, .f32⟩
  | 35 => ⟨S4x4096x1024, .f32⟩
  | 36 => ⟨S16384x1024, .f32⟩
  | 37 => ⟨S4x4096x256, .f32⟩
  | 38 => ⟨S4x4096x256, .f32⟩
  | 39 => ⟨S_, .f32⟩
  | 40 => ⟨S4x4096, .f32⟩
  | 41 => ⟨S4x4096x1, .f32⟩
  | 42 => ⟨S_, .f32⟩
  | 43 => ⟨S4x4096x1, .f32⟩
  | 44 => ⟨S4x4096x1, .f32⟩
  | 45 => ⟨S_, .f32⟩
  | 46 => ⟨S4x4096x1, .f32⟩
  | 47 => ⟨S4x4096x1, .f32⟩
  | 48 => ⟨S4x4096x1, .f32⟩
  | 49 => ⟨S4x4096x256, .f32⟩
  | 50 => ⟨S4x4096x256, .f32⟩
  | 51 => ⟨S1x1x256, .f32⟩
  | 52 => ⟨S4x4096x256, .f32⟩
  | 53 => ⟨S4x4096x256, .f32⟩
  | 54 => ⟨S4x4096x768, .f32⟩
  | 55 => ⟨S4x4096x8x96, .f32⟩
  | 56 => ⟨S4x4096x8x64, .f32⟩
  | 57 => ⟨S4x4096x8x32, .f32⟩
  | 58 => ⟨S4x4096x8x16, .f32⟩
  | 59 => ⟨S4x4096x8x16, .f32⟩
  | 60 => ⟨S4x4096x8x16, .f32⟩
  | 61 => ⟨S4x4096x8x16, .f32⟩
  | 62 => ⟨S4x4096x8x16, .f32⟩
  | 63 => ⟨S4x4096x8x16, .f32⟩
  | 64 => ⟨S4x4096x8x16, .f32⟩
  | 65 => ⟨S4x4096x8x16, .f32⟩
  | 66 => ⟨S4x4096x8x16, .f32⟩
  | 67 => ⟨S4x4096x8x16, .f32⟩
  | 68 => ⟨S4x4096x8x16, .f32⟩
  | 69 => ⟨S4x4096x8x16, .f32⟩
  | 70 => ⟨S4x4096x8x32, .f32⟩
  | 71 => ⟨S4x4096x8x96, .f32⟩
  | 72 => ⟨S_, .f32⟩
  | 73 => ⟨S4x4096x8x96, .f32⟩
  | 74 => ⟨S4x4096x8x96, .f32⟩
  | 75 => ⟨S4x4096x128, .f32⟩
  | 76 => ⟨S4x4096x128, .f32⟩
  | 77 => ⟨S_, .f32⟩
  | 78 => ⟨S4x4096, .f32⟩
  | 79 => ⟨S4x4096x1, .f32⟩
  | 80 => ⟨S_, .f32⟩
  | 81 => ⟨S4x4096x1, .f32⟩
  | 82 => ⟨S4x4096x1, .f32⟩
  | 83 => ⟨S_, .f32⟩
  | 84 => ⟨S4x4096x1, .f32⟩
  | 85 => ⟨S4x4096x1, .f32⟩
  | 86 => ⟨S4x4096x1, .f32⟩
  | 87 => ⟨S4x4096x128, .f32⟩
  | 88 => ⟨S4x4096x128, .f32⟩
  | 89 => ⟨S1x1x128, .f32⟩
  | 90 => ⟨S4x4096x128, .f32⟩
  | 91 => ⟨S4x4096x128, .f32⟩
  | 92 => ⟨S4x4096x1024, .f32⟩
  | 93 => ⟨S4x4096x8x128, .f32⟩
  | 94 => ⟨S4x4096x32, .f32⟩
  | 95 => ⟨S4x4096x1x32, .f32⟩
  | 96 => ⟨S4x4096x1x16, .f32⟩
  | 97 => ⟨S4x4096x1x16, .f32⟩
  | 98 => ⟨S4x4096x1x16, .f32⟩
  | 99 => ⟨S4x4096x1x16, .f32⟩
  | 100 => ⟨S4x4096x1x16, .f32⟩
  | 101 => ⟨S4x4096x1x16, .f32⟩
  | 102 => ⟨S4x4096x1x16, .f32⟩
  | 103 => ⟨S4x4096x1x16, .f32⟩
  | 104 => ⟨S4x4096x1x16, .f32⟩
  | 105 => ⟨S4x4096x1x16, .f32⟩
  | 106 => ⟨S4x4096x1x16, .f32⟩
  | 107 => ⟨S4x4096x1x16, .f32⟩
  | 108 => ⟨S4x4096x1x32, .f32⟩
  | 109 => ⟨S4x4096x8x32, .f32⟩
  | 110 => ⟨S4x4096x8x64, .f32⟩
  | 111 => ⟨S4x4096x8x96, .f32⟩
  | 112 => ⟨S_, .f32⟩
  | 113 => ⟨S4x4096x8x32, .f32⟩
  | 114 => ⟨S4x4096x8x128, .f32⟩
  | 115 => ⟨S16384x1024, .f32⟩
  | 116 => ⟨S4x4096x8x128, .f32⟩
  | 117 => ⟨S16384x1024, .f32⟩
  | 118 => ⟨S_, .f32⟩
  | 119 => ⟨S4x4096x8x1, .f32⟩
  | 120 => ⟨S_, .f32⟩
  | 121 => ⟨S4x4096x8x15, .f32⟩
  | 122 => ⟨S4x4096x8x64, .f32⟩
  | 123 => ⟨S4x4096x8x80, .f32⟩
  | 124 => ⟨S32x512x640, .f32⟩
  | 125 => ⟨S32x640x512, .f32⟩
  | 126 => ⟨S16384x1024, .bf16⟩
  | 127 => ⟨S16384x1024, .bf16⟩
  | _ => ⟨S16384x1024, .bf16⟩

abbrev hbmTy0_1 (i : Nat) : BufTy := match i % 128 with
  | 0 => ⟨S16384x1024, .bf16⟩
  | 1 => ⟨S32x640x512, .bf16⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_11 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_cst_12 : Ref sig .tc := ⟨.hbm, 118, rfl⟩
abbrev main_v99 : Ref sig .tc := ⟨.hbm, 119, rfl⟩
abbrev main_cst_13 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩

abbrev nD : Nat := 1
abbrev τ : Topo := Topo.v7x

variable {F : FTy → Type} [FloatOps F]
-- ==== Kernel6.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 5
  | .vmem => 12
  | .smem => 2
  | _ => 0

abbrev bufTy : (tb : Table) → Fin (tcTables nBuf tb) → BufTy
  | .hbm, ⟨0, _⟩ => ⟨S40960x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | .local _ .smem, ⟨0, _⟩ => ⟨S40, .i32⟩
  | .local _ .smem, ⟨1, _⟩ => ⟨S1, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c6_i32 : BitVec 32 := 6#32
  let v7 : BitVec 1 := Scalar.cmpi .eq arg1 c6_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S8x3584x40960 : Shape := ⟨3, ![8, 3584, 40960]⟩
abbrev S8x40960x3584 : Shape := ⟨3, ![8, 40960, 3584]⟩
abbrev S_ : Shape := ⟨0, ![]⟩
abbrev S8x40960x1024 : Shape := ⟨3, ![8, 40960, 1024]⟩
abbrev S1x40 : Shape := ⟨2, ![1, 40]⟩
abbrev S8 : Shape := ⟨1, ![8]⟩
abbrev S8x1 : Shape := ⟨2, ![8, 1]⟩
abbrev S8x40 : Shape := ⟨2, ![8, 40]⟩
abbrev S8x40x1 : Shape := ⟨3, ![8, 40, 1]⟩
abbrev S8x40x1024 : Shape := ⟨3, ![8, 40, 1024]⟩
abbrev S8x40960 : Shape := ⟨2, ![8, 40960]⟩
abbrev S8x40960x1 : Shape := ⟨3, ![8, 40960, 1]⟩

abbrev nBuf : Space → Nat
  | .hbm => 45
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S40960x1024, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S8x3584x40960, .f32⟩
  | .hbm, ⟨7, _⟩ => ⟨S8x40960x3584, .f32⟩
  | .hbm, ⟨8, _⟩ => ⟨S8x40960x3584, .f32⟩
  | .hbm, ⟨9, _⟩ => ⟨S8x40960x3584, .f32⟩
  | .hbm, ⟨10, _⟩ => ⟨S_, .f32⟩
  | .hbm, ⟨11, _⟩ => ⟨S8x40960x3584, .f32⟩
  | .hbm, ⟨12, _⟩ => ⟨S8x40960x3584, .f32⟩
  | .hbm, ⟨13, _⟩ => ⟨S_, .f32⟩
  | .hbm, ⟨14, _⟩ => ⟨S8x40960x3584, .f32⟩
  | .hbm, ⟨15, _⟩ => ⟨S8x40960x3584, .f32⟩
  | .hbm, ⟨16, _⟩ => ⟨S8x40960x3584, .f32⟩
  | .hbm, ⟨17, _⟩ => ⟨S8x3584x40960, .f32⟩
  | .hbm, ⟨18, _⟩ => ⟨S8x40960x3584, .f32⟩
  | .hbm, ⟨19, _⟩ => ⟨S8x40960x3584, .f32⟩
  | .hbm, ⟨20, _⟩ => ⟨S8x40960x1024, .f32⟩
  | .hbm, ⟨21, _⟩ => ⟨S1x40, .i32⟩
  | .hbm, ⟨22, _⟩ => ⟨S8, .i32⟩
  | .hbm, ⟨23, _⟩ => ⟨S8x1, .i32⟩
  | .hbm, ⟨24, _⟩ => ⟨S8x40, .i32⟩
  | .hbm, ⟨25, _⟩ => ⟨S8x40, .i32⟩
  | .hbm, ⟨26, _⟩ => ⟨S8x40, .i1⟩
  | .hbm, ⟨27, _⟩ => ⟨S40, .i32⟩
  | .hbm, ⟨28, _⟩ => ⟨S_, .i32⟩
  | .hbm, ⟨29, _⟩ => ⟨S40, .i32⟩
  | .hbm, ⟨30, _⟩ => ⟨S40, .i1⟩
  | .hbm, ⟨31, _⟩ => ⟨S1x40, .i1⟩
  | .hbm, ⟨32, _⟩ => ⟨S8x40, .i1⟩
  | .hbm, ⟨33, _⟩ => ⟨S8x40, .i1⟩
  | .hbm, ⟨34, _⟩ => ⟨S8x40x1, .i1⟩
  | .hbm, ⟨35, _⟩ => ⟨S8x40x1024, .i1⟩
  | .hbm, ⟨36, _⟩ => ⟨S8x40960, .i1⟩
  | .hbm, ⟨37, _⟩ => ⟨S8x40960x1, .i1⟩
  | .hbm, ⟨38, _⟩ => ⟨S_, .f32⟩
  | .hbm, ⟨39, _⟩ => ⟨S_, .f32⟩
  | .hbm, ⟨40, _⟩ => ⟨S8x40960x1024, .i1⟩
  | .hbm, ⟨41, _⟩ => ⟨S8x40960x1024, .f32⟩
  | .hbm, ⟨42, _⟩ => ⟨S8x40960x1024, .f32⟩
  | .hbm, ⟨43, _⟩ => ⟨S_, .f32⟩
  | .hbm, ⟨44, _⟩ => ⟨S40960x1024, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v24 : Ref sig .tc := ⟨.hbm, 42, rfl⟩
abbrev main_cst_0 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Proof.Expert.lean ====
module

public import proofs.«01_k».proof.Proof.Gen.Kernel6Ideal.Frame
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel6Ideal.Expert

open Cert.Kernel6Ideal Cert.Kernel6Ideal.Gen

/-- One unit of the hidden layer: silu of the gate times the up projection. -/
def act (a b : EReal) : EReal := a * Ideal.div 1 (1 + Ideal.exp (-a)) * b

/-- What one tile of hidden units adds to the block's sum. -/
def tile (x : Fin 1024 → Fin 1024 → EReal) (wg wu : FVec Ideal S1x1024x512 .f32) (wd : FVec Ideal S1x512x1024 .f32) (r l : Fin 1024) : EReal :=
  ∑ k : Fin 512, act (∑ d : Fin 1024, x r d * wg (ix3 0 d k)) (∑ d : Fin 1024, x r d * wu (ix3 0 d k)) * wd (ix3 0 k l)

theorem pay1_at (x : FVec Ideal S1024x1024 .f32) (r l : Fin 1024) : k0_pay1 (F := Ideal) x (ix2 r l) = x (ix2 r l) := by pointwise [k0_pay1]

theorem pay2_at (r l : Fin 1024) : k0_pay2 (F := Ideal) (ix2 r l) = 0 := by pointwise [k0_pay2]

theorem pay3_at (x : FVec Ideal S1024x1024 .bf16) (wg wu : FVec Ideal S1x1024x512 .f32) (acc : FVec Ideal S1024x1024 .f32)
    (wd : FVec Ideal S1x512x1024 .f32) (r l : Fin 1024) :
    k0_pay3 (F := Ideal) x wg wu acc wd (ix2 r l) = acc (ix2 r l) + tile (fun r d => x (ix2 r d)) wg wu wd r l := by
  pointwise [k0_pay3, act, tile]
  rfl

variable (m : (ℓ : Loc nD τ sig) → Buf (Elt Ideal) ℓ) (hO : Ok m)

/-- Whether the tile of a point is one of those in use. -/
abbrev used (t : Fin (cfgM m hO).N) : Prop :=
  cond0_1 (grid0.coords t) (tbM0_1.view.readAt (Elt Ideal) (Rect.unit (s := S1) ![0] S1.size inb_S1_S1_0).toLoadRect (tbl m 1) (Shape.Idx.first (numel1_S1.symm ▸ Nat.one_pos)))

theorem coord : ∀ t : Fin grid0.N, ((grid0.coords t) 0).val = t.val / 7 ∧ ((grid0.coords t) 1).val = t.val % 7 := by decide +kernel

variable {m}

theorem tab0 (pf : pre0.Contents (Elt Ideal)) (i : grid0.Coords) :
    pf.at 0 (Rect.unit (s := S40) ![(Scalar.indexCast (BitVec.ofNat 32 (i 0).val)).toNat] S1.size (k0_off1_inb i)) numel1_S1 = pf 0 (ix1 (i 0)) := by
  have h : (i 0).val < 40 := (i 0).isLt
  have h' : (BitVec.ofNat 32 (i 0).val).toNat = (i 0).val := by rw [BitVec.toNat_ofNat]; omega
  refine congrArg (pf 0) (funext fun a => Fin.ext ?_)
  fin_cases a
  exact h'

theorem tab1 (pf : pre0.Contents (Elt Ideal)) :
    pf.at 1 (Rect.unit (s := S1) ![0] S1.size inb_S1_S1_0) numel1_S1 = pf 1 (ix1 0) := by
  refine congrArg (pf 1) (funext fun a => Fin.ext ?_)
  fin_cases a
  rfl

/-- Whether a tile is in use, of the number of those in use. -/
abbrev below (n : ℕ) (v : BitVec 32) : Prop := Scalar.cmpi .slt (BitVec.ofNat 32 n) v = 1#1

theorem idx_w (pf : pre0.Contents (Elt Ideal)) (i : grid0.Coords) (hu : below (i 0).val (pf 1 (ix1 0))) :
    cc0_transform_1 k0_off1_inb numel1_S1 inb_S1_S1_0 pf i = ![(pf 0 (ix1 (i 0))).toNat, 0, (i 1).val]
    ∧ cc0_transform_2 k0_off1_inb numel1_S1 inb_S1_S1_0 pf i = ![(pf 0 (ix1 (i 0))).toNat, 0, (i 1).val]
    ∧ cc0_transform_3 k0_off1_inb numel1_S1 inb_S1_S1_0 pf i = ![(pf 0 (ix1 (i 0))).toNat, (i 1).val, 0] := by
  have h1 : (i 1).val < 7 := (i 1).isLt
  have h2 : (BitVec.ofNat 32 (i 1).val).toNat = (i 1).val := by rw [BitVec.toNat_ofNat]; omega
  unfold cc0_transform_1 cc0_transform_2 cc0_transform_3
  dsimp only
  rw [tab0, tab1, hu]
  refine ⟨?_, ?_, ?_⟩ <;> funext a <;> fin_cases a <;> first | rfl | exact h2

theorem bit {b : BitVec 1} : Scalar.cmpi .ne (Scalar.extui b : BitVec 32) 0#32 = 1#1 ↔ b = 1#1 := by
  revert b; decide

theorem used_iff (t : Fin (cfgM m hO).N) : used m hO t ↔ below (t.val / 7) (tbl m 1 (ix1 0)) := by
  refine Iff.trans (bit (b := Scalar.cmpi .slt (BitVec.ofNat 32 ((grid0.coords t) 0).val) _)) ?_
  rw [(coord t).1]
  exact (congrArg (fun v => below (t.val / 7) v) (tab1 (tbl m))).to_iff

theorem idx_blk (t : Fin (cfgM m hO).N) (hu : used m hO t) (n : Fin 40) (hn : n.val = t.val / 7) :
    (pcfg0.win (adm m hO) 1).index t = ![(tbl m 0 (ix1 n)).toNat, 0, t.val % 7]
    ∧ (pcfg0.win (adm m hO) 2).index t = ![(tbl m 0 (ix1 n)).toNat, 0, t.val % 7]
    ∧ (pcfg0.win (adm m hO) 3).index t = ![(tbl m 0 (ix1 n)).toNat, t.val % 7, 0] := by
  have h0 := (coord t).1
  have h1 := (coord t).2
  have e := idx_w (tbl m) (grid0.coords t) (by rw [h0]; exact (used_iff hO t).1 hu)
  rw [h1, show (grid0.coords t) 0 = n from Fin.ext (h0.trans hn.symm)] at e
  exact e

theorem idx_row (t : Fin (cfgM m hO).N) : (pcfg0.win (adm m hO) 0).index t = ![t.val / 7, 0] ∧ (pcfg0.win (adm m hO) 4).index t = ![t.val / 7, 0] :=
  (by decide +kernel : ∀ t : Fin grid0.N, cc0_transform_0 (grid0.coords t) = ![t.val / 7, 0] ∧ cc0_transform_4 (grid0.coords t) = ![t.val / 7, 0]) t

variable (m)

theorem cell {n k y q a : ℕ} (h : n = a) (hq : q = a * k + y) : n * k + y = q := by rw [h, hq]

theorem x_at (c : Dev nD) (t : Fin (cfgM m hO).N) (r d : Fin 1024) (q : Fin 40960) (hq : q.val = t.val / 7 * 1024 + r.val) :
    (show FVec Ideal S1024x1024 .f32 from iblk m hO c 0 t) (ix2 r d) = m ((c : Thread nD τ).loc main_arg2) (ix2 q d) := by
  have e := (idx_row hO t).1
  blk_point [iblk, V]
  · exact cell (congrFun e 0) hq
  · exact cell (a := 0) (congrFun e 1) (by omega)

theorem wg_at (c : Dev nD) (t : Fin (cfgM m hO).N) (hu : used m hO t) (d : Fin 1024) (k : Fin 512) (e : Fin 8) (q : Fin 3584) (n : Fin 40)
    (hn : n.val = t.val / 7) (he : e.val = (tbl m 0 (ix1 n)).toNat) (hq : q.val = t.val % 7 * 512 + k.val) :
    (show FVec Ideal S1x1024x512 .f32 from iblk m hO c 1 t) (ix3 0 d k) = m ((c : Thread nD τ).loc main_arg3) (ix3 e d q) := by
  have e' := (idx_blk hO t hu n hn).1
  blk_point [iblk, V]
  · exact (congrFun e' 0).trans he.symm
  · exact cell (a := 0) (congrFun e' 1) (by omega)
  · exact cell (congrFun e' 2) hq

theorem wu_at (c : Dev nD) (t : Fin (cfgM m hO).N) (hu : used m hO t) (d : Fin 1024) (k : Fin 512) (e : Fin 8) (q : Fin 3584) (n : Fin 40)
    (hn : n.val = t.val / 7) (he : e.val = (tbl m 0 (ix1 n)).toNat) (hq : q.val = t.val % 7 * 512 + k.val) :
    (show FVec Ideal S1x1024x512 .f32 from iblk m hO c 2 t) (ix3 0 d k) = m ((c : Thread nD τ).loc main_arg4) (ix3 e d q) := by
  have e' := (idx_blk hO t hu n hn).2.1
  blk_point [iblk, V]
  · exact (congrFun e' 0).trans he.symm
  · exact cell (a := 0) (congrFun e' 1) (by omega)
  · exact cell (congrFun e' 2) hq

theorem wd_at (c : Dev nD) (t : Fin (cfgM m hO).N) (hu : used m hO t) (k : Fin 512) (l : Fin 1024) (e : Fin 8) (q : Fin 3584) (n : Fin 40)
    (hn : n.val = t.val / 7) (he : e.val = (tbl m 0 (ix1 n)).toNat) (hq : q.val = t.val % 7 * 512 + k.val) :
    (show FVec Ideal S1x512x1024 .f32 from iblk m hO c 3 t) (ix3 0 k l) = m ((c : Thread nD τ).loc main_arg5) (ix3 e q l) := by
  have e' := (idx_blk hO t hu n hn).2.2
  blk_point [iblk, V]
  · exact (congrFun e' 0).trans he.symm
  · exact cell (congrFun e' 1) hq
  · exact cell (a := 0) (congrFun e' 2) (by omega)

theorem pay3_congr {x x' : FVec Ideal S1024x1024 .bf16} {wg wg' wu wu' : FVec Ideal S1x1024x512 .f32} {acc acc' : FVec Ideal S1024x1024 .f32}
    {wd wd' : FVec Ideal S1x512x1024 .f32} (h0 : x = x') (h1 : wg = wg') (h2 : wu = wu') (h3 : acc = acc') (h4 : wd = wd') :
    k0_pay3 (F := Ideal) x wg wu acc wd = k0_pay3 (F := Ideal) x' wg' wu' acc' wd' := by
  rw [h0, h1, h2, h3, h4]

theorem pay3_vec (x : FVec Ideal S1024x1024 .bf16) (wg wu : FVec Ideal S1x1024x512 .f32) (acc acc' : FVec Ideal S1024x1024 .f32)
    (wd : FVec Ideal S1x512x1024 .f32) (h : acc' = k0_pay3 (F := Ideal) x wg wu acc wd) (r l : Fin 1024) :
    acc' (ix2 r l) = acc (ix2 r l) + tile (fun r d => x (ix2 r d)) wg wu wd r l := by
  rw [h, pay3_at]

theorem first_x (c : Dev nD) (t : Fin (cfgM m hO).N) (h : t.val % 7 = 0) :
    (outsAt0 m hO c t.val t.isLt).2.1 = k0_pay1 (F := Ideal) (iblk m hO c 0 t) := by
  by_cases hu : used m hO t
  · rw [outsAt0_A m hO c t h hu (by omega)]
    frame_out
    exact congrArg (k0_pay1 (F := Ideal)) (Memref.IsWhole.read_unread _ _)
  · rw [outsAt0_B m hO c t h hu (by omega)]
    frame_out
    exact congrArg (k0_pay1 (F := Ideal)) (Memref.IsWhole.read_unread _ _)

theorem next_x (c : Dev nD) (t : Fin (cfgM m hO).N) (h : ¬t.val % 7 = 0) :
    (outsAt0 m hO c t.val t.isLt).2.1 = (outsAt0 m hO c (t.val - 1) (Nat.lt_of_le_of_lt (Nat.sub_le _ _) t.isLt)).2.1 := by
  by_cases hu : used m hO t
  · by_cases h' : t.val % 7 = 6
    · rw [outsAt0_E m hO c t h hu h']; rfl
    · rw [outsAt0_C m hO c t h hu h']; rfl
  · by_cases h' : t.val % 7 = 6
    · rw [outsAt0_F m hO c t h hu h']; rfl
    · rw [outsAt0_D m hO c t h hu h']; rfl

theorem first_used (c : Dev nD) (t : Fin (cfgM m hO).N) (h : t.val % 7 = 0) (hu : used m hO t) :
    (outsAt0 m hO c t.val t.isLt).2.2 = k0_pay3 (F := Ideal) (k0_pay1 (F := Ideal) (iblk m hO c 0 t)) (iblk m hO c 1 t) (iblk m hO c 2 t)
      (k0_pay2 (F := Ideal)) (iblk m hO c 3 t) := by
  rw [outsAt0_A m hO c t h hu (by omega)]
  frame_out
  exact pay3_congr (congrArg (k0_pay1 (F := Ideal)) (Memref.IsWhole.read_unread _ _)) (Memref.IsWhole.read_unread _ _)
    (Memref.IsWhole.read_unread _ _) rfl (Memref.IsWhole.read_unread _ _)

theorem first_unused (c : Dev nD) (t : Fin (cfgM m hO).N) (h : t.val % 7 = 0) (hu : ¬used m hO t) :
    (outsAt0 m hO c t.val t.isLt).2.2 = k0_pay2 (F := Ideal) := by
  rw [outsAt0_B m hO c t h hu (by omega)]
  frame_out

theorem next_used (c : Dev nD) (t : Fin (cfgM m hO).N) (h : ¬t.val % 7 = 0) (hu : used m hO t) :
    (outsAt0 m hO c t.val t.isLt).2.2 = k0_pay3 (F := Ideal) (outsAt0 m hO c (t.val - 1) (Nat.lt_of_le_of_lt (Nat.sub_le _ _) t.isLt)).2.1
      (iblk m hO c 1 t) (iblk m hO c 2 t) (outsAt0 m hO c (t.val - 1) (Nat.lt_of_le_of_lt (Nat.sub_le _ _) t.isLt)).2.2 (iblk m hO c 3 t) := by
  by_cases h' : t.val % 7 = 6
  · rw [outsAt0_E m hO c t h hu h']
    frame_out
    rw [read_unread_whole, read_unread_whole]
    exact pay3_congr rfl (Memref.IsWhole.read_unread _ _) (Memref.IsWhole.read_unread _ _) rfl (Memref.IsWhole.read_unread _ _)
  · rw [outsAt0_C m hO c t h hu h']
    frame_out
    rw [read_unread_whole, read_unread_whole]
    exact pay3_congr rfl (Memref.IsWhole.read_unread _ _) (Memref.IsWhole.read_unread _ _) rfl (Memref.IsWhole.read_unread _ _)

theorem next_unused (c : Dev nD) (t : Fin (cfgM m hO).N) (h : ¬t.val % 7 = 0) (hu : ¬used m hO t) :
    (outsAt0 m hO c t.val t.isLt).2.2 = (outsAt0 m hO c (t.val - 1) (Nat.lt_of_le_of_lt (Nat.sub_le _ _) t.isLt)).2.2 := by
  by_cases h' : t.val % 7 = 6
  · rw [outsAt0_F m hO c t h hu h']; rfl
  · rw [outsAt0_D m hO c t h hu h']; rfl

theorem last_y (c : Dev nD) (t : Fin (cfgM m hO).N) (h : t.val % 7 = 6) :
    (outsAt0 m hO c t.val t.isLt).1 = (outsAt0 m hO c t.val t.isLt).2.2 := by
  by_cases hu : used m hO t
  · rw [outsAt0_E m hO c t (by omega) hu h]
    frame_out
  · rw [next_unused m hO c t (by omega) hu, outsAt0_F m hO c t (by omega) hu h]
    frame_out
    rw [read_unread_whole]

/-- What a point adds to its block's sum: a tile of hidden units, if the block is in use. -/
def part (c : Dev nD) (t : Fin (cfgM m hO).N) (r l : Fin 1024) : EReal :=
  if used m hO t then tile (fun r d => (show FVec Ideal S1024x1024 .bf16 from (outsAt0 m hO c t.val t.isLt).2.1) (ix2 r d))
    (iblk m hO c 1 t) (iblk m hO c 2 t) (iblk m hO c 3 t) r l else 0

theorem step_first (c : Dev nD) (t : Fin (cfgM m hO).N) (h : t.val % 7 = 0) (j : S1024x1024.Idx) :
    (outsAt0 m hO c t.val t.isLt).2.2 j = 0 + part m hO c t (j 0) (j 1) := by
  idx_vars j
  unfold part
  by_cases hu : used m hO t
  · rw [if_pos hu, first_x m hO c t h]
    refine (pay3_vec _ _ _ _ _ _ (first_used m hO c t h hu) _ _).trans ?_
    rw [pay2_at]
  · rw [if_neg hu, first_unused m hO c t h hu, add_zero]
    exact pay2_at _ _

theorem step_next (c : Dev nD) (t : Fin (cfgM m hO).N) (h : ¬t.val % 7 = 0) (j : S1024x1024.Idx) :
    (outsAt0 m hO c t.val t.isLt).2.2 j
      = (outsAt0 m hO c (t.val - 1) (Nat.lt_of_le_of_lt (Nat.sub_le _ _) t.isLt)).2.2 j + part m hO c t (j 0) (j 1) := by
  idx_vars j
  unfold part
  by_cases hu : used m hO t
  · rw [if_pos hu, next_x m hO c t h]
    exact pay3_vec _ _ _ _ _ _ (next_used m hO c t h hu) _ _
  · rw [if_neg hu, add_zero, next_unused m hO c t h hu]

theorem acc_last (c : Dev nD) (t : Fin (cfgM m hO).N) (h : t.val % 7 = 7 - 1) (r l : Fin 1024) :
    (show FVec Ideal S1024x1024 .f32 from (outsAt0 m hO c t.val t.isLt).2.2) (ix2 r l)
      = ∑ s : Fin 7, part m hO c ⟨7 * (t.val / 7) + s.val, Pipeline.run_point_lt_of_flush t h s⟩ r l := by
  refine (Pipeline.eq_sum_fin_of_reset_step_apply_of_flush (fun n h => (outsAt0 m hO c n h).2.2) 7 (fun _ => 0)
    (fun t j => part m hO c t (j 0) (j 1)) (step_first m hO c) (step_next m hO c) t h (ix2 r l)).trans ?_
  exact zero_add _

theorem xb_at (c : Dev nD) : ∀ (n : ℕ) (hn : n < (cfgM m hO).N) (r d : Fin 1024) (q : Fin 40960), q.val = n / 7 * 1024 + r.val →
    (show FVec Ideal S1024x1024 .bf16 from (outsAt0 m hO c n hn).2.1) (ix2 r d) = m ((c : Thread nD τ).loc main_arg2) (ix2 q d) := by
  intro n
  induction n using Nat.strong_induction_on with
  | _ n ih =>
    intro hn r d q hq
    by_cases h : n % 7 = 0
    · exact ((congrFun (first_x m hO c ⟨n, hn⟩ h) (ix2 r d)).trans (pay1_at _ r d)).trans (x_at m hO c ⟨n, hn⟩ r d q hq)
    · exact (congrFun (next_x m hO c ⟨n, hn⟩ h) (ix2 r d)).trans (ih (n - 1) (by omega) _ r d q (by omega))

/-- A row's feed-forward sum by one expert, over all hidden units. -/
def F (x : FVec Ideal S40960x1024 .f32) (wg wu : FVec Ideal S8x1024x3584 .f32) (wd : FVec Ideal S8x3584x1024 .f32)
    (e : Fin 8) (r : Fin 40960) (l : Fin 1024) : EReal :=
  ∑ k : Fin 3584, act (∑ d : Fin 1024, x (ix2 r d) * wg (ix3 e d k)) (∑ d : Fin 1024, x (ix2 r d) * wu (ix3 e d k)) * wd (ix3 e k l)

theorem acc_used (c : Dev nD) (t : Fin (cfgM m hO).N) (h : t.val % 7 = 7 - 1) (hu : below (t.val / 7) (tbl m 1 (ix1 0)))
    (r l : Fin 1024) (q : Fin 40960) (hq : q.val = t.val / 7 * 1024 + r.val) (n : Fin 40) (hn : n.val = t.val / 7)
    (e : Fin 8) (he : e.val = (tbl m 0 (ix1 n)).toNat) :
    (show FVec Ideal S1024x1024 .f32 from (outsAt0 m hO c t.val t.isLt).2.2) (ix2 r l)
      = F (m ((c : Thread nD τ).loc main_arg2)) (m ((c : Thread nD τ).loc main_arg3)) (m ((c : Thread nD τ).loc main_arg4))
          (m ((c : Thread nD τ).loc main_arg5)) e q l := by
  rw [acc_last m hO c t h r l]
  have h4 : ∀ s : Fin 7, (7 * (t.val / 7) + s.val) / 7 = t.val / 7 := fun s => by have := s.isLt; omega
  have h5 : ∀ s : Fin 7, (7 * (t.val / 7) + s.val) % 7 = s.val := fun s => by have := s.isLt; omega
  have hs : ∀ s : Fin 7, used m hO ⟨7 * (t.val / 7) + s.val, Pipeline.run_point_lt_of_flush t h s⟩ := fun s => by
    rw [used_iff]; simp only [h4]; exact hu
  have hp : ∀ s : Fin 7, part m hO c ⟨7 * (t.val / 7) + s.val, Pipeline.run_point_lt_of_flush t h s⟩ r l = _ := fun s => if_pos (hs s)
  refine (Finset.sum_congr rfl fun s _ => hp s).trans ?_
  unfold tile F
  refine Fin.sum_mul_add_congr fun s k hl => ?_
  refine Ideal.mul_congr (congrArg₂ act ?_ ?_) (wd_at m hO c _ (hs s) k l e ⟨_, hl⟩ n (by simp only [h4, hn]) he (by simp only [h5]))
  · exact Finset.sum_congr rfl fun d _ => Ideal.mul_congr (xb_at m hO c _ _ r d q (by simp only [h4, hq]))
      (wg_at m hO c _ (hs s) d k e ⟨_, hl⟩ n (by simp only [h4, hn]) he (by simp only [h5]))
  · exact Finset.sum_congr rfl fun d _ => Ideal.mul_congr (xb_at m hO c _ _ r d q (by simp only [h4, hq]))
      (wu_at m hO c _ (hs s) d k e ⟨_, hl⟩ n (by simp only [h4, hn]) he (by simp only [h5]))

theorem acc_unused (c : Dev nD) (t : Fin (cfgM m hO).N) (h : t.val % 7 = 7 - 1) (hu : ¬below (t.val / 7) (tbl m 1 (ix1 0))) (r l : Fin 1024) :
    (show FVec Ideal S1024x1024 .f32 from (outsAt0 m hO c t.val t.isLt).2.2) (ix2 r l) = 0 := by
  rw [acc_last m hO c t h r l]
  refine Finset.sum_eq_zero fun s _ => if_neg fun hs => hu ?_
  have h4 : (7 * (t.val / 7) + s.val) / 7 = t.val / 7 := by have := s.isLt; omega
  rw [used_iff] at hs
  simp only [h4] at hs
  exact hs

/-- What the call writes: each row's feed-forward sum by its tile's expert, and zero in the tiles not in use. -/
def G (te : IVec S40 32) (nu : IVec S1 32) (x : FVec Ideal S40960x1024 .f32) (wg wu : FVec Ideal S8x1024x3584 .f32)
    (wd : FVec Ideal S8x3584x1024 .f32) (h : ∀ i, (te i).toNat < 8) : FVec Ideal S40960x1024 .f32 := fun i =>
  if below ((i 0).val / 1024) (nu (ix1 0)) then
    F x wg wu wd ⟨(te (ix1 ⟨(i 0).val / 1024, Nat.div_lt_of_lt_mul (i 0).isLt⟩)).toNat, h _⟩ (i 0) (i 1)
  else 0

theorem acc_eq (c : Dev nD) (h : ∀ i, (tbl m 0 i).toNat < 8) (t : Fin (cfgM m hO).N) (ht : t.val % 7 = 7 - 1)
    (r l : Fin 1024) (q : Fin 40960) (hq : q.val = t.val / 7 * 1024 + r.val) :
    (show FVec Ideal S1024x1024 .f32 from (outsAt0 m hO c t.val t.isLt).2.2) (ix2 r l)
      = G (tbl m 0) (tbl m 1) (m ((c : Thread nD τ).loc main_arg2)) (m ((c : Thread nD τ).loc main_arg3)) (m ((c : Thread nD τ).loc main_arg4))
          (m ((c : Thread nD τ).loc main_arg5)) h (ix2 q l) := by
  have hd : q.val / 1024 = t.val / 7 := by have := r.isLt; omega
  by_cases hu : below (t.val / 7) (tbl m 1 (ix1 0))
  · exact (acc_used m hO c t ht hu r l q hq ⟨q.val / 1024, Nat.div_lt_of_lt_mul q.isLt⟩ hd ⟨_, h _⟩ rfl).trans (if_pos (hd ▸ hu)).symm
  · exact (acc_unused m hO c t ht hu r l).trans (if_neg fun x => hu (hd ▸ x)).symm

theorem emb4 (t : Fin (cfgM m hO).N) (r l : Fin 1024) :
    ∃ q : Fin 40960, q.val = t.val / 7 * 1024 + r.val ∧ (((cfgM m hO).win 4).blk t).view.emb (ix2 r l) = ix2 q l := by
  have hN : t.val < 280 := lt_of_lt_of_eq t.isLt N_0
  refine ⟨⟨t.val / 7 * 1024 + r.val, by have := r.isLt; omega⟩, rfl, ?_⟩
  have e := (idx_row hO t).2
  blk_ext
  · exact cell (congrFun e 0) rfl
  · exact cell (a := 0) (congrFun e 1) (by omega)

theorem covers : ((cfgM m hO).win 4).Covers := by
  have hpos : ∀ a : Fin 2, 0 < S1024x1024.size a := by decide
  refine ⟨hpos, fun β => ?_⟩
  have h0 : (β (0 : Fin 2)).val < 40 := lt_of_lt_of_eq (β (0 : Fin 2)).isLt (by show (40960 + 1024 - 1) / 1024 = 40; rfl)
  have h1 : (β (1 : Fin 2)).val < 1 := lt_of_lt_of_eq (β (1 : Fin 2)).isLt (by show (1024 + 1024 - 1) / 1024 = 1; rfl)
  have hN : 7 * (β (0 : Fin 2)).val + 6 < (cfgM m hO).N := lt_of_lt_of_eq (by omega) N_0.symm
  have e := (idx_row hO ⟨7 * (β (0 : Fin 2)).val + 6, hN⟩).2
  refine ⟨⟨7 * (β (0 : Fin 2)).val + 6, hN⟩, (flush0_4 (adm m hO) _).2 (by show (7 * (β (0 : Fin 2)).val + 6) % 7 = 6; omega), fun a => ⟨?_, .inl rfl⟩⟩
  refine (congrFun e a).trans ?_
  obtain ⟨a, ha⟩ := a
  match a, ha with
  | 0, _ => show (7 * (β (0 : Fin 2)).val + 6) / 7 = (β (0 : Fin 2)).val; omega
  | 1, _ => show 0 = (β (1 : Fin 2)).val; omega

theorem final (c : Dev nD) (h : ∀ i, (tbl m 0 i).toNat < 8) : (dats m hO 0 c).arrAt 4 (cfgM m hO).N
    = G (tbl m 0) (tbl m 1) (m ((c : Thread nD τ).loc main_arg2)) (m ((c : Thread nD τ).loc main_arg3)) (m ((c : Thread nD τ).loc main_arg4))
          (m ((c : Thread nD τ).loc main_arg5)) h := by
  refine (dats m hO 0 c).arrAt_eq_of_covers 4 _ (covers m hO) fun t hf y => ?_
  · have ht := (flush0_4 (adm m hO) t).1 hf
    revert y
    show ∀ y : S1024x1024.Idx, _
    intro y
    blk_simp
    rw [after0_4, last_y m hO c t ht]
    idx_vars y
    obtain ⟨q, hq, he⟩ := emb4 m hO t y0 y1
    exact (acc_eq m hO c h t ht y0 y1 q hq).trans (congrArg _ he.symm)

end Cert.Kernel6Ideal.Expert

end
-- ==== Proof.ExpertRef.lean ====
module

public import proofs.«01_k».proof.Proof.Gen.Reference6Ideal.Run
public import proofs.«01_k».proof.Proof.Expert
public import Idealize.ShloMosaic.Lib.WordCmp
public import Idealize.ShloMosaic.Lib.ReduceAll

@[expose] public section

set_option maxRecDepth 16384

noncomputable section

open Idealize.ShloMosaic Idealize.ShloMosaic.TcCoe Idealize.SL.Sem

namespace Cert.Reference6Ideal.Expert

open Cert.Reference6Ideal Cert.Reference6Ideal.Gen
open Cert.Kernel6Ideal.Expert (act F G below)

/-- Which rows are whose: the expert is the tile's, and the tile is in use. -/
def mine (te : IVec S40 32) (nu : IVec S1 32) : IVec S8x40 1 :=
  andi (cmpi .eq (broadcastInDim S8x40 ![0, 1] bcast_S1x40_S8x40_0_1 (broadcastInDim S1x40 ![1] bcast_S40_S1x40_1 te)) (broadcastInDim S8x40 ![0, 1] bcast_S8x1_S8x40_0_1 (broadcastInDim S8x1 ![0] bcast_S8_S8x1_0 (iotaInDim S8 32 0)))) (broadcastInDim S8x40 ![0, 1] bcast_S1x40_S8x40_0_1 (broadcastInDim S1x40 ![1] bcast_S40_S1x40_1 (cmpi .slt (iotaInDim S40 32 0) (broadcastInDim S40 ![] bcast_S_S40 (shapeCast _ nu shapeCasts_S1_S_)))))

def rows (v : IVec S8x40 1) : IVec S8x40960x1024 1 :=
  broadcastInDim S8x40960x1024 ![0, 1, 2] bcast_S8x40960x1_S8x40960x1024_0_1_2 (broadcastInDim S8x40960x1 ![0, 1] bcast_S8x40960_S8x40960x1_0_1 (shapeCast S8x40960 (broadcastInDim S8x40x1024 ![0, 1, 2] bcast_S8x40x1_S8x40x1024_0_1_2 (broadcastInDim S8x40x1 ![0, 1] bcast_S8x40_S8x40x1_0_1 v)) shapeCasts_S8x40x1024_S8x40960))

def gate (x : FVec Ideal S40960x1024 .f32) (w : FVec Ideal S8x1024x3584 .f32) : FVec Ideal S8x40960x3584 .f32 :=
  transpose S8x40960x3584 [0, 2, 1] (Host.dotGeneral dot_S8x1024x3584_S40960x1024_S8x3584x40960_1_1_02_0_n_n none w x) transposes_S8x3584x40960_S8x40960x3584_0_2_1

def hid (g u : FVec Ideal S8x40960x3584 .f32) : FVec Ideal S8x40960x3584 .f32 :=
  mulf (mulf g (Host.divf (broadcastInDim S8x40960x3584 ![] bcast_S_S8x40960x3584 (constant S_ .f32 0x3F800000#32)) (addf (broadcastInDim S8x40960x3584 ![] bcast_S_S8x40960x3584 (constant S_ .f32 0x3F800000#32)) (Host.exp (Host.negf g))))) u

def res (te : IVec S40 32) (nu : IVec S1 32) (x : FVec Ideal S40960x1024 .f32) (wg wu : FVec Ideal S8x1024x3584 .f32) (wd : FVec Ideal S8x3584x1024 .f32) :
    FVec Ideal S40960x1024 .f32 :=
  Host.reduceAdd (select (rows (mine te nu)) (Host.dotGeneral dot_S8x40960x3584_S8x3584x1024_S8x40960x1024_2_1_1_2_0_0 none (hid (gate x wg) (gate x wu)) wd)
    (broadcastInDim S8x40960x1024 ![] bcast_S_S8x40960x1024 (id (constant S_ .f32 0x00000000#32)))) (constant S_ .f32 0x00000000#32) reducesTo_S8x40960x1024_S40960x1024_d0 h_S_

theorem gate_at (x : FVec Ideal S40960x1024 .f32) (w : FVec Ideal S8x1024x3584 .f32) (e : Fin 8) (r : Fin 40960) (k : Fin 3584) :
    gate x w (ix3 e r k) = ∑ d : Fin 1024, x (ix2 r d) * w (ix3 e d k) := by
  pointwise [gate]
  exact Finset.sum_congr rfl fun d _ => mul_comm _ _

theorem hid_at (g u : FVec Ideal S8x40960x3584 .f32) (e : Fin 8) (r : Fin 40960) (k : Fin 3584) :
    hid g u (ix3 e r k) = act (g (ix3 e r k)) (u (ix3 e r k)) := by
  pointwise [hid, act]

theorem dot_at (h : FVec Ideal S8x40960x3584 .f32) (wd : FVec Ideal S8x3584x1024 .f32) (e : Fin 8) (r : Fin 40960) (l : Fin 1024) :
    Host.dotGeneral (F := Ideal) dot_S8x40960x3584_S8x3584x1024_S8x40960x1024_2_1_1_2_0_0 none h wd (ix3 e r l) = ∑ k : Fin 3584, h (ix3 e r k) * wd (ix3 e k l) := by
  pointwise []

theorem rows_at (v : IVec S8x40 1) (e : Fin 8) (r : Fin 40960) (l : Fin 1024) (n : Fin 40) (hn : n.val = r.val / 1024) :
    rows v (ix3 e r l) = v (ix2 e n) := by
  pointwise [rows]
  exact congrArg (fun x => v (ix2 e x)) (Fin.ext hn.symm)

theorem mine_at (te : IVec S40 32) (nu : IVec S1 32) (e : Fin 8) (n : Fin 40) :
    mine te nu (ix2 e n) = IntOp.andi (Scalar.cmpi .eq (te (ix1 n)) (BitVec.ofNat 32 e.val)) (Scalar.cmpi .slt (BitVec.ofNat 32 n.val) (nu (ix1 0))) := by
  pointwise [mine]
  rfl

theorem res_at (te : IVec S40 32) (nu : IVec S1 32) (x : FVec Ideal S40960x1024 .f32) (wg wu : FVec Ideal S8x1024x3584 .f32) (wd : FVec Ideal S8x3584x1024 .f32)
    (r : Fin 40960) (l : Fin 1024) :
    res te nu x wg wu wd (ix2 r l) = ∑ e : Fin 8, Scalar.select (rows (mine te nu) (ix3 e r l))
      (Host.dotGeneral (F := Ideal) dot_S8x40960x3584_S8x3584x1024_S8x40960x1024_2_1_1_2_0_0 none (hid (gate x wg) (gate x wu)) wd (ix3 e r l)) 0 := by
  pointwise [res]
  exact Finset.sum_congr rfl fun e _ => congrArg (Scalar.select _ _) Ideal.ofBits_zero_f32

theorem eq_word (v : BitVec 32) (e : Fin 8) : Scalar.cmpi .eq v (BitVec.ofNat 32 e.val) = 1#1 ↔ v.toNat = e.val := by
  have he : (BitVec.ofNat 32 e.val).toNat = e.val := by rw [BitVec.toNat_ofNat]; have := e.isLt; omega
  rw [show Scalar.cmpi .eq v (BitVec.ofNat 32 e.val) = IntOp.cmpi .eq v (BitVec.ofNat 32 e.val) from rfl, WordCmp.cmpi_eq_eq_toNat, he]
  by_cases h : v.toNat = e.val <;> simp [h]

/-- A row keeps the term of its tile's expert, if the tile is in use. -/
theorem keep (te : IVec S40 32) (nu : IVec S1 32) (e : Fin 8) (r : Fin 40960) (l : Fin 1024) (n : Fin 40) (hn : n.val = r.val / 1024) (a : EReal) :
    Scalar.select (rows (mine te nu) (ix3 e r l)) a 0 = if (te (ix1 n)).toNat = e.val ∧ below n.val (nu (ix1 0)) then a else 0 := by
  rw [rows_at _ e r l n hn, mine_at]
  exact if_congr (IntOp.andi_eq_one.trans (and_congr (eq_word _ e) Iff.rfl)) rfl rfl

theorem sum_at (x : FVec Ideal S40960x1024 .f32) (wg wu : FVec Ideal S8x1024x3584 .f32) (wd : FVec Ideal S8x3584x1024 .f32)
    (e : Fin 8) (r : Fin 40960) (l : Fin 1024) :
    Host.dotGeneral (F := Ideal) dot_S8x40960x3584_S8x3584x1024_S8x40960x1024_2_1_1_2_0_0 none (hid (gate x wg) (gate x wu)) wd (ix3 e r l)
      = F x wg wu wd e r l := by
  rw [dot_at]
  unfold F
  exact Finset.sum_congr rfl fun k _ => by rw [hid_at, gate_at, gate_at]

/-- A row's sum over the experts has its own expert's term, if its tile is in use, and no other. -/
theorem res_eq (te : IVec S40 32) (nu : IVec S1 32) (x : FVec Ideal S40960x1024 .f32) (wg wu : FVec Ideal S8x1024x3584 .f32) (wd : FVec Ideal S8x3584x1024 .f32)
    (h : ∀ i, (te i).toNat < 8) : res te nu x wg wu wd = G te nu x wg wu wd h := by
  funext i
  obtain ⟨r, l, rfl⟩ : ∃ (r : Fin 40960) (l : Fin 1024), i = ix2 r l := ⟨i 0, i 1, (ix2_eta i).symm⟩
  have hn : r.val / 1024 < 40 := Nat.div_lt_of_lt_mul r.isLt
  refine (res_at te nu x wg wu wd r l).trans ((Finset.sum_congr rfl fun e _ => keep te nu e r l ⟨r.val / 1024, hn⟩ rfl _).trans ?_)
  show _ = if below (r.val / 1024) (nu (ix1 0)) then F x wg wu wd ⟨(te (ix1 ⟨r.val / 1024, hn⟩)).toNat, h _⟩ r l else 0
  by_cases hb : below (r.val / 1024) (nu (ix1 0))
  · refine (Finset.sum_eq_single ⟨(te (ix1 ⟨r.val / 1024, hn⟩)).toNat, h _⟩ (fun e _ he => if_neg fun x => he (Fin.ext x.1.symm))
      (fun x => absurd (Finset.mem_univ _) x)).trans ?_
    rw [if_pos hb]
    exact (if_pos ⟨rfl, hb⟩).trans (sum_at x wg wu wd _ r l)
  · rw [if_neg hb]
    exact Finset.sum_eq_zero fun e _ => if_neg fun x => hb x.2

end Cert.Reference6Ideal.Expert

end
-- ==== Proof.ExpertPre.lean ====
module

public import proofs.«01_k».proof.Defs
public import proofs.«01_k».proof.Proof.Gen.Kernel6.Frame
public import proofs.«01_k».proof.Proof.Gen.Kernel6Ideal.Frame
public import Idealize.ShloMosaic.Lib.ReduceAll
public import Idealize.ShloMosaic.Lib.Pointwise
public import Idealize.ShloMosaic.Lib.IdealHost

@[expose] public section

set_option maxRecDepth 16384

noncomputable section

open Idealize.ShloMosaic Idealize.ShloMosaic.TcCoe

namespace Cert.Pre_expert_in_range.Expert

open Cert.Pre_expert_in_range

/-- The shape relations the precondition's operations take. -/
instance facts : Cert.Pre_expert_in_range.Facts where
  bcast_S_S40 := by decide
  reducesTo_S40_S_d0 := by decide
  h_S_ := by decide

theorem ofBool_one {b : Bool} (h : BitVec.ofBool b = 1#1) : b = true := by revert b; decide

variable {F : FTy → Type} [FloatOps F]

/-- Under the precondition each tile's expert is one of the eight. -/
theorem lt_eight (te : IVec S40 32) (nu : IVec S1 32) (xs : FVec F S40960x1024 .f32) (wg wu : FVec F S8x1024x3584 .f32) (wd : FVec F S8x3584x1024 .f32)
    (h : fn (F := F) te nu xs wg wu wd = fun _ => 1#1) (i : S40.Idx) : (te i).toNat < 8 := by
  have e := congrFun h ix0
  unfold fn at e
  dsimp only at e
  obtain ⟨e1, e2⟩ := IntOp.andi_eq_one.1 (Host.reduce_andi_all _ _ _ _ _ e i)
  have e1 := ofBool_one e1
  have e2 := ofBool_one e2
  simp only [broadcastInDim, constantI, BitVec.sle_eq_decide, BitVec.slt_eq_decide, decide_eq_true_eq, BitVec.toInt_eq_toNat_cond,
    BitVec.toNat_ofNat, Nat.reducePow, Nat.reduceMod] at e1 e2
  omega

theorem select_le (v : BitVec 1) (n : ℕ) (hn : n < 7) : (Scalar.select v (BitVec.ofNat 32 n) 6#32).toNat ≤ 6 := by
  unfold Scalar.select
  split
  · rw [BitVec.toNat_ofNat]; omega
  · decide

end Cert.Pre_expert_in_range.Expert

namespace Cert.Kernel6.Expert

open Cert.Kernel6 Cert.Kernel6.Gen Cert.Pre_expert_in_range.Expert

/-- Under the precondition every block of the weights lies inside them. -/
theorem ok_of_pre (m : (ℓ : Loc nD τ sig) → Buf (Elt Bits) ℓ) (h : Cert.Pre_Kernel6 m) : Ok (F := Bits) m := by
  have e : ∀ x, (tbl m 0 x).toNat < 8 := lt_eight _ _ _ _ _ _ (h 0)
  refine ⟨fun i => ⟨fun a => ?_, .inl rfl⟩, fun i => ⟨fun a => ?_, .inl rfl⟩, fun i => ⟨fun a => ?_, .inl rfl⟩⟩
  · fin_cases a
    · exact (Nat.mul_le_mul_right 1 (e _) : _ ≤ 8 * 1)
    · exact (by decide : (0 + 1) * 1024 ≤ 1024)
    · exact (Nat.mul_le_mul_right 512 (Nat.succ_le_succ (select_le _ _ (i 1).isLt)) : _ ≤ 7 * 512)
  · fin_cases a
    · exact (Nat.mul_le_mul_right 1 (e _) : _ ≤ 8 * 1)
    · exact (by decide : (0 + 1) * 1024 ≤ 1024)
    · exact (Nat.mul_le_mul_right 512 (Nat.succ_le_succ (select_le _ _ (i 1).isLt)) : _ ≤ 7 * 512)
  · fin_cases a
    · exact (Nat.mul_le_mul_right 1 (e _) : _ ≤ 8 * 1)
    · exact (Nat.mul_le_mul_right 512 (Nat.succ_le_succ (select_le _ _ (i 1).isLt)) : _ ≤ 7 * 512)
    · exact (by decide : (0 + 1) * 1024 ≤ 1024)

end Cert.Kernel6.Expert

namespace Cert.Kernel6Ideal.Expert

open Cert.Kernel6Ideal Cert.Kernel6Ideal.Gen Cert.Pre_expert_in_range.Expert

/-- Under the precondition every block of the weights lies inside them. -/
theorem ok_of_pre (m : (ℓ : Loc nD τ sig) → Buf (Elt Ideal) ℓ) (h : Cert.Pre_Kernel6Ideal m) : Ok (F := Ideal) m := by
  have e : ∀ x, (tbl m 0 x).toNat < 8 := lt_eight _ _ _ _ _ _ (h 0)
  refine ⟨fun i => ⟨fun a => ?_, .inl rfl⟩, fun i => ⟨fun a => ?_, .inl rfl⟩, fun i => ⟨fun a => ?_, .inl rfl⟩⟩
  · fin_cases a
    · exact (Nat.mul_le_mul_right 1 (e _) : _ ≤ 8 * 1)
    · exact (by decide : (0 + 1) * 1024 ≤ 1024)
    · exact (Nat.mul_le_mul_right 512 (Nat.succ_le_succ (select_le _ _ (i 1).isLt)) : _ ≤ 7 * 512)
  · fin_cases a
    · exact (Nat.mul_le_mul_right 1 (e _) : _ ≤ 8 * 1)
    · exact (by decide : (0 + 1) * 1024 ≤ 1024)
    · exact (Nat.mul_le_mul_right 512 (Nat.succ_le_succ (select_le _ _ (i 1).isLt)) : _ ≤ 7 * 512)
  · fin_cases a
    · exact (Nat.mul_le_mul_right 1 (e _) : _ ≤ 8 * 1)
    · exact (Nat.mul_le_mul_right 512 (Nat.succ_le_succ (select_le _ _ (i 1).isLt)) : _ ≤ 7 * 512)
    · exact (by decide : (0 + 1) * 1024 ≤ 1024)

end Cert.Kernel6Ideal.Expert

end
-- ==== Proof.ExpertClaim.lean ====
module

public import proofs.«01_k».proof.Defs
public import proofs.«01_k».proof.Proof.ExpertRef
public import proofs.«01_k».proof.Proof.ExpertPre
public import Idealize.ShloMosaic.Lib.Claim

@[expose] public section

set_option maxRecDepth 16384

noncomputable section

open Idealize.ShloMosaic Idealize.ShloMosaic.TcCoe Idealize.SL.Sem

namespace Cert.Proof

open Cert.Kernel6Ideal.Expert in
/-- The experts' call computes what its reference computes. -/
theorem expert_algebraic : Cert.algebraic_Kernel6Ideal_Reference6Ideal := by
  have hO : ∀ m, Cert.Pre_Kernel6Ideal m → ∀ i, (Cert.Kernel6Ideal.Gen.tbl m 0 i).toNat < 8 :=
    fun m h => Cert.Pre_expert_in_range.Expert.lt_eight _ _ _ _ _ _ (h 0)
  pair_intro
  · run_from Cert.Kernel6Ideal.Gen.run_main m g (ok_of_pre m hpre)
    · exact rfl
    · exact ((hc.2 Cert.Kernel6Ideal.main_arg0 (by decide : Cert.Kernel6Ideal.main_arg0 ∈ Pipeline.restRefs Cert.Kernel6Ideal.sig Cert.Kernel6Ideal.spec0))).trans (Cert.Kernel6Ideal.Gen.V_main_arg0 m c)
    · exact ((hc.2 Cert.Kernel6Ideal.main_arg1 (by decide : Cert.Kernel6Ideal.main_arg1 ∈ Pipeline.restRefs Cert.Kernel6Ideal.sig Cert.Kernel6Ideal.spec0))).trans (Cert.Kernel6Ideal.Gen.V_main_arg1 m c)
  · refine Idealize.ShloMosaic.θ_run_mono (Cert.Reference6Ideal.Value.run m' g') fun r hr c => ?_
    obtain ⟨a0, a1, a2, a3, a4, a5⟩ := hagree c
    have e := (hr c).1
    rw [a0, a1, a2, a3, a4, a5] at e
    obtain rfl : c = 0 := Subsingleton.elim _ _
    exact ⟨e.trans ((Cert.Reference6Ideal.Expert.res_eq _ _ _ _ _ _ (hO m hpre)).trans (final m (ok_of_pre m hpre) 0 (hO m hpre)).symm), (hr 0).2⟩

end Cert.Proof

end
-- ==== Proof.EvenIn.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.EvenIn

open Cert.Kernel3Ideal Cert.Kernel3Ideal.Gen

/-- A row normed by its root mean square, times the gain. -/
def rms (x g : Fin 1024 → EReal) (l : Fin 1024) : EReal :=
  x l * Ideal.rsqrt (Ideal.div (∑ k, x k * x k) (Ideal.ofBits .f32 0x44800000#32) + Ideal.ofBits .f32 0x358637BD#32) * g l

theorem pay3_at (x : FVec Ideal S1024x1024 .f32) (g : FVec Ideal S1x1024 .f32) (w : FVec Ideal S1024x1536 .bf16) (r : Fin 1024) (l : Fin 1536) :
    k0_pay3 (F := Ideal) x g w (ix2 r l) = ∑ d : Fin 1024, rms (fun k => x (ix2 r k)) (fun k => g (ix2 0 k)) d * w (ix2 d l) := by
  pointwise [k0_pay3, rms]

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, t.val, 0] ∧ win0_4.index t = ![t.val, 0] :=
  (by decide +kernel : ∀ t : Fin grid0.N, _)

/-- A token's in-projection. -/
def A (x : FVec Ideal S4x4096x1024 .f32) (g : FVec Ideal S1024 .f32) (w : FVec Ideal S1024x1536 .f32) (q : Fin 16384) (l : Fin 1536) : EReal :=
  ∑ d : Fin 1024, rms (fun k => x (ix3 ⟨q.val / 4096, by omega⟩ ⟨q.val % 4096, by omega⟩ k)) (fun k => g (ix1 k)) d * w (ix2 d l)

theorem x_at (c : Dev nD) (t : Fin cfg0.N) (r d : Fin 1024) (q : Fin 16384) (hq : q.val = t.val * 1024 + r.val) :
    (show FVec Ideal S1024x1024 .f32 from iblk m c 0 t) (ix2 r d) = m ((c : Thread nD τ).loc main_arg0) (ix3 ⟨q.val / 4096, by omega⟩ ⟨q.val % 4096, by omega⟩ d) := by
  blk_point [iblk, V, idx t]

theorem g_at (c : Dev nD) (t : Fin cfg0.N) (l : Fin 1024) :
    (show FVec Ideal S1x1024 .f32 from iblk m c 1 t) (ix2 0 l) = m ((c : Thread nD τ).loc main_arg1) (ix1 l) := by
  blk_point [iblk, V, idx t]

theorem w_at (c : Dev nD) (t : Fin cfg0.N) (d : Fin 1024) (l : Fin 1536) :
    (show FVec Ideal S1024x1536 .bf16 from iblk m c 2 t) (ix2 d l) = m ((c : Thread nD τ).loc main_arg2) (ix2 d l) := by
  blk_point [iblk, V, idx t]

theorem pt (c : Dev nD) (t : Fin cfg0.N) (r : Fin 1024) (l : Fin 1536) (q : Fin 16384) (hq : q.val = t.val * 1024 + r.val) :
    k0_pay3 (F := Ideal) (iblk m c 0 t) (iblk m c 1 t) (iblk m c 2 t) (ix2 r l)
      = A (m ((c : Thread nD τ).loc main_arg0)) (m ((c : Thread nD τ).loc main_arg1)) (m ((c : Thread nD τ).loc main_arg2)) q l := by
  refine (pay3_at _ _ _ r l).trans (Finset.sum_congr rfl fun d _ => Ideal.mul_congr ?_ (w_at m c t d l))
  exact congrArg₂ (fun x g => rms x g d) (funext fun k => x_at m c t r k q hq) (funext fun k => g_at m c t k)

theorem emb3 (t : Fin cfg0.N) (y0 : Fin 4) (y1 : Fin 1024) (y2 : Fin 128) : ∃ q : Fin 16384, q.val = t.val * 1024 + y1.val ∧
    ((cfg0.win 3).blk t).view.emb (ix3 y0 y1 y2 : S4x1024x128.Idx) = (ix3 y0 q y2 : S4x16384x128.Idx) := by
  have ht : t.val < 16 := lt_of_lt_of_eq t.isLt N_0
  refine ⟨⟨t.val * 1024 + y1.val, by have := y1.isLt; omega⟩, rfl, ?_⟩
  blk_ext [idx t]

theorem emb4 (t : Fin cfg0.N) (y0 y1 : Fin 1024) : ∃ q : Fin 16384, q.val = t.val * 1024 + y0.val ∧
    ((cfg0.win 4).blk t).view.emb (ix2 y0 y1 : S1024x1024.Idx) = (ix2 q y1 : S16384x1024.Idx) := by
  have ht : t.val < 16 := lt_of_lt_of_eq t.isLt N_0
  refine ⟨⟨t.val * 1024 + y0.val, by have := y0.isLt; omega⟩, rfl, ?_⟩
  blk_ext [idx t]

/-- The state space's inputs, in four blocks of columns. -/
def O3 (x : FVec Ideal S4x4096x1024 .f32) (g : FVec Ideal S1024 .f32) (w : FVec Ideal S1024x1536 .f32) : FVec Ideal S4x16384x128 .f32 :=
  fun i => A x g w (i 1) ⟨(i 0).val * 128 + (i 2).val, by have := (i 0).isLt; have := (i 2).isLt; dsimp at *; omega⟩

/-- The spatial gating unit's inputs. -/
def O4 (x : FVec Ideal S4x4096x1024 .f32) (g : FVec Ideal S1024 .f32) (w : FVec Ideal S1024x1536 .f32) : FVec Ideal S16384x1024 .bf16 :=
  fun i => A x g w (i 0) ⟨512 + (i 1).val, by have := (i 1).isLt; dsimp at *; omega⟩

theorem out3_at (x : FVec Ideal S1024x1024 .f32) (g : FVec Ideal S1x1024 .f32) (w : FVec Ideal S1024x1536 .bf16) (a : Fin 4) (r : Fin 1024) (l : Fin 128) :
    out0_3 (F := Ideal) x g w (ix3 a r l) = k0_pay3 (F := Ideal) x g w (ix2 r ⟨a.val * 128 + l.val, by omega⟩) := by
  unfold out0_3
  frame_out
  refine (Cert.Kernel3Ideal.Value.canon3_eq (F := Ideal) x g w _).trans ?_
  refine congrArg (k0_pay3 (F := Ideal) x g w) (funext fun b => ?_)
  match b with
  | ⟨0, _⟩ => rfl
  | ⟨1, _⟩ => rfl

theorem out4_at (x : FVec Ideal S1024x1024 .f32) (g : FVec Ideal S1x1024 .f32) (w : FVec Ideal S1024x1536 .bf16) (r l : Fin 1024) :
    out0_4 (F := Ideal) x g w (ix2 r l) = k0_pay3 (F := Ideal) x g w (ix2 r ⟨512 + l.val, by omega⟩) := by
  unfold out0_4
  frame_out
  generalize k0_pay3 (F := Ideal) x g w = p
  pointwise [k0_pay2]

theorem final3 (c : Dev nD) : (dats m 0 c).arrAt 3 cfg0.N
    = O3 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  obtain ⟨q, hq, he⟩ := emb3 t y0 y1 y2
  exact ((out3_at _ _ _ y0 y1 y2).trans (pt m c t y1 _ q hq)).trans (congrArg (O3 _ _ _) he.symm)

theorem final4 (c : Dev nD) : (dats m 0 c).arrAt 4 cfg0.N
    = O4 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  idx_vars y
  obtain ⟨q, hq, he⟩ := emb4 t y0 y1
  exact ((out4_at _ _ _ y0 y1).trans (pt m c t y0 _ q hq)).trans (congrArg (O4 _ _ _) he.symm)

end Cert.Kernel3Ideal.EvenIn

end
-- ==== Proof.EvenInClaim.lean ====
module

public import proofs.«01_k».proof.Defs
public import proofs.«01_k».proof.Proof.EvenIn
public import Idealize.ShloMosaic.Lib.Claim

@[expose] public section

set_option maxRecDepth 16384

noncomputable section

open Idealize.ShloMosaic Idealize.ShloMosaic.TcCoe Idealize.SL.Sem

namespace Cert.Proof

open Cert.Kernel3Ideal.EvenIn in
/-- The even layer's in-projection computes what its reference computes, both results. -/
theorem even_in_algebraic : Cert.algebraic_Kernel3Ideal_Reference3Ideal := by
  pair_intro
  · run_from Cert.Kernel3Ideal.Gen.run_main m g
  · run_from Cert.Reference3Ideal.Value.run m' g'
    · refine Eq.trans ?_ (final3 m c).symm
      funext i
      idx_vars i
      pointwise [O3, A, rms]
    · refine Eq.trans ?_ (final4 m c).symm
      funext i
      idx_vars i
      pointwise [O4, A, rms]

end Cert.Proof

end
-- ==== Proof.EvenMix.lean ====
module

public import proofs.«01_k».proof.Proof.Gen.Kernel4Ideal.Value
public import Idealize.ShloMosaic.Lib.Routing.OpsOne
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.EvenMix

open Cert.Kernel4Ideal Cert.Kernel4Ideal.Gen

theorem ix2_congr {a b : ℕ} {i i' : Fin a} {j j' : Fin b} (h : i.val = i'.val) (h' : j.val = j'.val) :
    (ix2 i j : Shape.Idx ⟨2, ![a, b]⟩) = ix2 i' j' := by rw [Fin.ext h, Fin.ext h']

/-- The columns of the left head of each pair. -/
theorem mask_at (r l : Fin 512) : k0_pay12 128#32 k0_pay9 k0_pay10 k0_pay11 (ix2 r l) = if l.val % 128 < 64 then 1#1 else 0#1 := by
  have h : ∀ l : Fin 512, k0_pay12 128#32 k0_pay9 k0_pay10 k0_pay11 (ix2 (0 : Fin 512) l) = if l.val % 128 < 64 then 1#1 else 0#1 := by
    decide +kernel
  exact h l

theorem pay13_at (v : FVec Ideal S512x512 .f32) (r l : Fin 512) :
    k0_pay13 (F := Ideal) v 128#32 k0_pay9 k0_pay10 k0_pay11 (ix2 r l) = if l.val % 128 < 64 then v (ix2 r l) else 0 := by
  pointwise [k0_pay13]
  rw [mask_at]
  split <;> rfl

theorem pay14_at (v : FVec Ideal S512x512 .f32) (r l : Fin 512) :
    k0_pay14 (F := Ideal) v 128#32 k0_pay9 k0_pay10 k0_pay11 (ix2 r l) = if l.val % 128 < 64 then 0 else v (ix2 r l) := by
  pointwise [k0_pay14]
  rw [mask_at]
  split <;> rfl

/-- The mixing of the positions of a chunk: row `r` of the block, column `l`. -/
def sg (v : FVec Ideal S512x512 .f32) (ws : FVec Ideal S8x128x128 .bf16) : FVec Ideal S512x512 .f32 := fun i =>
  ∑ s : Fin 128, ws (ix3 ⟨(i 1).val / 64, by have := (i 1).isLt; dsimp at *; omega⟩ ⟨(i 0).val % 128, by omega⟩ s)
    * v (ix2 ⟨(i 0).val / 128 * 128 + s.val, by have := (i 0).isLt; have := s.isLt; dsimp at *; omega⟩ (i 1))

theorem tile_eq (v : FVec Ideal S512x512 .f32) (ws : FVec Ideal S8x128x128 .bf16) (r l : Fin 512) (q p : ℕ) (a b : Fin 128)
    (hq : q < 4) (hp : p < 4) (hr : r.val = q * 128 + a.val) (hl : l.val = p * 128 + b.val) (L R wl wr : Fin 128 → EReal) (e e' : Fin 8) (he : e.val = 2 * p)
    (he' : e'.val = 2 * p + 1)
    (hwl : ∀ s : Fin 128, wl s = ws (ix3 e a s)) (hwr : ∀ s : Fin 128, wr s = ws (ix3 e' a s))
    (hL : ∀ s : Fin 128, L s = k0_pay13 (F := Ideal) v 128#32 k0_pay9 k0_pay10 k0_pay11 (ix2 ⟨q * 128 + s.val, by omega⟩ l))
    (hR : ∀ s : Fin 128, R s = k0_pay14 (F := Ideal) v 128#32 k0_pay9 k0_pay10 k0_pay11 (ix2 ⟨q * 128 + s.val, by omega⟩ l)) :
    ∑ s : Fin 128, wl s * L s + ∑ s : Fin 128, wr s * R s = sg v ws (ix2 r l) := by
  have ha := a.isLt
  have hb := b.isLt
  simp only [hwl, hwr, hL, hR, pay13_at, pay14_at]
  have e1 : ∀ s : Fin 128, (⟨r.val / 128 * 128 + s.val, by have := s.isLt; omega⟩ : Fin 512) = ⟨q * 128 + s.val, by omega⟩ :=
    fun s => Fin.ext (by dsimp only; omega)
  have e2 : (⟨r.val % 128, by omega⟩ : Fin 128) = a := Fin.ext (by dsimp only; omega)
  by_cases h : l.val % 128 < 64
  · have e3 : (⟨l.val / 64, by omega⟩ : Fin 8) = e := Fin.ext (by dsimp only; omega)
    simp only [if_pos h, mul_zero, Finset.sum_const_zero, add_zero]
    refine Finset.sum_congr rfl fun s _ => ?_
    show ws (ix3 e a s) * v (ix2 ⟨q * 128 + s.val, _⟩ l) = ws (ix3 (⟨l.val / 64, _⟩ : Fin 8) (⟨r.val % 128, _⟩ : Fin 128) s) * v (ix2 (⟨r.val / 128 * 128 + s.val, _⟩ : Fin 512) l)
    rw [e1, e2, e3]
  · have e3 : (⟨l.val / 64, by omega⟩ : Fin 8) = e' := Fin.ext (by dsimp only; omega)
    simp only [if_neg h, mul_zero, Finset.sum_const_zero, zero_add]
    refine Finset.sum_congr rfl fun s _ => ?_
    show ws (ix3 e' a s) * v (ix2 ⟨q * 128 + s.val, _⟩ l) = ws (ix3 (⟨l.val / 64, _⟩ : Fin 8) (⟨r.val % 128, _⟩ : Fin 128) s) * v (ix2 (⟨r.val / 128 * 128 + s.val, _⟩ : Fin 512) l)
    rw [e1, e2, e3]

/-- The tanh form of the gelu. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- A row less its mean. -/
def cen (x : Fin 512 → EReal) (l : Fin 512) : EReal := x l - Ideal.div (∑ k, x k) (Ideal.ofBits .f32 0x44000000#32)

/-- A row normed by its mean and variance, times the gain, plus the shift. -/
def lnorm (x g b : Fin 512 → EReal) (l : Fin 512) : EReal :=
  cen x l * Ideal.rsqrt (Ideal.div (∑ k, cen x k * cen x k) (Ideal.ofBits .f32 0x44000000#32) + Ideal.ofBits .f32 0x358637BD#32) * g l + b l

/-- A row normed by its root mean square, times the gain. -/
def rms (x g : Fin 1024 → EReal) (l : Fin 1024) : EReal :=
  x l * Ideal.rsqrt (Ideal.div (∑ k, x k * x k) (Ideal.ofBits .f32 0x44800000#32) + Ideal.ofBits .f32 0x358637BD#32) * g l

theorem pay4_at (v : FVec Ideal S512x512 .bf16) (r l : Fin 512) : k0_pay4 (F := Ideal) v (ix2 r l) = gelu (v (ix2 r l)) := by
  pointwise [k0_pay4, gelu]

theorem pay8_at (v : FVec Ideal S512x512 .bf16) (g b : FVec Ideal S1x512 .f32) (r l : Fin 512) :
    k0_pay8 (F := Ideal) (k0_pay5 v) (k0_pay6 v) k0_pay7 g b (ix2 r l)
      = lnorm (fun k => gelu (v (ix2 r k))) (fun k => g (ix2 0 k)) (fun k => b (ix2 0 k)) l := by
  pointwise [k0_pay8, k0_pay5, k0_pay6, k0_pay7, lnorm, cen, gelu]

theorem pay1_at (x h : FVec Ideal S512x1024 .f32) (g : FVec Ideal S1x1024 .f32) (r : Fin 512) (l : Fin 1024) :
    k0_pay1 (F := Ideal) x h (k0_pay37 g) (ix2 r l) = h (ix2 r l) + rms (fun k => x (ix2 r k)) (fun k => g (ix2 0 k)) l := by
  pointwise [k0_pay1, k0_pay37, rms]

theorem pay2_at (x h : FVec Ideal S512x1024 .f32) (g g2 : FVec Ideal S1x1024 .f32) (r : Fin 512) (l : Fin 1024) :
    k0_pay2 (F := Ideal) x h (k0_pay37 g) g2 (ix2 r l)
      = rms (fun k => k0_pay1 (F := Ideal) x h (k0_pay37 g) (ix2 r k)) (fun k => g2 (ix2 0 k)) l := by
  unfold k0_pay2
  generalize k0_pay1 (F := Ideal) x h (k0_pay37 g) = y
  pointwise [rms]

/-- Four blocks of columns side by side. -/
def cat4 (a b c d : FVec Ideal S1x512x128 .f32) (r k : Fin 512) : EReal :=
  if h : k.val < 128 then a (ix3 0 r ⟨k.val, h⟩) else if h : k.val - 128 < 128 then b (ix3 0 r ⟨k.val - 128, h⟩)
    else if h : k.val - 128 - 128 < 128 then c (ix3 0 r ⟨k.val - 128 - 128, h⟩) else d (ix3 0 r ⟨k.val - 128 - 128 - 128, by omega⟩)

theorem pay3_at (a b c d : FVec Ideal S1x512x128 .f32) (w : FVec Ideal S512x512 .bf16) (r l : Fin 512) :
    k0_pay3 (F := Ideal) a b c d w (ix2 r l) = cat4 a b c d r l * Ideal.logistic (∑ k, cat4 a b c d r k * w (ix2 k l)) := by
  pointwise [k0_pay3]
  rfl

/-- The bias of a chunk's positions, repeated for the block's four chunks. -/
theorem rep4 (b : FVec Ideal S128x512 .f32) (r k : Fin 512) :
    (if h : r.val < 128 then b (ix2 ⟨r.val, h⟩ k) else if h : r.val - 128 < 128 then b (ix2 ⟨r.val - 128, h⟩ k)
      else if h : r.val - 128 - 128 < 128 then b (ix2 ⟨r.val - 128 - 128, h⟩ k) else b (ix2 ⟨r.val - 128 - 128 - 128, by omega⟩ k))
      = b (ix2 ⟨r.val % 128, by omega⟩ k) := by
  split
  · exact congrArg b (ix2_congr (by dsimp only; omega) rfl)
  split
  · exact congrArg b (ix2_congr (by dsimp only; omega) rfl)
  split
  · exact congrArg b (ix2_congr (by dsimp only; omega) rfl)
  · exact congrArg b (ix2_congr (by dsimp only; omega) rfl)

theorem pay36_at (ya u s : FVec Ideal S512x512 .f32) (b : FVec Ideal S128x512 .f32) (wa wb : FVec Ideal S512x1024 .bf16) (r : Fin 512) (l : Fin 1024) :
    k0_pay36 (F := Ideal) ya u b s wa wb (ix2 r l) = ∑ k : Fin 512, ya (ix2 r k) * wa (ix2 k l)
      + ∑ k : Fin 512, u (ix2 r k) * (s (ix2 r k) + b (ix2 ⟨r.val % 128, by omega⟩ k)) * wb (ix2 k l) := by
  pointwise [k0_pay36]
  simp only [rep4]

variable (m : (ℓ : Loc nD τ sig) → Buf (Elt Ideal) ℓ)

/-- The block's sum of the two out-projections, from what the scratch holds. -/
abbrev mix (c : Dev nD) (t : Fin cfg0.N) (s : FVec Ideal S512x512 .f32) : FVec Ideal S512x1024 .f32 :=
  k0_pay36 (k0_pay3 (View.ld (iblk m c 0 t) (Rect.unit ![0, 0, 0] ![1, 512, 128] inb_S4x512x128_S1x512x128_0_0_0))
      (View.ld (iblk m c 0 t) (Rect.unit ![1, 0, 0] ![1, 512, 128] inb_S4x512x128_S1x512x128_1_0_0))
      (View.ld (iblk m c 0 t) (Rect.unit ![2, 0, 0] ![1, 512, 128] inb_S4x512x128_S1x512x128_2_0_0))
      (View.ld (iblk m c 0 t) (Rect.unit ![3, 0, 0] ![1, 512, 128] inb_S4x512x128_S1x512x128_3_0_0)) (iblk m c 4 t))
    (k0_pay4 (iblk m c 1 t)) (iblk m c 8 t) s (iblk m c 9 t) (iblk m c 10 t)

/-- The gelu of the gating half, layer-normed. -/
abbrev vn (c : Dev nD) (t : Fin cfg0.N) : FVec Ideal S512x512 .f32 :=
  k0_pay8 (k0_pay5 (iblk m c 2 t)) (k0_pay6 (iblk m c 2 t)) k0_pay7 (iblk m c 5 t) (iblk m c 6 t)

theorem outs_ex (c : Dev nD) (t : Fin cfg0.N) : ∃ s : FVec Ideal S512x512 .f32, (outsAt0 m c t).1 = k0_pay1 (mix m c t s) (iblk m c 3 t) (k0_pay37 (iblk m c 11 t))
    ∧ (outsAt0 m c t).2 = k0_pay2 (mix m c t s) (iblk m c 3 t) (k0_pay37 (iblk m c 11 t)) (iblk m c 12 t) ∧ s = sg (vn m c t) (iblk m c 7 t) := by
  apply Exists.intro
  refine ⟨?_, ?_, ?_⟩
  rotate_left
  · unfold outsAt0
    dsimp only
    unfold out0_A_14
    frame_out
    rfl
  rotate_left
  · unfold outsAt0
    dsimp only
    unfold out0_A_13
    frame_out
    rfl
  dsimp only [vn]
  rw [View.readCov_eq_canon']
  funext j
  idx_vars j
  generalize k0_pay8 (F := Ideal) (k0_pay5 (iblk m c 2 t)) (k0_pay6 (iblk m c 2 t)) k0_pay7 (iblk m c 5 t) (iblk m c 6 t) = v
  generalize (iblk m c 7 t : FVec Ideal S8x128x128 .bf16) = ws
  canon_tiles x h
  all_goals idx_vars x
  all_goals simp only [Rect.idx_unit_val] at h0 h1
  all_goals simp at h0 h1
  · pointwise [k0_pay35]
    exact tile_eq v ws j0 j1 3 3 x0 x1 (by omega) (by omega) (by omega) (by omega) _ _ _ _ 6 7 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay34, k0_pay33]
    exact tile_eq v ws j0 j1 3 2 x0 x1 (by omega) (by omega) (by omega) (by omega) _ _ _ _ 4 5 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay32]
    exact tile_eq v ws j0 j1 3 1 x0 x1 (by omega) (by omega) (by omega) (by omega) _ _ _ _ 2 3 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay31]
    exact tile_eq v ws j0 j1 3 0 x0 x1 (by omega) (by omega) (by omega) (by omega) _ _ _ _ 0 1 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay30]
    exact tile_eq v ws j0 j1 2 3 x0 x1 (by omega) (by omega) (by omega) (by omega) _ _ _ _ 6 7 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay29]
    exact tile_eq v ws j0 j1 2 2 x0 x1 (by omega) (by omega) (by omega) (by omega) _ _ _ _ 4 5 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay28, k0_pay27, k0_pay26]
    exact tile_eq v ws j0 j1 2 1 x0 x1 (by omega) (by omega) (by omega) (by omega) _ _ _ _ 2 3 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay25]
    exact tile_eq v ws j0 j1 2 0 x0 x1 (by omega) (by omega) (by omega) (by omega) _ _ _ _ 0 1 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay24]
    exact tile_eq v ws j0 j1 1 3 x0 x1 (by omega) (by omega) (by omega) (by omega) _ _ _ _ 6 7 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay23]
    exact tile_eq v ws j0 j1 1 2 x0 x1 (by omega) (by omega) (by omega) (by omega) _ _ _ _ 4 5 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay22]
    exact tile_eq v ws j0 j1 1 1 x0 x1 (by omega) (by omega) (by omega) (by omega) _ _ _ _ 2 3 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay21, k0_pay20]
    exact tile_eq v ws j0 j1 1 0 x0 x1 (by omega) (by omega) (by omega) (by omega) _ _ _ _ 0 1 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay19]
    exact tile_eq v ws j0 j1 0 3 x0 x1 (by omega) (by omega) (by omega) (by omega) _ _ _ _ 6 7 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay18]
    exact tile_eq v ws j0 j1 0 2 x0 x1 (by omega) (by omega) (by omega) (by omega) _ _ _ _ 4 5 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay17, k0_pay16]
    exact tile_eq v ws j0 j1 0 1 x0 x1 (by omega) (by omega) (by omega) (by omega) _ _ _ _ 2 3 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))
  · pointwise [k0_pay15]
    exact tile_eq v ws j0 j1 0 0 x0 x1 (by omega) (by omega) (by omega) (by omega) _ _ _ _ 0 1 rfl rfl (fun s => rfl) (fun s => rfl)
      (fun s => congrArg _ (ix2_congr (by first | rfl | (dsimp only; omega)) (by dsimp only; omega))) (fun s => congrArg _ (ix2_congr (by first | rfl | (dsimp only; omega)) (by dsimp only; omega)))

/-! ## What the call computes, a token at a time -/

/-- The state space's output, gated. -/
def YA (y : FVec Ideal S4x16384x128 .f32) (w : FVec Ideal S512x512 .f32) (q : Fin 16384) (k : Fin 512) : EReal :=
  y (ix3 ⟨k.val / 128, by omega⟩ q ⟨k.val % 128, by omega⟩)
    * Ideal.logistic (∑ d : Fin 512, y (ix3 ⟨d.val / 128, by omega⟩ q ⟨d.val % 128, by omega⟩) * w (ix2 d k))

/-- The gating half, layer-normed. -/
def VN (p : FVec Ideal S16384x1024 .bf16) (g b : FVec Ideal S512 .f32) (q : Fin 16384) (k : Fin 512) : EReal :=
  lnorm (fun k => gelu (p (ix2 q ⟨512 + k.val, by omega⟩))) (fun k => g (ix1 k)) (fun k => b (ix1 k)) k

/-- A weight of the mixing, none from a later position. -/
def WM (w : FVec Ideal S8x128x128 .f32) (h : Fin 8) (t s : Fin 128) : EReal := if s.val ≤ t.val then w (ix3 h t s) else 0

/-- The spatial gating unit. -/
def YB (p : FVec Ideal S16384x1024 .bf16) (g b : FVec Ideal S512 .f32) (w : FVec Ideal S8x128x128 .f32) (sb : FVec Ideal S8x128 .f32)
    (q : Fin 16384) (k : Fin 512) : EReal :=
  gelu (p (ix2 q ⟨k.val, by omega⟩))
    * (∑ s : Fin 128, WM w ⟨k.val / 64, by omega⟩ ⟨q.val % 128, by omega⟩ s * VN p g b ⟨q.val / 128 * 128 + s.val, by omega⟩ k
      + sb (ix2 ⟨k.val / 64, by omega⟩ ⟨q.val % 128, by omega⟩))

/-- The out-projection. -/
def MX (y : FVec Ideal S4x16384x128 .f32) (p : FVec Ideal S16384x1024 .bf16) (wg : FVec Ideal S512x512 .f32) (g b : FVec Ideal S512 .f32)
    (w : FVec Ideal S8x128x128 .f32) (sb : FVec Ideal S8x128 .f32) (wo : FVec Ideal S1024x1024 .f32) (q : Fin 16384) (l : Fin 1024) : EReal :=
  ∑ k : Fin 512, YA y wg q k * wo (ix2 ⟨k.val, by omega⟩ l) + ∑ k : Fin 512, YB p g b w sb q k * wo (ix2 ⟨512 + k.val, by omega⟩ l)

/-! ## The arrays the host prepares -/

/-- The mixing's weights, none from a later position. -/
def hWs (w : FVec Ideal S8x128x128 .f32) : FVec Ideal S8x128x128 .bf16 :=
  truncf .bf16 (select (broadcastInDim S8x128x128 ![0, 1, 2] bcast_S1x128x128_S8x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1)))))
    w (broadcastInDim S8x128x128 ![] bcast_S_S8x128x128 (id (constant (F := Ideal) S_ .f32 0x00000000#32)))) bitsLt_bf16_f32

/-- The bias, every head's repeated over its 64 columns. -/
def hB (b : FVec Ideal S8x128 .f32) : FVec Ideal S128x512 .f32 :=
  shapeCast S128x512 (broadcastInDim S128x8x64 ![0, 1] bcast_S128x8_S128x8x64_0_1 (transpose S128x8 [1, 0] b transposes_S8x128_S128x8_1_0)) shapeCasts_S128x8x64_S128x512

theorem tril_at (t s : Fin 128) :
    (cmpi .sge (addi (iotaInDim S128x128 32 0) (broadcastInDim S128x128 ![] bcast_S_S128x128 (constantI S_ 32 0#32))) (iotaInDim S128x128 32 1)) (ix2 t s)
      = if s.val ≤ t.val then 1#1 else 0#1 := by
  revert t s
  decide +kernel

theorem hWs_at (w : FVec Ideal S8x128x128 .f32) (h : Fin 8) (t s : Fin 128) : hWs w (ix3 h t s) = WM w h t s := by
  have e := tril_at t s
  unfold hWs WM
  generalize cmpi .sge (addi (iotaInDim S128x128 32 0) (broadcastInDim S128x128 ![] bcast_S_S128x128 (constantI S_ 32 0#32))) (iotaInDim S128x128 32 1) = cm at *
  pointwise []
  rw [e]
  split
  · rfl
  · exact Ideal.ofBits_zero_f32

theorem hB_at (b : FVec Ideal S8x128 .f32) (t : Fin 128) (k : Fin 512) : hB b (ix2 t k) = b (ix2 ⟨k.val / 64, by omega⟩ t) := by
  pointwise [hB]

/-- The out-projection's first and last 512 rows. -/
def hWa (w : FVec Ideal S1024x1024 .f32) : FVec Ideal S512x1024 .bf16 :=
  extractStridedSlice S512x1024 ![0, 0] (truncf .bf16 w bitsLt_bf16_f32) slices_S1024x1024_S512x1024_0_0
def hWb (w : FVec Ideal S1024x1024 .f32) : FVec Ideal S512x1024 .bf16 :=
  extractStridedSlice S512x1024 ![512, 0] (truncf .bf16 w bitsLt_bf16_f32) slices_S1024x1024_S512x1024_512_0

theorem V4 (c : Dev nD) : V m c main_v4 = hWs (m ((c : Thread nD τ).loc main_arg6)) := by
  simp only [V, hostOps0, hostOps0_1, hostOps0_2, hostOps0_3, hostOps0_4, List.flatten_cons, List.flatten_nil, List.append_nil, List.cons_append, List.nil_append]
  after_results_simp
  rfl

theorem V7 (c : Dev nD) : V m c main_v7 = hB (m ((c : Thread nD τ).loc main_arg7)) := by
  simp only [V, hostOps0, hostOps0_1, hostOps0_2, hostOps0_3, hostOps0_4, List.flatten_cons, List.flatten_nil, List.append_nil, List.cons_append, List.nil_append]
  after_results_simp
  rfl

theorem V12 (c : Dev nD) : V m c main_v12 = hWa (m ((c : Thread nD τ).loc main_arg8)) := by
  simp only [V, hostOps0, hostOps0_1, hostOps0_2, hostOps0_3, hostOps0_4, List.flatten_cons, List.flatten_nil, List.append_nil, List.cons_append, List.nil_append]
  after_results_simp
  rfl

theorem V13 (c : Dev nD) : V m c main_v13 = hWb (m ((c : Thread nD τ).loc main_arg8)) := by
  simp only [V, hostOps0, hostOps0_1, hostOps0_2, hostOps0_3, hostOps0_4, List.flatten_cons, List.flatten_nil, List.append_nil, List.cons_append, List.nil_append]
  after_results_simp
  rfl

theorem V9 (c : Dev nD) : V m c main_v9 = (truncf .bf16 (show FVec Ideal S512x512 .f32 from m ((c : Thread nD τ).loc main_arg3)) bitsLt_bf16_f32) := by
  simp only [V, hostOps0, hostOps0_1, hostOps0_2, hostOps0_3, hostOps0_4, List.flatten_cons, List.flatten_nil, List.append_nil, List.cons_append, List.nil_append]
  after_results_simp

theorem V10 (c : Dev nD) : V m c main_v10 = shapeCast S1x512 (show FVec Ideal S512 .f32 from m ((c : Thread nD τ).loc main_arg4)) shapeCasts_S512_S1x512 := by
  simp only [V, hostOps0, hostOps0_1, hostOps0_2, hostOps0_3, hostOps0_4, List.flatten_cons, List.flatten_nil, List.append_nil, List.cons_append, List.nil_append]
  after_results_simp
  rfl

theorem V11 (c : Dev nD) : V m c main_v11 = shapeCast S1x512 (show FVec Ideal S512 .f32 from m ((c : Thread nD τ).loc main_arg5)) shapeCasts_S512_S1x512 := by
  simp only [V, hostOps0, hostOps0_1, hostOps0_2, hostOps0_3, hostOps0_4, List.flatten_cons, List.flatten_nil, List.append_nil, List.cons_append, List.nil_append]
  after_results_simp
  rfl

theorem V14 (c : Dev nD) : V m c main_v14 = shapeCast S1x1024 (show FVec Ideal S1024 .f32 from m ((c : Thread nD τ).loc main_arg9)) shapeCasts_S1024_S1x1024 := by
  simp only [V, hostOps0, hostOps0_1, hostOps0_2, hostOps0_3, hostOps0_4, List.flatten_cons, List.flatten_nil, List.append_nil, List.cons_append, List.nil_append]
  after_results_simp
  rfl

theorem V15 (c : Dev nD) : V m c main_v15 = shapeCast S1x1024 (show FVec Ideal S1024 .f32 from m ((c : Thread nD τ).loc main_arg10)) shapeCasts_S1024_S1x1024 := by
  simp only [V, hostOps0, hostOps0_1, hostOps0_2, hostOps0_3, hostOps0_4, List.flatten_cons, List.flatten_nil, List.append_nil, List.cons_append, List.nil_append]
  after_results_simp
  rfl

/-! ## The blocks a grid point reads -/

theorem idx : ∀ t : Fin cfg0.N, win0_0.index t = ![0, t.val, 0] ∧ win0_1.index t = ![t.val, 0] ∧ win0_2.index t = ![t.val, 1]
    ∧ win0_3.index t = ![t.val, 0] ∧ win0_4.index t = ![0, 0] ∧ win0_5.index t = ![0, 0] ∧ win0_6.index t = ![0, 0]
    ∧ win0_7.index t = ![0, 0, 0] ∧ win0_8.index t = ![0, 0] ∧ win0_9.index t = ![0, 0] ∧ win0_10.index t = ![0, 0]
    ∧ win0_11.index t = ![0, 0] ∧ win0_12.index t = ![0, 0] ∧ win0_13.index t = ![t.val, 0] ∧ win0_14.index t = ![t.val, 0] :=
  (by decide +kernel : ∀ t : Fin grid0.N, _)

theorem y_at (c : Dev nD) (t : Fin cfg0.N) (a : Fin 4) (r : Fin 512) (l : Fin 128) (q : Fin 16384) (hq : q.val = t.val * 512 + r.val) :
    (show FVec Ideal S4x512x128 .f32 from iblk m c 0 t) (ix3 a r l) = (m ((c : Thread nD τ).loc main_arg0)) (ix3 a q l) := by
  rw [← V_main_arg0 m c]
  blk_point [iblk, idx t]

theorem u_at (c : Dev nD) (t : Fin cfg0.N) (r l : Fin 512) (q : Fin 16384) (hq : q.val = t.val * 512 + r.val) :
    (show FVec Ideal S512x512 .bf16 from iblk m c 1 t) (ix2 r l) = (m ((c : Thread nD τ).loc main_arg1)) (ix2 q ⟨l.val, by omega⟩) := by
  rw [← V_main_arg1 m c]
  blk_point [iblk, idx t]

theorem v_at (c : Dev nD) (t : Fin cfg0.N) (r l : Fin 512) (q : Fin 16384) (hq : q.val = t.val * 512 + r.val) :
    (show FVec Ideal S512x512 .bf16 from iblk m c 2 t) (ix2 r l) = (m ((c : Thread nD τ).loc main_arg1)) (ix2 q ⟨512 + l.val, by omega⟩) := by
  rw [← V_main_arg1 m c]
  blk_point [iblk, idx t]

theorem h_at (c : Dev nD) (t : Fin cfg0.N) (r : Fin 512) (l : Fin 1024) (q : Fin 16384) (hq : q.val = t.val * 512 + r.val) :
    (show FVec Ideal S512x1024 .f32 from iblk m c 3 t) (ix2 r l) = (m ((c : Thread nD τ).loc main_arg2)) (ix2 q l) := by
  rw [← V_main_arg2 m c]
  blk_point [iblk, idx t]

theorem wg_at (c : Dev nD) (t : Fin cfg0.N) (d l : Fin 512) :
    (show FVec Ideal S512x512 .bf16 from iblk m c 4 t) (ix2 d l) = (m ((c : Thread nD τ).loc main_arg3)) (ix2 d l) := by
  refine Eq.trans ?_ (congrFun (V9 m c) (ix2 d l))
  blk_point [iblk, idx t]

theorem lg_at (c : Dev nD) (t : Fin cfg0.N) (l : Fin 512) :
    (show FVec Ideal S1x512 .f32 from iblk m c 5 t) (ix2 0 l) = (m ((c : Thread nD τ).loc main_arg4)) (ix1 l) := by
  refine Eq.trans ?_ ((congrFun (V10 m c) (ix2 0 l)).trans (by pointwise []))
  blk_point [iblk, idx t]

theorem lb_at (c : Dev nD) (t : Fin cfg0.N) (l : Fin 512) :
    (show FVec Ideal S1x512 .f32 from iblk m c 6 t) (ix2 0 l) = (m ((c : Thread nD τ).loc main_arg5)) (ix1 l) := by
  refine Eq.trans ?_ ((congrFun (V11 m c) (ix2 0 l)).trans (by pointwise []))
  blk_point [iblk, idx t]

theorem ws_at (c : Dev nD) (t : Fin cfg0.N) (h : Fin 8) (a s : Fin 128) :
    (show FVec Ideal S8x128x128 .bf16 from iblk m c 7 t) (ix3 h a s) = WM (m ((c : Thread nD τ).loc main_arg6)) h a s := by
  refine Eq.trans ?_ ((congrFun (V4 m c) (ix3 h a s)).trans (hWs_at _ h a s))
  blk_point [iblk, idx t]

theorem sb_at (c : Dev nD) (t : Fin cfg0.N) (a : Fin 128) (k : Fin 512) :
    (show FVec Ideal S128x512 .f32 from iblk m c 8 t) (ix2 a k) = (m ((c : Thread nD τ).loc main_arg7)) (ix2 ⟨k.val / 64, by omega⟩ a) := by
  refine Eq.trans ?_ ((congrFun (V7 m c) (ix2 a k)).trans (hB_at _ a k))
  blk_point [iblk, idx t]

theorem wa_at (c : Dev nD) (t : Fin cfg0.N) (k : Fin 512) (l : Fin 1024) :
    (show FVec Ideal S512x1024 .bf16 from iblk m c 9 t) (ix2 k l) = (m ((c : Thread nD τ).loc main_arg8)) (ix2 ⟨k.val, by omega⟩ l) := by
  refine Eq.trans ?_ ((congrFun (V12 m c) (ix2 k l)).trans (by pointwise [hWa]))
  blk_point [iblk, idx t]

theorem wb_at (c : Dev nD) (t : Fin cfg0.N) (k : Fin 512) (l : Fin 1024) :
    (show FVec Ideal S512x1024 .bf16 from iblk m c 10 t) (ix2 k l) = (m ((c : Thread nD τ).loc main_arg8)) (ix2 ⟨512 + k.val, by omega⟩ l) := by
  refine Eq.trans ?_ ((congrFun (V13 m c) (ix2 k l)).trans (by pointwise [hWb]))
  blk_point [iblk, idx t]

theorem g1_at (c : Dev nD) (t : Fin cfg0.N) (l : Fin 1024) :
    (show FVec Ideal S1x1024 .f32 from iblk m c 11 t) (ix2 0 l) = (m ((c : Thread nD τ).loc main_arg9)) (ix1 l) := by
  refine Eq.trans ?_ ((congrFun (V14 m c) (ix2 0 l)).trans (by pointwise []))
  blk_point [iblk, idx t]

theorem g2_at (c : Dev nD) (t : Fin cfg0.N) (l : Fin 1024) :
    (show FVec Ideal S1x1024 .f32 from iblk m c 12 t) (ix2 0 l) = (m ((c : Thread nD τ).loc main_arg10)) (ix1 l) := by
  refine Eq.trans ?_ ((congrFun (V15 m c) (ix2 0 l)).trans (by pointwise []))
  blk_point [iblk, idx t]

theorem cat_at (c : Dev nD) (t : Fin cfg0.N) (r k : Fin 512) (q : Fin 16384) (hq : q.val = t.val * 512 + r.val) :
    cat4 (View.ld (iblk m c 0 t) (Rect.unit ![0, 0, 0] ![1, 512, 128] inb_S4x512x128_S1x512x128_0_0_0))
      (View.ld (iblk m c 0 t) (Rect.unit ![1, 0, 0] ![1, 512, 128] inb_S4x512x128_S1x512x128_1_0_0))
      (View.ld (iblk m c 0 t) (Rect.unit ![2, 0, 0] ![1, 512, 128] inb_S4x512x128_S1x512x128_2_0_0))
      (View.ld (iblk m c 0 t) (Rect.unit ![3, 0, 0] ![1, 512, 128] inb_S4x512x128_S1x512x128_3_0_0)) r k
      = (m ((c : Thread nD τ).loc main_arg0)) (ix3 ⟨k.val / 128, by omega⟩ q ⟨k.val % 128, by omega⟩) := by
  rw [← y_at m c t _ r _ q hq]
  unfold cat4
  generalize (iblk m c 0 t : FVec Ideal S4x512x128 .f32) = y
  have e : ∀ (i i' : S4x512x128.Idx), (∀ a, (i a).val = (i' a).val) → y i = y i' := fun i i' h => congrArg y (funext fun a => Fin.ext (h a))
  split
  · refine e _ _ fun a => ?_
    fin_cases a <;> simp [Rect.idx_unit_val] <;> omega
  split
  · refine e _ _ fun a => ?_
    fin_cases a <;> simp [Rect.idx_unit_val] <;> omega
  split
  · refine e _ _ fun a => ?_
    fin_cases a <;> simp [Rect.idx_unit_val] <;> omega
  · refine e _ _ fun a => ?_
    fin_cases a <;> simp [Rect.idx_unit_val] <;> omega

/-! ## The block's results -/

theorem vn_at (c : Dev nD) (t : Fin cfg0.N) (r k : Fin 512) (q : Fin 16384) (hq : q.val = t.val * 512 + r.val) :
    vn m c t (ix2 r k) = VN (m ((c : Thread nD τ).loc main_arg1)) (m ((c : Thread nD τ).loc main_arg4)) (m ((c : Thread nD τ).loc main_arg5)) q k := by
  refine (pay8_at _ _ _ r k).trans ?_
  unfold VN
  congr 1
  · exact funext fun k => congrArg gelu (v_at m c t r k q hq)
  · exact funext fun k => lg_at m c t k
  · exact funext fun k => lb_at m c t k

theorem sg_at (c : Dev nD) (t : Fin cfg0.N) (r k : Fin 512) (q : Fin 16384) (hq : q.val = t.val * 512 + r.val) :
    sg (vn m c t) (iblk m c 7 t) (ix2 r k) = ∑ s : Fin 128, WM (m ((c : Thread nD τ).loc main_arg6)) ⟨k.val / 64, by omega⟩ ⟨q.val % 128, by omega⟩ s
      * VN (m ((c : Thread nD τ).loc main_arg1)) (m ((c : Thread nD τ).loc main_arg4)) (m ((c : Thread nD τ).loc main_arg5)) ⟨q.val / 128 * 128 + s.val, by omega⟩ k := by
  refine Finset.sum_congr rfl fun s _ => Ideal.mul_congr ?_ ?_
  · refine (ws_at m c t _ _ s).trans (congrArg (fun a => WM _ _ a s) (Fin.ext ?_))
    show r.val % 128 = q.val % 128
    omega
  · refine vn_at m c t _ k _ ?_
    show q.val / 128 * 128 + s.val = t.val * 512 + (r.val / 128 * 128 + s.val)
    omega

theorem mix_at (c : Dev nD) (t : Fin cfg0.N) (r : Fin 512) (l : Fin 1024) (q : Fin 16384) (hq : q.val = t.val * 512 + r.val) :
    mix m c t (sg (vn m c t) (iblk m c 7 t)) (ix2 r l) = MX (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) q l := by
  refine (pay36_at _ _ _ _ _ _ r l).trans (congrArg₂ (· + ·) (Finset.sum_congr rfl fun k _ => Ideal.mul_congr ?_ (wa_at m c t k l))
    (Finset.sum_congr rfl fun k _ => Ideal.mul_congr (Ideal.mul_congr ?_ (congrArg₂ (· + ·) (sg_at m c t r k q hq) ?_)) (wb_at m c t k l)))
  · refine (pay3_at _ _ _ _ _ r k).trans ?_
    simp only [cat_at m c t r _ q hq]
    exact Ideal.mul_congr rfl (congrArg Ideal.logistic (Finset.sum_congr rfl fun d _ => Ideal.mul_congr rfl (wg_at m c t d k)))
  · exact (pay4_at _ r k).trans (congrArg gelu (u_at m c t r k q hq))
  · refine (sb_at m c t _ k).trans (congrArg _ (ix2_congr rfl ?_))
    show r.val % 128 = q.val % 128
    omega

/-- The residual plus the normed out-projection. -/
def H (y : FVec Ideal S4x16384x128 .f32) (p : FVec Ideal S16384x1024 .bf16) (h : FVec Ideal S16384x1024 .f32) (wg : FVec Ideal S512x512 .f32)
    (g b : FVec Ideal S512 .f32) (w : FVec Ideal S8x128x128 .f32) (sb : FVec Ideal S8x128 .f32) (wo : FVec Ideal S1024x1024 .f32)
    (g1 : FVec Ideal S1024 .f32) : FVec Ideal S16384x1024 .f32 :=
  fun i => h (ix2 (i 0) (i 1)) + rms (MX y p wg g b w sb wo (i 0)) (fun k => g1 (ix1 k)) (i 1)

/-- The same, normed for the feed-forward. -/
def Z (h : FVec Ideal S16384x1024 .f32) (g2 : FVec Ideal S1024 .f32) : FVec Ideal S16384x1024 .bf16 :=
  fun i => rms (fun k => h (ix2 (i 0) k)) (fun k => g2 (ix1 k)) (i 1)

theorem h_pt (c : Dev nD) (t : Fin cfg0.N) (r : Fin 512) (l : Fin 1024) (q : Fin 16384) (hq : q.val = t.val * 512 + r.val) :
    k0_pay1 (F := Ideal) (mix m c t (sg (vn m c t) (iblk m c 7 t))) (iblk m c 3 t) (k0_pay37 (iblk m c 11 t)) (ix2 r l)
      = H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 q l) := by
  refine (pay1_at _ _ _ r l).trans (congrArg₂ (· + ·) (h_at m c t r l q hq) ?_)
  exact congrArg₂ (fun x g => rms x g l) (funext fun k => mix_at m c t r k q hq) (funext fun k => g1_at m c t k)

theorem out13 (c : Dev nD) (t : Fin cfg0.N) (r : Fin 512) (l : Fin 1024) (q : Fin 16384) (hq : q.val = t.val * 512 + r.val) :
    (outsAt0 m c t).1 (ix2 r l) = H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 q l) := by
  obtain ⟨s, h1, -, hs⟩ := outs_ex m c t
  rw [h1, hs]
  exact h_pt m c t r l q hq

theorem out14 (c : Dev nD) (t : Fin cfg0.N) (r : Fin 512) (l : Fin 1024) (q : Fin 16384) (hq : q.val = t.val * 512 + r.val) :
    (outsAt0 m c t).2 (ix2 r l) = Z (H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (ix2 q l) := by
  obtain ⟨s, -, h2, hs⟩ := outs_ex m c t
  rw [h2, hs]
  refine (pay2_at _ _ _ _ r l).trans ?_
  exact congrArg₂ (fun x g => rms x g l) (funext fun k => h_pt m c t r k q hq) (funext fun k => g2_at m c t k)

theorem emb13 (t : Fin cfg0.N) (y0 : Fin 512) (y1 : Fin 1024) : ∃ q : Fin 16384, q.val = t.val * 512 + y0.val ∧
    ((cfg0.win 13).blk t).view.emb (ix2 y0 y1 : S512x1024.Idx) = (ix2 q y1 : S16384x1024.Idx) := by
  have ht : t.val < 32 := lt_of_lt_of_eq t.isLt N_0
  refine ⟨⟨t.val * 512 + y0.val, by have := y0.isLt; omega⟩, rfl, ?_⟩
  blk_ext [idx t]

theorem emb14 (t : Fin cfg0.N) (y0 : Fin 512) (y1 : Fin 1024) : ∃ q : Fin 16384, q.val = t.val * 512 + y0.val ∧
    ((cfg0.win 14).blk t).view.emb (ix2 y0 y1 : S512x1024.Idx) = (ix2 q y1 : S16384x1024.Idx) := by
  have ht : t.val < 32 := lt_of_lt_of_eq t.isLt N_0
  refine ⟨⟨t.val * 512 + y0.val, by have := y0.isLt; omega⟩, rfl, ?_⟩
  blk_ext [idx t]

theorem final13 (c : Dev nD) : (dats m 0 c).arrAt 13 cfg0.N = H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t hf y => ?_
  blk_simp
  rw [after0_13]
  idx_vars y
  obtain ⟨q, hq, he⟩ := emb13 t y0 y1
  exact (out13 m c t y0 y1 q hq).trans (congrArg (H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) he.symm)

theorem final14 (c : Dev nD) : (dats m 0 c).arrAt 14 cfg0.N = Z (H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) := by
  refine (dats m 0 c).arrAt_eq_of_covers 14 _ (by decide +kernel) fun t hf y => ?_
  blk_simp
  rw [after0_14]
  idx_vars y
  obtain ⟨q, hq, he⟩ := emb14 t y0 y1
  exact (out14 m c t y0 y1 q hq).trans (congrArg (Z (H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10))) he.symm)

end Cert.Kernel4Ideal.EvenMix

end
-- ==== Proof.EvenMixRef.lean ====
module

public import proofs.«01_k».proof.Proof.EvenMix
public import proofs.«01_k».proof.Proof.Gen.Reference4Ideal.Run
public import Idealize.ShloMosaic.Lib.Routing.OpsOne
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference4Ideal.EvenMixRef

open Cert.Reference4Ideal Cert.Reference4Ideal.Gen Cert.Reference4Ideal.Value
open Cert.Kernel4Ideal.EvenMix (gelu cen lnorm rms YA VN WM YB MX H Z)

/-! ## The reference's steps, each on its own arrays -/

/-- The gate of the state space's output. -/
def tA (y : FVec Ideal S16384x512 .f32) (w : FVec Ideal S512x512 .f32) : FVec Ideal S16384x512 .f32 :=
  mulf y (Host.divf (broadcastInDim S16384x512 ![] bcast_S_S16384x512 (constant (F := Ideal) S_ .f32 0x3F800000#32)) (addf (broadcastInDim S16384x512 ![] bcast_S_S16384x512 (constant (F := Ideal) S_ .f32 0x3F800000#32)) (Host.exp (Host.negf (Host.dotGeneral dot_S16384x512_S512x512_S16384x512_1_0_0_1_n_n none y w)))))

theorem tA_at (y : FVec Ideal S16384x512 .f32) (w : FVec Ideal S512x512 .f32) (q : Fin 16384) (k : Fin 512) :
    tA y w (ix2 q k) = y (ix2 q k) * Ideal.logistic (∑ d : Fin 512, y (ix2 q d) * w (ix2 d k)) := by
  pointwise [tA]
  rfl

/-- The gelu. -/
def tG (x : FVec Ideal S16384x512 .f32) : FVec Ideal S16384x512 .f32 :=
  mulf x (mulf (broadcastInDim S16384x512 ![] bcast_S_S16384x512 (constant (F := Ideal) S_ .f32 0x3F000000#32)) (addf (broadcastInDim S16384x512 ![] bcast_S_S16384x512 (constant (F := Ideal) S_ .f32 0x3F800000#32)) (Host.tanh (mulf (broadcastInDim S16384x512 ![] bcast_S_S16384x512 (constant (F := Ideal) S_ .f32 0x3F4C422A#32)) (addf x (mulf (broadcastInDim S16384x512 ![] bcast_S_S16384x512 (constant (F := Ideal) S_ .f32 0x3D372713#32)) (mulf (mulf x x) x)))))))

theorem tG_at (x : FVec Ideal S16384x512 .f32) (q : Fin 16384) (k : Fin 512) : tG x (ix2 q k) = gelu (x (ix2 q k)) := by
  pointwise [tG, gelu]
  rw [mul_comm (x (ix2 q k) * x (ix2 q k)) (x (ix2 q k))]

/-- The rows less their means. -/
def tC (x : FVec Ideal S16384x512 .f32) : FVec Ideal S16384x512 .f32 :=
  subf x (broadcastInDim S16384x512 ![0, 1] bcast_S16384x1_S16384x512_0_1 (Host.divf (broadcastInDim S16384x1 ![0] bcast_S16384_S16384x1_0 (Host.reduceAdd x (constant (F := Ideal) S_ .f32 0x00000000#32) reducesTo_S16384x512_S16384_d1 h_S_)) (broadcastInDim S16384x1 ![] bcast_S_S16384x1 (constant (F := Ideal) S_ .f32 0x44000000#32))))

theorem tC_at (x : FVec Ideal S16384x512 .f32) (q : Fin 16384) (k : Fin 512) : tC x (ix2 q k) = cen (fun k => x (ix2 q k)) k := by
  pointwise [tC, cen]

/-- The centred rows over their deviations, times the gain, plus the shift. -/
def tL (x : FVec Ideal S16384x512 .f32) (g b : FVec Ideal S512 .f32) : FVec Ideal S16384x512 .f32 :=
  addf (mulf (mulf x (broadcastInDim S16384x512 ![0, 1] bcast_S16384x1_S16384x512_0_1 (Host.rsqrt (addf (Host.divf (broadcastInDim S16384x1 ![0] bcast_S16384_S16384x1_0 (Host.reduceAdd (mulf x x) (constant (F := Ideal) S_ .f32 0x00000000#32) reducesTo_S16384x512_S16384_d1 h_S_)) (broadcastInDim S16384x1 ![] bcast_S_S16384x1 (constant (F := Ideal) S_ .f32 0x44000000#32))) (broadcastInDim S16384x1 ![] bcast_S_S16384x1 (constant (F := Ideal) S_ .f32 0x358637BD#32)))))) (broadcastInDim S16384x512 ![0, 1] bcast_S1x512_S16384x512_0_1 (broadcastInDim S1x512 ![1] bcast_S512_S1x512_1 g))) (broadcastInDim S16384x512 ![0, 1] bcast_S1x512_S16384x512_0_1 (broadcastInDim S1x512 ![1] bcast_S512_S1x512_1 b))

theorem tL_at (x : FVec Ideal S16384x512 .f32) (g b : FVec Ideal S512 .f32) (q : Fin 16384) (k : Fin 512) :
    tL (tC x) g b (ix2 q k) = lnorm (fun k => x (ix2 q k)) (fun k => g (ix1 k)) (fun k => b (ix1 k)) k := by
  have e : ∀ k, tC x (ix2 q k) = cen (fun k => x (ix2 q k)) k := tC_at x q
  generalize tC x = y at *
  pointwise [tL]
  simp only [e]
  rfl

/-- The mixing's weights, none from a later position. -/
def tW (w : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) w (broadcastInDim S8x128x128 ![] bcast_S_S8x128x128 (id (constant (F := Ideal) S_ .f32 0x00000000#32)))

theorem tW_at (w : FVec Ideal S8x128x128 .f32) (h : Fin 8) (t s : Fin 128) : tW w (ix3 h t s) = WM w h t s :=
  Cert.Kernel4Ideal.EvenMix.hWs_at w h t s

/-- The mixing of a chunk's positions, and its bias. -/
def tS (v : FVec Ideal S16384x512 .f32) (w : FVec Ideal S8x128x128 .f32) (b : FVec Ideal S8x128 .f32) : FVec Ideal S16384x512 .f32 :=
  shapeCast _ (addf (transpose S128x128x8x64 [1, 3, 0, 2] (Host.dotGeneral dot_S128x128x8x64_S8x128x128_S8x128x64x128_1_2_03_1_2_0 none (shapeCast _ v shapeCasts_S16384x512_S128x128x8x64) w) transposes_S8x128x64x128_S128x128x8x64_1_3_0_2) (broadcastInDim S128x128x8x64 ![0, 1, 2, 3] bcast_S1x128x8x1_S128x128x8x64_0_1_2_3 (broadcastInDim S1x128x8x1 ![1, 2] bcast_S128x8_S1x128x8x1_1_2 (transpose S128x8 [1, 0] b transposes_S8x128_S128x8_1_0)))) shapeCasts_S128x128x8x64_S16384x512

theorem tS_at (v : FVec Ideal S16384x512 .f32) (w : FVec Ideal S8x128x128 .f32) (b : FVec Ideal S8x128 .f32) (q : Fin 16384) (k : Fin 512) :
    tS v w b (ix2 q k) = ∑ s : Fin 128, w (ix3 ⟨k.val / 64, by omega⟩ ⟨q.val % 128, by omega⟩ s) * v (ix2 ⟨q.val / 128 * 128 + s.val, by omega⟩ k)
      + b (ix2 ⟨k.val / 64, by omega⟩ ⟨q.val % 128, by omega⟩) := by
  pointwise [tS]
  exact congrArg (· + _) (Finset.sum_congr rfl fun s _ => mul_comm _ _)

/-- The out-projection of the two gated halves side by side. -/
def tM (a b : FVec Ideal S16384x512 .f32) (w : FVec Ideal S1024x1024 .f32) : FVec Ideal S16384x1024 .f32 :=
  Host.dotGeneral dot_S16384x1024_S1024x1024_S16384x1024_1_0_0_1_n_n none (concatenate S16384x1024 1 [⟨S16384x512, a⟩, ⟨S16384x512, b⟩] concatenates_S16384x512_S16384x512_S16384x1024_d1) w

theorem tM_at (a b : FVec Ideal S16384x512 .f32) (w : FVec Ideal S1024x1024 .f32) (q : Fin 16384) (l : Fin 1024) :
    tM a b w (ix2 q l) = ∑ k : Fin 512, a (ix2 q k) * w (ix2 ⟨k.val, by omega⟩ l) + ∑ k : Fin 512, b (ix2 q k) * w (ix2 ⟨512 + k.val, by omega⟩ l) := by
  pointwise [tM]

/-! ## The reference's results -/

variable (V0 : Valuation τ sig (Elt Ideal))

theorem y_at (q : Fin 16384) (k : Fin 512) : res_main_v1 V0 (ix2 q k) = V0 (Proc.devRef .tc main_arg0) (ix3 ⟨k.val / 128, by omega⟩ q ⟨k.val % 128, by omega⟩) := by
  pointwise [res_main_v1]

theorem u_at (q : Fin 16384) (k : Fin 512) : res_main_v11 V0 (ix2 q k) = V0 (Proc.devRef .tc main_arg1) (ix2 q ⟨k.val, by omega⟩) := by
  pointwise [res_main_v11, res_main_v10]

theorem v_at (q : Fin 16384) (k : Fin 512) : res_main_v25 V0 (ix2 q k) = V0 (Proc.devRef .tc main_arg1) (ix2 q ⟨512 + k.val, by omega⟩) := by
  pointwise [res_main_v25, res_main_v10]

theorem v75_eq : res_main_v75 V0 = tM (tA (res_main_v1 V0) (V0 (Proc.devRef .tc main_arg3)))
    (mulf (tG (res_main_v11 V0)) (tS (tL (tC (tG (res_main_v25 V0))) (V0 (Proc.devRef .tc main_arg4)) (V0 (Proc.devRef .tc main_arg5)))
      (tW (V0 (Proc.devRef .tc main_arg6))) (V0 (Proc.devRef .tc main_arg7)))) (V0 (Proc.devRef .tc main_arg8)) := by
  rfl

theorem mx_at (q : Fin 16384) (l : Fin 1024) : res_main_v75 V0 (ix2 q l)
    = MX (V0 (Proc.devRef .tc main_arg0)) (V0 (Proc.devRef .tc main_arg1)) (V0 (Proc.devRef .tc main_arg3)) (V0 (Proc.devRef .tc main_arg4))
      (V0 (Proc.devRef .tc main_arg5)) (V0 (Proc.devRef .tc main_arg6)) (V0 (Proc.devRef .tc main_arg7)) (V0 (Proc.devRef .tc main_arg8)) q l := by
  refine (congrFun (v75_eq V0) (ix2 q l)).trans ((tM_at _ _ _ q l).trans (congrArg₂ (· + ·)
    (Finset.sum_congr rfl fun k _ => Ideal.mul_congr ?_ rfl) (Finset.sum_congr rfl fun k _ => Ideal.mul_congr (Ideal.mul_congr ?_ ?_) rfl)))
  · refine (tA_at _ _ q k).trans ?_
    simp only [y_at]
    rfl
  · exact (tG_at _ q k).trans (congrArg gelu (u_at V0 q k))
  · refine (tS_at _ _ _ q k).trans (congrArg (· + _) (Finset.sum_congr rfl fun s _ => Ideal.mul_congr (tW_at _ _ _ s) ?_))
    refine (tL_at _ _ _ _ k).trans ?_
    simp only [tG_at, v_at]
    rfl

theorem h_eq : res_main_v89 V0
    = H (V0 (Proc.devRef .tc main_arg0)) (V0 (Proc.devRef .tc main_arg1)) (V0 (Proc.devRef .tc main_arg2)) (V0 (Proc.devRef .tc main_arg3))
      (V0 (Proc.devRef .tc main_arg4)) (V0 (Proc.devRef .tc main_arg5)) (V0 (Proc.devRef .tc main_arg6)) (V0 (Proc.devRef .tc main_arg7))
      (V0 (Proc.devRef .tc main_arg8)) (V0 (Proc.devRef .tc main_arg9)) := by
  have e := mx_at V0
  unfold res_main_v89
  generalize res_main_v75 V0 = x at *
  funext i
  idx_vars i
  pointwise [H, rms]
  simp only [e]

/-- The second result of the reference, from its first. -/
def tZ (h : FVec Ideal S16384x1024 .f32) (g : FVec Ideal S1024 .f32) : FVec Ideal S16384x1024 .bf16 :=
  truncf .bf16 (mulf (mulf h (broadcastInDim S16384x1024 ![0, 1] bcast_S16384x1_S16384x1024_0_1 (Host.rsqrt (addf (Host.divf (broadcastInDim S16384x1 ![0] bcast_S16384_S16384x1_0 (Host.reduceAdd (mulf h h) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1024 ![0, 1] bcast_S1x1024_S16384x1024_0_1 (broadcastInDim S1x1024 ![1] bcast_S1024_S1x1024_1 g))) bitsLt_bf16_f32

theorem z_eq (h : FVec Ideal S16384x1024 .f32) (g : FVec Ideal S1024 .f32) : tZ h g = Z h g := by
  funext i
  idx_vars i
  pointwise [tZ, Z, rms]

end Cert.Reference4Ideal.EvenMixRef

end
-- ==== Proof.EvenMixClaim.lean ====
module

public import proofs.«01_k».proof.Defs
public import proofs.«01_k».proof.Proof.EvenMixRef
public import Idealize.ShloMosaic.Lib.Claim

@[expose] public section

set_option maxRecDepth 16384

noncomputable section

open Idealize.ShloMosaic Idealize.ShloMosaic.TcCoe Idealize.SL.Sem

namespace Cert.Proof

open Cert.Kernel4Ideal.EvenMix Cert.Reference4Ideal.EvenMixRef in
/-- The even layer's mixing computes what its reference computes, both results. -/
theorem even_mix_algebraic : Cert.algebraic_Kernel4Ideal_Reference4Ideal := by
  pair_intro
  · run_from Cert.Kernel4Ideal.Value.run_blocks m g
  · run_from Cert.Reference4Ideal.Value.run m' g'
    · refine (h_eq _).trans (Eq.trans ?_ (final13 m c).symm)
      obtain ⟨a0, a1, a2, a3, a4, a5, a6, a7, a8, a9, a10⟩ := hagree c
      rw [← a0, ← a1, ← a2, ← a3, ← a4, ← a5, ← a6, ← a7, ← a8, ← a9]
    · refine (z_eq _ _).trans (Eq.trans ?_ (final14 m c).symm)
      obtain ⟨a0, a1, a2, a3, a4, a5, a6, a7, a8, a9, a10⟩ := hagree c
      rw [h_eq, ← a0, ← a1, ← a2, ← a3, ← a4, ← a5, ← a6, ← a7, ← a8, ← a9, ← a10]

end Cert.Proof

end
-- ==== Proof.OddHost.lean ====
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.OddIn

open Cert.Kernel5Ideal Cert.Kernel5Ideal.Gen

variable (m : (ℓ : Loc nD τ sig) → Buf (Elt Ideal) ℓ)

/-- The zero the host pads with. -/
abbrev z0 : FVec Ideal S_ .f32 := constant S_ .f32 0x00000000#32

/-! ## The arrays the host prepares -/

/-- The in-projection with the rotated key columns spread out, plain and with their halves exchanged. -/
def hWin (w : FVec Ideal S1024x1440 .f32) : FVec Ideal S1024x1664 .bf16 :=
  let r : FVec Ideal S1024x32 .f32 := extractStridedSlice S1024x32 ![0, 1408] w slices_S1024x1440_S1024x32_0_1408
  truncf .bf16 (concatenate S1024x1664 1 [⟨S1024x1408, extractStridedSlice S1024x1408 ![0, 0] w slices_S1024x1440_S1024x1408_0_0⟩,
    ⟨S1024x64, broadcastInDim S1024x64 ![] bcast_S_S1024x64 z0⟩, ⟨S1024x32, r⟩, ⟨S1024x32, broadcastInDim S1024x32 ![] bcast_S_S1024x32 z0⟩,
    ⟨S1024x64, broadcastInDim S1024x64 ![] bcast_S_S1024x64 z0⟩,
    ⟨S1024x32, concatenate S1024x32 1 [⟨S1024x16, extractStridedSlice S1024x16 ![0, 16] r slices_S1024x32_S1024x16_0_16⟩,
      ⟨S1024x16, extractStridedSlice S1024x16 ![0, 0] r slices_S1024x32_S1024x16_0_0⟩] concatenates_S1024x16_S1024x16_S1024x32_d1⟩,
    ⟨S1024x32, broadcastInDim S1024x32 ![] bcast_S_S1024x32 z0⟩]
    concatenates_S1024x1408_S1024x64_S1024x32_S1024x32_S1024x64_S1024x32_S1024x32_S1024x1664_d1) bitsLt_bf16_f32

/-- The query up-projection with every head padded to 128 columns. -/
def hUq (w : FVec Ideal S256x768 .f32) : FVec Ideal S256x1024 .bf16 :=
  truncf .bf16 (shapeCast S256x1024 (concatenate S256x8x128 2 [⟨S256x8x96, shapeCast S256x8x96 w shapeCasts_S256x768_S256x8x96⟩,
    ⟨S256x8x32, broadcastInDim S256x8x32 ![] bcast_S_S256x8x32 z0⟩] concatenates_S256x8x96_S256x8x32_S256x8x128_d2)
    shapeCasts_S256x8x128_S256x1024) bitsLt_bf16_f32

/-- The rotated columns of the query up-projection with their halves exchanged. -/
def hUqs (w : FVec Ideal S256x768 .f32) : FVec Ideal S256x1024 .bf16 :=
  let v : FVec Ideal S256x8x96 .f32 := shapeCast S256x8x96 w shapeCasts_S256x768_S256x8x96
  truncf .bf16 (shapeCast S256x1024 (concatenate S256x8x128 2 [⟨S256x8x64, broadcastInDim S256x8x64 ![] bcast_S_S256x8x64 z0⟩,
    ⟨S256x8x16, extractStridedSlice S256x8x16 ![0, 0, 80] v slices_S256x8x96_S256x8x16_0_0_80⟩,
    ⟨S256x8x16, extractStridedSlice S256x8x16 ![0, 0, 64] v slices_S256x8x96_S256x8x16_0_0_64⟩,
    ⟨S256x8x32, broadcastInDim S256x8x32 ![] bcast_S_S256x8x32 z0⟩] concatenates_S256x8x64_S256x8x16_S256x8x16_S256x8x32_S256x8x128_d2)
    shapeCasts_S256x8x128_S256x1024) bitsLt_bf16_f32

/-- The key up-projection with every head padded to 128 columns. -/
def hUk (w : FVec Ideal S128x1024 .f32) : FVec Ideal S128x1024 .bf16 :=
  truncf .bf16 (shapeCast S128x1024 (concatenate S128x8x128 2
    [⟨S128x8x64, extractStridedSlice S128x8x64 ![0, 0, 0] (shapeCast S128x8x128 w shapeCasts_S128x1024_S128x8x128) slices_S128x8x128_S128x8x64_0_0_0⟩,
    ⟨S128x8x64, broadcastInDim S128x8x64 ![] bcast_S_S128x8x64 z0⟩] concatenates_S128x8x64_S128x8x64_S128x8x128_d2)
    shapeCasts_S128x8x128_S128x1024) bitsLt_bf16_f32

/-- The value up-projection, transposed, with every head padded to 80 rows. -/
def hUv (w : FVec Ideal S128x1024 .f32) : FVec Ideal S640x128 .bf16 :=
  truncf .bf16 (transpose S640x128 [1, 0] (shapeCast S128x640 (concatenate S128x8x80 2
    [⟨S128x8x64, extractStridedSlice S128x8x64 ![0, 0, 64] (shapeCast S128x8x128 w shapeCasts_S128x1024_S128x8x128) slices_S128x8x128_S128x8x64_0_0_64⟩,
    ⟨S128x8x16, broadcastInDim S128x8x16 ![] bcast_S_S128x8x16 z0⟩] concatenates_S128x8x64_S128x8x16_S128x8x80_d2)
    shapeCasts_S128x8x80_S128x640) transposes_S128x640_S640x128_1_0) bitsLt_bf16_f32

/-- A one in row 64 of every head. -/
def hOne8 : FVec Ideal S8x80 .f32 :=
  Host.scatter scatter_S8x80_S1_S8_0_1_1_0 (fun _ b => b) (broadcastInDim S8x80 ![] bcast_S_S8x80 z0)
    (broadcastInDim S1 ![] bcast_S_S1 (constantI S_ 32 64#32)) (broadcastInDim S8 ![] bcast_S_S8 (constant S_ .f32 0x3F800000#32))

/-- The same as a column. -/
def hOne : FVec Ideal S640x1 .f32 := shapeCast S640x1 hOne8 shapeCasts_S8x80_S640x1

/-- The angles of the rotation: a position times the inverse frequency of a pair of columns. -/
def hAng : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.divf (broadcastInDim S16 ![] bcast_S_S16 (constant S_ .f32 0x3F800000#32))
        (Host.powf (broadcastInDim S16 ![] bcast_S_S16 (constant S_ .f32 0x461C4000#32))
          (Host.divf (addf (broadcastInDim S16 ![] bcast_S_S16 z0)
            (mulf (broadcastInDim S16 ![] bcast_S_S16 (constant S_ .f32 0x40000000#32)) (sitofp .f32 (iotaInDim S16 32 0))))
            (broadcastInDim S16 ![] bcast_S_S16 (constant S_ .f32 0x42000000#32)))))))

/-- The cosines over a head of 128 columns. -/
def hCos : FVec Ideal S4096x128 .f32 :=
  concatenate S4096x128 1 [⟨S4096x64, broadcastInDim S4096x64 ![] bcast_S_S4096x64 (constant S_ .f32 0x3F800000#32)⟩,
    ⟨S4096x16, Host.cos hAng⟩, ⟨S4096x16, Host.cos hAng⟩, ⟨S4096x32, broadcastInDim S4096x32 ![] bcast_S_S4096x32 z0⟩]
    concatenates_S4096x64_S4096x16_S4096x16_S4096x32_S4096x128_d1

/-- The signed sines over a head of 128 columns. -/
def hSin : FVec Ideal S4096x128 .f32 :=
  concatenate S4096x128 1 [⟨S4096x64, broadcastInDim S4096x64 ![] bcast_S_S4096x64 z0⟩,
    ⟨S4096x16, Host.negf (Host.sin hAng)⟩, ⟨S4096x16, Host.sin hAng⟩, ⟨S4096x32, broadcastInDim S4096x32 ![] bcast_S_S4096x32 z0⟩]
    concatenates_S4096x64_S4096x16_S4096x16_S4096x32_S4096x128_d1

theorem V33 (c : Dev nD) : V m c main_v33 = hWin (m ((c : Thread nD τ).loc main_arg1)) := by
  unfold V
  after_results_simp
  rfl

theorem V34 (c : Dev nD) : V m c main_v34 = hUq (m ((c : Thread nD τ).loc main_arg3)) := by
  unfold V
  after_results_simp
  rfl

theorem V35 (c : Dev nD) : V m c main_v35 = hUqs (m ((c : Thread nD τ).loc main_arg3)) := by
  unfold V
  after_results_simp
  rfl

theorem V36 (c : Dev nD) : V m c main_v36 = hUk (m ((c : Thread nD τ).loc main_arg5)) := by
  unfold V
  after_results_simp
  rfl

theorem V37 (c : Dev nD) : V m c main_v37 = hUv (m ((c : Thread nD τ).loc main_arg5)) := by
  unfold V
  after_results_simp
  rfl

theorem V32 (c : Dev nD) : V m c main_v32 = hOne := by
  unfold V
  after_results_simp
  rfl

theorem V60 (c : Dev nD) : V m c main_v60 = hCos := by
  unfold V
  after_results_simp
  rfl

theorem V62 (c : Dev nD) : V m c main_v62 = hSin := by
  unfold V
  after_results_simp
  rfl

theorem V63 (c : Dev nD) : V m c main_v63 = shapeCast S1x256 (m ((c : Thread nD τ).loc main_arg2)) shapeCasts_S256_S1x256 := by
  unfold V
  after_results_simp
  rfl

theorem V64 (c : Dev nD) : V m c main_v64 = shapeCast S1x128 (m ((c : Thread nD τ).loc main_arg4)) shapeCasts_S128_S1x128 := by
  unfold V
  after_results_simp
  rfl

end Cert.Kernel5Ideal.OddIn
end
-- ==== Proof.OddBlocks.lean ====
module

public import proofs.«01_k».proof.Proof.OddHost
public import Idealize.ShloMosaic.Lib.Routing.OpsOne
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.OddIn

open Cert.Kernel5Ideal Cert.Kernel5Ideal.Gen
/-- A row normed by its root mean square over its width, times the gain. -/
def rms {K : ℕ} (C : EReal) (f g : Fin K → EReal) (k : Fin K) : EReal :=
  f k * Ideal.rsqrt (Ideal.div (∑ j, f j * f j) C + Ideal.ofBits .f32 0x358637BD#32) * g k

theorem pay2_at (z : FVec Ideal S512x1024 .bf16) (w : FVec Ideal S1024x1664 .bf16) (r : Fin 512) (l : Fin 1664) :
    k0_pay2 (F := Ideal) z w (ix2 r l) = ∑ d : Fin 1024, z (ix2 r d) * w (ix2 d l) := by
  pointwise [k0_pay2]

theorem pay3_at (z : FVec Ideal S512x1024 .bf16) (w : FVec Ideal S1024x1664 .bf16) (r : Fin 512) (l : Fin 1024) :
    k0_pay3 (F := Ideal) z w (ix2 r l) = ∑ d : Fin 1024, z (ix2 r d) * w (ix2 d ⟨l.val, by omega⟩) := by
  pointwise [k0_pay3]
  simp only [Nat.zero_add, pay2_at]

theorem pay4_at (z : FVec Ideal S512x1024 .bf16) (w : FVec Ideal S1024x1664 .bf16) (g : FVec Ideal S1x256 .f32) (r : Fin 512) (k : Fin 256) :
    k0_pay4 (F := Ideal) z w g (ix2 r k)
      = rms (Ideal.ofBits .f32 0x43800000#32) (fun k : Fin 256 => ∑ d : Fin 1024, z (ix2 r d) * w (ix2 d ⟨1024 + k.val, by omega⟩)) (fun k => g (ix2 0 k)) k := by
  pointwise [k0_pay4, rms, pay2_at]

theorem pay5_at (z : FVec Ideal S512x1024 .bf16) (w : FVec Ideal S1024x1664 .bf16) (g : FVec Ideal S1x128 .f32) (r : Fin 512) (k : Fin 128) :
    k0_pay5 (F := Ideal) z w g (ix2 r k)
      = rms (Ideal.ofBits .f32 0x43000000#32) (fun k : Fin 128 => ∑ d : Fin 1024, z (ix2 r d) * w (ix2 d ⟨1280 + k.val, by omega⟩)) (fun k => g (ix2 0 k)) k := by
  pointwise [k0_pay5, rms, pay2_at]

theorem pay6_at (cs : FVec Ideal S512x128 .f32) : k0_pay6 (F := Ideal) cs = cs := by
  funext i
  idx_vars i
  pointwise [k0_pay6]

theorem pay7_at (cs : FVec Ideal S512x128 .f32) : k0_pay7 (F := Ideal) cs = cs := by
  funext i
  idx_vars i
  pointwise [k0_pay7]

/-- A table repeated eight times is read at the remainder of the column. -/
theorem rep8 (f : (x : ℕ) → x < 128 → EReal) (n e : ℕ) (hn : n < 1024) (he : e < 128) (h : n % 128 = e) :
    (if h1 : n < 128 then f n h1 else
      if h2 : n - 128 < 128 then f (n - 128) h2 else
      if h3 : n - 128 - 128 < 128 then f (n - 128 - 128) h3 else
      if h4 : n - 128 - 128 - 128 < 128 then f (n - 128 - 128 - 128) h4 else
      if h5 : n - 128 - 128 - 128 - 128 < 128 then f (n - 128 - 128 - 128 - 128) h5 else
      if h6 : n - 128 - 128 - 128 - 128 - 128 < 128 then f (n - 128 - 128 - 128 - 128 - 128) h6 else
      if h7 : n - 128 - 128 - 128 - 128 - 128 - 128 < 128 then f (n - 128 - 128 - 128 - 128 - 128 - 128) h7 else
      f (n - 128 - 128 - 128 - 128 - 128 - 128 - 128) (by omega)) = f e he := by
  have key : ∀ x (hx : x < 128), x = e → f x hx = f e he := by
    intro x hx hxe
    subst hxe
    rfl
  split_ifs <;> exact key _ _ (by omega)

theorem pay8_at (a : FVec Ideal S512x256 .bf16) (cs sn : FVec Ideal S512x128 .f32) (u v : FVec Ideal S256x1024 .bf16) (r : Fin 512) (h : Fin 8) (e : Fin 128) :
    k0_pay8 (F := Ideal) a cs sn u v (ix2 r ⟨h.val * 128 + e.val, by omega⟩)
      = ((∑ k : Fin 256, a (ix2 r k) * u (ix2 k ⟨h.val * 128 + e.val, by omega⟩)) * cs (ix2 r e)
        + (∑ k : Fin 256, a (ix2 r k) * v (ix2 k ⟨h.val * 128 + e.val, by omega⟩)) * sn (ix2 r e)) * Ideal.ofBits .f32 0x3E16C740#32 := by
  have hm : (h.val * 128 + e.val) % 128 = e.val := by omega
  pointwise [k0_pay8, pay6_at, pay7_at]
  refine congrArg₂ (fun x y : EReal => ((_ : EReal) * x + (_ : EReal) * y) * (_ : EReal)) ?_ ?_
  · exact rep8 (fun x hx => cs (ix2 r ⟨x, hx⟩)) _ _ (by omega) e.isLt hm
  · exact rep8 (fun x hx => sn (ix2 r ⟨x, hx⟩)) _ _ (by omega) e.isLt hm

theorem pay9_at (P : FVec Ideal S512x1664 .f32) (a : FVec Ideal S512x128 .bf16) (cs sn : FVec Ideal S512x128 .f32) (u : FVec Ideal S128x1024 .bf16) (r : Fin 512) (h : Fin 8) (e : Fin 128) :
    k0_pay9 (F := Ideal) P a cs sn u (ix2 r ⟨h.val * 128 + e.val, by omega⟩)
      = (∑ k : Fin 128, a (ix2 r k) * u (ix2 k ⟨h.val * 128 + e.val, by omega⟩))
        + (P (ix2 r ⟨1408 + e.val, by omega⟩) * cs (ix2 r e) + P (ix2 r ⟨1536 + e.val, by omega⟩) * sn (ix2 r e)) := by
  have hm : (h.val * 128 + e.val) % 128 = e.val := by omega
  pointwise [k0_pay9, pay6_at, pay7_at]
  refine congrArg (fun x : EReal => (_ : EReal) + x) ?_
  exact rep8 (fun x hx => P (ix2 r ⟨1408 + x, by omega⟩) * cs (ix2 r ⟨x, hx⟩) + P (ix2 r ⟨1536 + x, by omega⟩) * sn (ix2 r ⟨x, hx⟩)) _ _ (by omega) e.isLt hm

theorem pay1_at (a : FVec Ideal S512x128 .bf16) (u : FVec Ideal S640x128 .bf16) (o : FVec Ideal S640x1 .f32) (r : Fin 512) (j : Fin 640) :
    k0_pay1 (F := Ideal) (k0_pay10 (F := Ideal) a u) (k0_pay11 (F := Ideal) o) (ix3 0 j r)
      = (∑ k : Fin 128, u (ix2 j k) * a (ix2 r k)) + o (ix2 j 0) := by
  pointwise [k0_pay10, k0_pay1, k0_pay11]

variable (m : (ℓ : Loc nD τ sig) → Buf (Elt Ideal) ℓ)

theorem V0 (c : Dev nD) : V m c main_arg0 = m ((c : Thread nD τ).loc main_arg0) := by
  unfold V
  after_results_simp

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val % 8, 0] ∧ win0_10.index t = ![t.val % 8, 0]
    ∧ win0_11.index t = ![t.val, 0] ∧ win0_12.index t = ![t.val, 0] ∧ win0_13.index t = ![t.val, 0] ∧ win0_14.index t = ![t.val, 0, 0] :=
  (by decide +kernel : ∀ t : Fin grid0.N, _)

theorem z_at (c : Dev nD) (t : Fin cfg0.N) (r : Fin 512) (d : Fin 1024) (q : Fin 16384) (hq : q.val = t.val * 512 + r.val) :
    (show FVec Ideal S512x1024 .bf16 from iblk m c 0 t) (ix2 r d) = m ((c : Thread nD τ).loc main_arg0) (ix2 q d) := by
  rw [← V0 m c]
  blk_point [iblk, idx t]

theorem win_at (c : Dev nD) (t : Fin cfg0.N) : (show FVec Ideal S1024x1664 .bf16 from iblk m c 1 t) = hWin (m ((c : Thread nD τ).loc main_arg1)) := by
  rw [← V33 m c]
  funext i
  idx_vars i
  blk_point [iblk, idx t]

theorem g2_at (c : Dev nD) (t : Fin cfg0.N) (k : Fin 256) :
    (show FVec Ideal S1x256 .f32 from iblk m c 2 t) (ix2 0 k) = m ((c : Thread nD τ).loc main_arg2) (ix1 k) := by
  have e : shapeCast S1x256 (m ((c : Thread nD τ).loc main_arg2)) shapeCasts_S256_S1x256 (ix2 0 k) = m ((c : Thread nD τ).loc main_arg2) (ix1 k) := by
    pointwise []
  rw [← e, ← V63 m c]
  blk_point [iblk, idx t]

theorem g3_at (c : Dev nD) (t : Fin cfg0.N) (k : Fin 128) :
    (show FVec Ideal S1x128 .f32 from iblk m c 3 t) (ix2 0 k) = m ((c : Thread nD τ).loc main_arg4) (ix1 k) := by
  have e : shapeCast S1x128 (m ((c : Thread nD τ).loc main_arg4)) shapeCasts_S128_S1x128 (ix2 0 k) = m ((c : Thread nD τ).loc main_arg4) (ix1 k) := by
    pointwise []
  rw [← e, ← V64 m c]
  blk_point [iblk, idx t]

theorem uq_at (c : Dev nD) (t : Fin cfg0.N) : (show FVec Ideal S256x1024 .bf16 from iblk m c 4 t) = hUq (m ((c : Thread nD τ).loc main_arg3)) := by
  rw [← V34 m c]
  funext i
  idx_vars i
  blk_point [iblk, idx t]

theorem uqs_at (c : Dev nD) (t : Fin cfg0.N) : (show FVec Ideal S256x1024 .bf16 from iblk m c 5 t) = hUqs (m ((c : Thread nD τ).loc main_arg3)) := by
  rw [← V35 m c]
  funext i
  idx_vars i
  blk_point [iblk, idx t]

theorem uk_at (c : Dev nD) (t : Fin cfg0.N) : (show FVec Ideal S128x1024 .bf16 from iblk m c 6 t) = hUk (m ((c : Thread nD τ).loc main_arg5)) := by
  rw [← V36 m c]
  funext i
  idx_vars i
  blk_point [iblk, idx t]

theorem uv_at (c : Dev nD) (t : Fin cfg0.N) : (show FVec Ideal S640x128 .bf16 from iblk m c 7 t) = hUv (m ((c : Thread nD τ).loc main_arg5)) := by
  rw [← V37 m c]
  funext i
  idx_vars i
  blk_point [iblk, idx t]

theorem one_at (c : Dev nD) (t : Fin cfg0.N) : (show FVec Ideal S640x1 .f32 from iblk m c 8 t) = hOne := by
  rw [← V32 m c]
  funext i
  idx_vars i
  blk_point [iblk, idx t]

theorem cos_at (c : Dev nD) (t : Fin cfg0.N) (r : Fin 512) (d : Fin 128) (q : Fin 4096) (hq : q.val = (t.val * 512 + r.val) % 4096) :
    (show FVec Ideal S512x128 .f32 from iblk m c 9 t) (ix2 r d) = hCos (ix2 q d) := by
  have hq' : q.val = t.val % 8 * 512 + r.val := by omega
  rw [← V60 m c]
  blk_point [iblk, idx t]

theorem sin_at (c : Dev nD) (t : Fin cfg0.N) (r : Fin 512) (d : Fin 128) (q : Fin 4096) (hq : q.val = (t.val * 512 + r.val) % 4096) :
    (show FVec Ideal S512x128 .f32 from iblk m c 10 t) (ix2 r d) = hSin (ix2 q d) := by
  have hq' : q.val = t.val % 8 * 512 + r.val := by omega
  rw [← V62 m c]
  blk_point [iblk, idx t]

end Cert.Kernel5Ideal.OddIn
end
-- ==== Proof.OddEntries.lean ====
module

public import proofs.«01_k».proof.Proof.OddHost
public import Idealize.ShloMosaic.Lib.Routing.OpsOne
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.OddIn

open Cert.Kernel5Ideal Cert.Kernel5Ideal.Gen
/-! ## Entries of the prepared arrays -/

theorem win_lo (w : FVec Ideal S1024x1440 .f32) (d : Fin 1024) (l : Fin 1664) (hl : l.val < 1408) :
    hWin w (ix2 d l) = w (ix2 d ⟨l.val, by omega⟩) := by
  pointwise [hWin]
  exact dif_pos hl

theorem win_a0 (w : FVec Ideal S1024x1440 .f32) (d : Fin 1024) (e : Fin 128) (he : e.val < 64) :
    hWin w (ix2 d ⟨1408 + e.val, by omega⟩) = 0 := by
  have a0 : e.val < 64 := by omega
  pointwise [hWin]
  simp only [dif_pos a0]

theorem win_a1 (w : FVec Ideal S1024x1440 .f32) (d : Fin 1024) (e : Fin 128) (he : 64 ≤ e.val ∧ e.val < 96) :
    hWin w (ix2 d ⟨1408 + e.val, by omega⟩) = w (ix2 d ⟨1408 + (e.val - 64), by omega⟩) := by
  have a0 : ¬ e.val < 64 := by omega
  have a1 : e.val - 64 < 32 := by omega
  pointwise [hWin]
  simp only [dif_neg a0, dif_pos a1]
  all_goals
    refine congrArg (fun x : Fin 1440 => w (ix2 d x)) (Fin.ext ?_)
    first | (dsimp only; omega) | rfl

theorem win_a2 (w : FVec Ideal S1024x1440 .f32) (d : Fin 1024) (e : Fin 128) (he : 96 ≤ e.val) :
    hWin w (ix2 d ⟨1408 + e.val, by omega⟩) = 0 := by
  have a0 : ¬ e.val < 64 := by omega
  have a1 : ¬ e.val - 64 < 32 := by omega
  have a2 : e.val - 64 - 32 < 32 := by omega
  pointwise [hWin]
  simp only [dif_neg a0, dif_neg a1, dif_pos a2]

theorem win_b0 (w : FVec Ideal S1024x1440 .f32) (d : Fin 1024) (e : Fin 128) (he : e.val < 64) :
    hWin w (ix2 d ⟨1536 + e.val, by omega⟩) = 0 := by
  have a0 : ¬ 1536 + e.val < 1408 := by omega
  have a1 : ¬ 1536 + e.val - 1408 < 64 := by omega
  have a2 : ¬ 1536 + e.val - 1408 - 64 < 32 := by omega
  have a3 : ¬ 1536 + e.val - 1408 - 64 - 32 < 32 := by omega
  have a4 : 1536 + e.val - 1408 - 64 - 32 - 32 < 64 := by omega
  pointwise [hWin]
  simp only [dif_neg a0, dif_neg a1, dif_neg a2, dif_neg a3, dif_pos a4]

theorem win_b1 (w : FVec Ideal S1024x1440 .f32) (d : Fin 1024) (e : Fin 128) (he : 64 ≤ e.val ∧ e.val < 80) :
    hWin w (ix2 d ⟨1536 + e.val, by omega⟩) = w (ix2 d ⟨1408 + (16 + (e.val - 64)), by omega⟩) := by
  have a0 : ¬ 1536 + e.val < 1408 := by omega
  have a1 : ¬ 1536 + e.val - 1408 < 64 := by omega
  have a2 : ¬ 1536 + e.val - 1408 - 64 < 32 := by omega
  have a3 : ¬ 1536 + e.val - 1408 - 64 - 32 < 32 := by omega
  have a4 : ¬ 1536 + e.val - 1408 - 64 - 32 - 32 < 64 := by omega
  have a5 : 1536 + e.val - 1408 - 64 - 32 - 32 - 64 < 32 := by omega
  have a6 : 1536 + e.val - 1408 - 64 - 32 - 32 - 64 < 16 := by omega
  pointwise [hWin]
  simp only [dif_neg a0, dif_neg a1, dif_neg a2, dif_neg a3, dif_neg a4, dif_pos a5, dif_pos a6]
  all_goals
    refine congrArg (fun x : Fin 1440 => w (ix2 d x)) (Fin.ext ?_)
    first | (dsimp only; omega) | rfl

theorem win_b2 (w : FVec Ideal S1024x1440 .f32) (d : Fin 1024) (e : Fin 128) (he : 80 ≤ e.val ∧ e.val < 96) :
    hWin w (ix2 d ⟨1536 + e.val, by omega⟩) = w (ix2 d ⟨1408 + (e.val - 64 - 16), by omega⟩) := by
  have a0 : ¬ 1536 + e.val < 1408 := by omega
  have a1 : ¬ 1536 + e.val - 1408 < 64 := by omega
  have a2 : ¬ 1536 + e.val - 1408 - 64 < 32 := by omega
  have a3 : ¬ 1536 + e.val - 1408 - 64 - 32 < 32 := by omega
  have a4 : ¬ 1536 + e.val - 1408 - 64 - 32 - 32 < 64 := by omega
  have a5 : 1536 + e.val - 1408 - 64 - 32 - 32 - 64 < 32 := by omega
  have a6 : ¬ 1536 + e.val - 1408 - 64 - 32 - 32 - 64 < 16 := by omega
  pointwise [hWin]
  simp only [dif_neg a0, dif_neg a1, dif_neg a2, dif_neg a3, dif_neg a4, dif_pos a5, dif_neg a6]
  all_goals
    refine congrArg (fun x : Fin 1440 => w (ix2 d x)) (Fin.ext ?_)
    first | (dsimp only; omega) | rfl

theorem win_b3 (w : FVec Ideal S1024x1440 .f32) (d : Fin 1024) (e : Fin 128) (he : 96 ≤ e.val) :
    hWin w (ix2 d ⟨1536 + e.val, by omega⟩) = 0 := by
  have a0 : ¬ 1536 + e.val < 1408 := by omega
  have a1 : ¬ 1536 + e.val - 1408 < 64 := by omega
  have a2 : ¬ 1536 + e.val - 1408 - 64 < 32 := by omega
  have a3 : ¬ 1536 + e.val - 1408 - 64 - 32 < 32 := by omega
  have a4 : ¬ 1536 + e.val - 1408 - 64 - 32 - 32 < 64 := by omega
  have a5 : ¬ 1536 + e.val - 1408 - 64 - 32 - 32 - 64 < 32 := by omega
  pointwise [hWin]
  simp only [dif_neg a0, dif_neg a1, dif_neg a2, dif_neg a3, dif_neg a4, dif_neg a5]

theorem uq_e (w : FVec Ideal S256x768 .f32) (k : Fin 256) (h : Fin 8) (e : Fin 128) :
    hUq w (ix2 k ⟨h.val * 128 + e.val, by omega⟩) = if he : e.val < 96 then w (ix2 k ⟨h.val * 96 + e.val, by omega⟩) else 0 := by
  pointwise [hUq]

theorem uqs_e0 (w : FVec Ideal S256x768 .f32) (k : Fin 256) (h : Fin 8) (e : Fin 128) (he : e.val < 64) :
    hUqs w (ix2 k ⟨h.val * 128 + e.val, by omega⟩) = 0 := by
  have a0 : e.val < 64 := by omega
  pointwise [hUqs]
  simp only [dif_pos a0]

theorem uqs_e1 (w : FVec Ideal S256x768 .f32) (k : Fin 256) (h : Fin 8) (e : Fin 128) (he : 64 ≤ e.val ∧ e.val < 80) :
    hUqs w (ix2 k ⟨h.val * 128 + e.val, by omega⟩) = w (ix2 k ⟨h.val * 96 + (64 + (16 + (e.val - 64))), by omega⟩) := by
  have a0 : ¬ e.val < 64 := by omega
  have a1 : e.val - 64 < 16 := by omega
  pointwise [hUqs]
  simp only [dif_neg a0, dif_pos a1]
  all_goals
    refine congrArg (fun x : Fin 768 => w (ix2 k x)) (Fin.ext ?_)
    first | (dsimp only; omega) | rfl

theorem uqs_e2 (w : FVec Ideal S256x768 .f32) (k : Fin 256) (h : Fin 8) (e : Fin 128) (he : 80 ≤ e.val ∧ e.val < 96) :
    hUqs w (ix2 k ⟨h.val * 128 + e.val, by omega⟩) = w (ix2 k ⟨h.val * 96 + (64 + (e.val - 64 - 16)), by omega⟩) := by
  have a0 : ¬ e.val < 64 := by omega
  have a1 : ¬ e.val - 64 < 16 := by omega
  have a2 : e.val - 64 - 16 < 16 := by omega
  pointwise [hUqs]
  simp only [dif_neg a0, dif_neg a1, dif_pos a2]
  all_goals
    refine congrArg (fun x : Fin 768 => w (ix2 k x)) (Fin.ext ?_)
    first | (dsimp only; omega) | rfl

theorem uqs_e3 (w : FVec Ideal S256x768 .f32) (k : Fin 256) (h : Fin 8) (e : Fin 128) (he : 96 ≤ e.val) :
    hUqs w (ix2 k ⟨h.val * 128 + e.val, by omega⟩) = 0 := by
  have a0 : ¬ e.val < 64 := by omega
  have a1 : ¬ e.val - 64 < 16 := by omega
  have a2 : ¬ e.val - 64 - 16 < 16 := by omega
  pointwise [hUqs]
  simp only [dif_neg a0, dif_neg a1, dif_neg a2]

theorem uk_e (w : FVec Ideal S128x1024 .f32) (k : Fin 128) (h : Fin 8) (e : Fin 128) :
    hUk w (ix2 k ⟨h.val * 128 + e.val, by omega⟩) = if he : e.val < 64 then w (ix2 k ⟨h.val * 128 + e.val, by omega⟩) else 0 := by
  pointwise [hUk]

theorem uv_e (w : FVec Ideal S128x1024 .f32) (k : Fin 128) (h : Fin 8) (r : Fin 80) :
    hUv w (ix2 ⟨h.val * 80 + r.val, by omega⟩ k) = if he : r.val < 64 then w (ix2 k ⟨h.val * 128 + (64 + r.val), by omega⟩) else 0 := by
  pointwise [hUv]

/-- The angle of position `t` for the pair of columns `e`. -/
def ang (t e : ℕ) : EReal :=
  (FloatOps.sitofp (F := Ideal) .f32 (BitVec.ofNat 32 t) : EReal) * Ideal.div 1 (Ideal.pow (Ideal.ofBits .f32 0x461C4000#32)
    (Ideal.div (Ideal.ofBits .f32 0x40000000#32 * (FloatOps.sitofp (F := Ideal) .f32 (BitVec.ofNat 32 e) : EReal)) (Ideal.ofBits .f32 0x42000000#32)))

theorem ang_e (t : Fin 4096) (e : Fin 16) : hAng (ix2 t e) = ang t.val e.val := by
  pointwise [hAng, ang]

theorem cos_e (t : Fin 4096) (e : Fin 128) : hCos (ix2 t e) = if e.val < 64 then 1 else if e.val - 64 < 16 then Ideal.cos (ang t.val (e.val - 64))
    else if e.val - 64 - 16 < 16 then Ideal.cos (ang t.val (e.val - 64 - 16)) else 0 := by
  pointwise [hCos, ang_e]
  split_ifs <;> rfl

theorem sin_e (t : Fin 4096) (e : Fin 128) : hSin (ix2 t e) = if e.val < 64 then 0 else if e.val - 64 < 16 then -Ideal.sin (ang t.val (e.val - 64))
    else if e.val - 64 - 16 < 16 then Ideal.sin (ang t.val (e.val - 64 - 16)) else 0 := by
  pointwise [hSin, ang_e]
  split_ifs <;> rfl

theorem one_e (h : Fin 8) (r : Fin 80) : hOne (ix2 ⟨h.val * 80 + r.val, by omega⟩ 0) = hOne8 (ix2 h r) := by
  pointwise [hOne]

open Idealize.ShloMosaic.Routing in
theorem one8_e (h : Fin 8) (r : Fin 80) : hOne8 (ix2 h r) = if r.val = 64 then 1 else 0 := by
  have lands : ∀ j : S8.Idx, scatter_S8x80_S1_S8_0_1_1_0.resultIdx? j (broadcastInDim S1 ![] bcast_S_S1 (constantI S_ 32 64#32)) = some (ix2 h r) ↔ j 0 = h ∧ r = (⟨64, by omega⟩ : Fin 80) := by
    intro j
    rw [eq_ix1 j]
    exact lands_col (A := 8) (N := 80) scatter_S8x80_S1_S8_0_1_1_0 rfl rfl _ ⟨64, by omega⟩ (by decide) (j 0) h r
  unfold hOne8
  by_cases hr : r.val = 64
  · rw [if_pos hr]
    refine scatter_set_hit _ _ _ _ _ _ (fun j _ => ?_) (ix1 h) ((lands _).2 ⟨rfl, Fin.ext hr⟩)
    rw [eq_ix1 j]
    pointwise []
  · rw [if_neg hr]
    refine (scatter_set_miss _ _ _ _ _ fun j hj => hr (congrArg Fin.val ((lands j).1 hj).2)).trans ?_
    pointwise []
end Cert.Kernel5Ideal.OddIn
end
-- ==== Proof.OddIn.lean ====
module

public import proofs.«01_k».proof.Proof.OddBlocks
public import proofs.«01_k».proof.Proof.OddEntries
public import Idealize.ShloMosaic.Lib.Routing.OpsOne
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.OddIn

open Cert.Kernel5Ideal Cert.Kernel5Ideal.Gen

/-! ## The layer's mathematics, one token at a time -/

/-- A token's columns of the in-projection. -/
def proj (z : FVec Ideal S16384x1024 .bf16) (w : FVec Ideal S1024x1440 .f32) (n : Fin 16384) (l : Fin 1440) : EReal :=
  ∑ d : Fin 1024, z (ix2 n d) * w (ix2 d l)

/-- A token's row. -/
def row (z : FVec Ideal S16384x1024 .bf16) (n : Fin 16384) (d : Fin 1024) : EReal := z (ix2 n d)

/-- The normed latent the queries come from. -/
def qlat (z : FVec Ideal S16384x1024 .bf16) (w : FVec Ideal S1024x1440 .f32) (g : FVec Ideal S256 .f32) (n : Fin 16384) (k : Fin 256) : EReal :=
  rms (Ideal.ofBits .f32 0x43800000#32) (fun k : Fin 256 => proj z w n ⟨1024 + k.val, by omega⟩) (fun k => g (ix1 k)) k

/-- The normed latent the keys and values come from. -/
def klat (z : FVec Ideal S16384x1024 .bf16) (w : FVec Ideal S1024x1440 .f32) (g : FVec Ideal S128 .f32) (n : Fin 16384) (k : Fin 128) : EReal :=
  rms (Ideal.ofBits .f32 0x43000000#32) (fun k : Fin 128 => proj z w n ⟨1280 + k.val, by omega⟩) (fun k => g (ix1 k)) k

/-- A head's query before the rotation. -/
def qh (L : Fin 256 → EReal) (u : FVec Ideal S256x768 .f32) (h : Fin 8) (e : Fin 96) : EReal :=
  ∑ k : Fin 256, L k * u (ix2 k ⟨h.val * 96 + e.val, by omega⟩)

/-- A column of the keys and values before the rotation. -/
def kv (L : Fin 128 → EReal) (u : FVec Ideal S128x1024 .f32) (l : Fin 1024) : EReal :=
  ∑ k : Fin 128, L k * u (ix2 k l)

/-- A head's query at position `t`: the plain columns, the rotated ones, zeros; all times the scores' scale. -/
def Oq (L : Fin 256 → EReal) (u : FVec Ideal S256x768 .f32) (t : ℕ) (h : Fin 8) (e : Fin 128) : EReal :=
  if h1 : e.val < 96 then
    (if h2 : e.val < 64 then qh L u h ⟨e.val, by omega⟩
      else if h3 : e.val - 64 < 16 then qh L u h ⟨64 + (e.val - 64), by omega⟩ * Ideal.cos (ang t (e.val - 64))
        - qh L u h ⟨64 + (16 + (e.val - 64)), by omega⟩ * Ideal.sin (ang t (e.val - 64))
      else qh L u h ⟨64 + (16 + (e.val - 64 - 16)), by omega⟩ * Ideal.cos (ang t (e.val - 64 - 16))
        + qh L u h ⟨64 + (e.val - 64 - 16), by omega⟩ * Ideal.sin (ang t (e.val - 64 - 16))) * Ideal.ofBits .f32 0x3E16C740#32
  else 0

/-- A head's key at position `t`: the plain columns, the rotated ones all heads share, zeros. -/
def Ok (L : Fin 128 → EReal) (P : Fin 1440 → EReal) (u : FVec Ideal S128x1024 .f32) (t : ℕ) (h : Fin 8) (e : Fin 128) : EReal :=
  if h1 : e.val < 96 then
    (if h2 : e.val < 64 then kv L u ⟨h.val * 128 + e.val, by omega⟩
      else if h3 : e.val - 64 < 16 then P ⟨1408 + (e.val - 64), by omega⟩ * Ideal.cos (ang t (e.val - 64))
        - P ⟨1408 + (16 + (e.val - 64)), by omega⟩ * Ideal.sin (ang t (e.val - 64))
      else P ⟨1408 + (16 + (e.val - 64 - 16)), by omega⟩ * Ideal.cos (ang t (e.val - 64 - 16))
        + P ⟨1408 + (e.val - 64 - 16), by omega⟩ * Ideal.sin (ang t (e.val - 64 - 16)))
  else 0

/-- A head's value: its columns, a one, zeros. -/
def Ov (L : Fin 128 → EReal) (u : FVec Ideal S128x1024 .f32) (h : Fin 8) (r : Fin 80) : EReal :=
  if h1 : r.val < 64 then kv L u ⟨h.val * 128 + (64 + r.val), by omega⟩ else if h2 : r.val - 64 < 1 then 1 else 0

/-! ## The kernel's columns are these -/

theorem sum_zero {K : ℕ} (L a : Fin K → EReal) (h : ∀ k, a k = 0) : ∑ k, L k * a k = 0 :=
  Finset.sum_eq_zero fun k _ => by rw [h k, mul_zero]

theorem sum_same {K : ℕ} (L a b : Fin K → EReal) (h : ∀ k, a k = b k) : ∑ k, L k * a k = ∑ k, L k * b k :=
  Finset.sum_congr rfl fun k _ => by rw [h k]

theorem q_eq (L : Fin 256 → EReal) (u : FVec Ideal S256x768 .f32) (t : Fin 4096) (h : Fin 8) (e : Fin 128) :
    ((∑ k : Fin 256, L k * hUq u (ix2 k ⟨h.val * 128 + e.val, by omega⟩)) * hCos (ix2 t e)
      + (∑ k : Fin 256, L k * hUqs u (ix2 k ⟨h.val * 128 + e.val, by omega⟩)) * hSin (ix2 t e)) * Ideal.ofBits .f32 0x3E16C740#32
      = Oq L u t.val h e := by
  have hq : ∀ (he : e.val < 96) (x : Fin 96), x.val = e.val → ∑ k : Fin 256, L k * hUq u (ix2 k ⟨h.val * 128 + e.val, by omega⟩) = qh L u h x := by
    intro he x hx
    refine sum_same _ _ _ fun k => (uq_e u k h e).trans ((dif_pos he).trans ?_)
    exact congrArg (fun y : Fin 768 => u (ix2 k y)) (Fin.ext (by dsimp only; omega))
  unfold Oq
  rw [cos_e, sin_e]
  by_cases h1 : e.val < 64
  · have a : e.val < 96 := by omega
    rw [dif_pos a, dif_pos h1, if_pos h1, if_pos h1, hq a ⟨e.val, a⟩ rfl, sum_zero L _ (fun k => uqs_e0 u k h e h1), mul_one, mul_zero, add_zero]
  by_cases h2 : e.val - 64 < 16
  · have a : e.val < 96 := by omega
    rw [dif_pos a, dif_neg h1, dif_pos h2, if_neg h1, if_neg h1, if_pos h2, if_pos h2, hq a ⟨64 + (e.val - 64), by omega⟩ (by dsimp only; omega),
      sum_same L _ _ (fun k => uqs_e1 u k h e (by omega)), mul_neg, sub_eq_add_neg]
    rfl
  by_cases h3 : e.val - 64 - 16 < 16
  · have a : e.val < 96 := by omega
    rw [dif_pos a, dif_neg h1, dif_neg h2, if_neg h1, if_neg h1, if_neg h2, if_neg h2, if_pos h3, if_pos h3,
      hq a ⟨64 + (16 + (e.val - 64 - 16)), by omega⟩ (by dsimp only; omega), sum_same L _ _ (fun k => uqs_e2 u k h e (by omega))]
    rfl
  · have a : ¬ e.val < 96 := by omega
    rw [dif_neg a, if_neg h1, if_neg h1, if_neg h2, if_neg h2, if_neg h3, if_neg h3, mul_zero, mul_zero, add_zero, zero_mul]

theorem k_eq (L : Fin 128 → EReal) (z : Fin 1024 → EReal) (w : FVec Ideal S1024x1440 .f32) (u : FVec Ideal S128x1024 .f32) (t : Fin 4096) (h : Fin 8) (e : Fin 128) :
    (∑ k : Fin 128, L k * hUk u (ix2 k ⟨h.val * 128 + e.val, by omega⟩))
      + ((∑ d : Fin 1024, z d * hWin w (ix2 d ⟨1408 + e.val, by omega⟩)) * hCos (ix2 t e)
        + (∑ d : Fin 1024, z d * hWin w (ix2 d ⟨1536 + e.val, by omega⟩)) * hSin (ix2 t e))
      = Ok L (fun l => ∑ d : Fin 1024, z d * w (ix2 d l)) u t.val h e := by
  have hk : ∀ (he : ¬ e.val < 64), ∑ k : Fin 128, L k * hUk u (ix2 k ⟨h.val * 128 + e.val, by omega⟩) = 0 :=
    fun he => sum_zero _ _ fun k => (uk_e u k h e).trans (dif_neg he)
  unfold Ok
  rw [cos_e, sin_e]
  by_cases h1 : e.val < 64
  · have a : e.val < 96 := by omega
    rw [dif_pos a, dif_pos h1, if_pos h1, if_pos h1, sum_zero z _ (fun d => win_a0 w d e h1), sum_zero z _ (fun d => win_b0 w d e h1),
      sum_same L _ _ (fun k => (uk_e u k h e).trans (dif_pos h1)), zero_mul, zero_mul, add_zero, add_zero]
    rfl
  by_cases h2 : e.val - 64 < 16
  · have a : e.val < 96 := by omega
    rw [dif_pos a, dif_neg h1, dif_pos h2, if_neg h1, if_neg h1, if_pos h2, if_pos h2, hk h1, zero_add,
      sum_same z _ _ (fun d => win_a1 w d e (by omega)), sum_same z _ _ (fun d => win_b1 w d e (by omega)), mul_neg, sub_eq_add_neg]
  by_cases h3 : e.val - 64 - 16 < 16
  · have a : e.val < 96 := by omega
    have hx : 1408 + (e.val - 64) = 1408 + (16 + (e.val - 64 - 16)) := by omega
    rw [dif_pos a, dif_neg h1, dif_neg h2, if_neg h1, if_neg h1, if_neg h2, if_neg h2, if_pos h3, if_pos h3, hk h1, zero_add,
      sum_same z _ _ (fun d => win_a1 w d e (by omega)), sum_same z _ _ (fun d => win_b2 w d e (by omega))]
    simp only [hx]
  · have a : ¬ e.val < 96 := by omega
    rw [dif_neg a, if_neg h1, if_neg h1, if_neg h2, if_neg h2, if_neg h3, if_neg h3, hk h1, mul_zero, mul_zero, add_zero, add_zero]

theorem v_eq (L : Fin 128 → EReal) (u : FVec Ideal S128x1024 .f32) (h : Fin 8) (r : Fin 80) :
    (∑ k : Fin 128, hUv u (ix2 ⟨h.val * 80 + r.val, by omega⟩ k) * L k) + hOne (ix2 ⟨h.val * 80 + r.val, by omega⟩ 0) = Ov L u h r := by
  unfold Ov
  rw [one_e, one8_e, Finset.sum_congr rfl fun k _ => mul_comm (hUv u (ix2 ⟨h.val * 80 + r.val, by omega⟩ k)) (L k)]
  by_cases h1 : r.val < 64
  · have a : ¬ r.val = 64 := by omega
    rw [dif_pos h1, if_neg a, add_zero, sum_same L _ _ (fun k => (uv_e u k h r).trans (dif_pos h1))]
    rfl
  rw [dif_neg h1, sum_zero L _ (fun k => (uv_e u k h r).trans (dif_neg h1)), zero_add]
  by_cases h2 : r.val = 64
  · rw [if_pos h2, dif_pos (show r.val - 64 < 1 by omega)]
  · rw [if_neg h2, dif_neg (show ¬ r.val - 64 < 1 by omega)]

/-! ## What a point of the grid computes -/

variable (m : (ℓ : Loc nD τ sig) → Buf (Elt Ideal) ℓ)

theorem P_at (c : Dev nD) (t : Fin cfg0.N) (r : Fin 512) (l : Fin 1664) (n : Fin 16384) (hn : n.val = t.val * 512 + r.val) (hl : l.val < 1408) :
    ∑ d : Fin 1024, (show FVec Ideal S512x1024 .bf16 from iblk m c 0 t) (ix2 r d) * (show FVec Ideal S1024x1664 .bf16 from iblk m c 1 t) (ix2 d l)
      = proj (m ((c : Thread nD τ).loc main_arg0)) (m ((c : Thread nD τ).loc main_arg1)) n ⟨l.val, by omega⟩ := by
  rw [win_at m c t]
  exact Finset.sum_congr rfl fun d _ => Ideal.mul_congr (z_at m c t r d n hn) (win_lo _ d l hl)

theorem lat_q (c : Dev nD) (t : Fin cfg0.N) (r : Fin 512) (k : Fin 256) (n : Fin 16384) (hn : n.val = t.val * 512 + r.val) :
    k0_pay4 (F := Ideal) (iblk m c 0 t) (iblk m c 1 t) (iblk m c 2 t) (ix2 r k)
      = qlat (m ((c : Thread nD τ).loc main_arg0)) (m ((c : Thread nD τ).loc main_arg1)) (m ((c : Thread nD τ).loc main_arg2)) n k := by
  refine (pay4_at _ _ _ r k).trans ?_
  exact congrArg₂ (fun x g => rms _ x g k) (funext fun k => P_at m c t r _ n hn (by dsimp only; omega)) (funext fun k => g2_at m c t k)

theorem lat_k (c : Dev nD) (t : Fin cfg0.N) (r : Fin 512) (k : Fin 128) (n : Fin 16384) (hn : n.val = t.val * 512 + r.val) :
    k0_pay5 (F := Ideal) (iblk m c 0 t) (iblk m c 1 t) (iblk m c 3 t) (ix2 r k)
      = klat (m ((c : Thread nD τ).loc main_arg0)) (m ((c : Thread nD τ).loc main_arg1)) (m ((c : Thread nD τ).loc main_arg4)) n k := by
  refine (pay5_at _ _ _ r k).trans ?_
  exact congrArg₂ (fun x g => rms _ x g k) (funext fun k => P_at m c t r _ n hn (by dsimp only; omega)) (funext fun k => g3_at m c t k)

theorem pt_q (c : Dev nD) (t : Fin cfg0.N) (r : Fin 512) (h : Fin 8) (e : Fin 128) (n : Fin 16384) (hn : n.val = t.val * 512 + r.val) :
    k0_pay8 (F := Ideal) (k0_pay4 (F := Ideal) (iblk m c 0 t) (iblk m c 1 t) (iblk m c 2 t)) (iblk m c 9 t) (iblk m c 10 t) (iblk m c 4 t) (iblk m c 5 t) (ix2 r ⟨h.val * 128 + e.val, by omega⟩)
      = Oq (qlat (m ((c : Thread nD τ).loc main_arg0)) (m ((c : Thread nD τ).loc main_arg1)) (m ((c : Thread nD τ).loc main_arg2)) n) (m ((c : Thread nD τ).loc main_arg3)) (n.val % 4096) h e := by
  have hp : (⟨n.val % 4096, by omega⟩ : Fin 4096).val = (t.val * 512 + r.val) % 4096 := by rw [← hn]
  refine (pay8_at _ _ _ _ _ r h e).trans (Eq.trans ?_ (q_eq _ _ ⟨n.val % 4096, by omega⟩ h e))
  refine congrArg (fun x : EReal => x * _) (congrArg₂ (fun x y : EReal => x + y) (Ideal.mul_congr ?_ (cos_at m c t r e _ hp)) (Ideal.mul_congr ?_ (sin_at m c t r e _ hp)))
  · exact Finset.sum_congr rfl fun k _ => Ideal.mul_congr (lat_q m c t r k n hn) (congrFun (uq_at m c t) _)
  · exact Finset.sum_congr rfl fun k _ => Ideal.mul_congr (lat_q m c t r k n hn) (congrFun (uqs_at m c t) _)

theorem pt_k (c : Dev nD) (t : Fin cfg0.N) (r : Fin 512) (h : Fin 8) (e : Fin 128) (n : Fin 16384) (hn : n.val = t.val * 512 + r.val) :
    k0_pay9 (F := Ideal) (k0_pay2 (F := Ideal) (iblk m c 0 t) (iblk m c 1 t)) (k0_pay5 (F := Ideal) (iblk m c 0 t) (iblk m c 1 t) (iblk m c 3 t)) (iblk m c 9 t) (iblk m c 10 t) (iblk m c 6 t) (ix2 r ⟨h.val * 128 + e.val, by omega⟩)
      = Ok (klat (m ((c : Thread nD τ).loc main_arg0)) (m ((c : Thread nD τ).loc main_arg1)) (m ((c : Thread nD τ).loc main_arg4)) n)
        (proj (m ((c : Thread nD τ).loc main_arg0)) (m ((c : Thread nD τ).loc main_arg1)) n) (m ((c : Thread nD τ).loc main_arg5)) (n.val % 4096) h e := by
  have hp : (⟨n.val % 4096, by omega⟩ : Fin 4096).val = (t.val * 512 + r.val) % 4096 := by rw [← hn]
  have hz : ∀ l : Fin 1664, k0_pay2 (F := Ideal) (iblk m c 0 t) (iblk m c 1 t) (ix2 r l)
      = ∑ d : Fin 1024, row (m ((c : Thread nD τ).loc main_arg0)) n d * hWin (m ((c : Thread nD τ).loc main_arg1)) (ix2 d l) := fun l =>
    (pay2_at _ _ r l).trans (Finset.sum_congr rfl fun d _ => Ideal.mul_congr (z_at m c t r d n hn) (congrFun (win_at m c t) _))
  refine (pay9_at _ _ _ _ _ r h e).trans (Eq.trans ?_ (k_eq _ (row (m ((c : Thread nD τ).loc main_arg0)) n) _ _ ⟨n.val % 4096, by omega⟩ h e))
  refine congrArg₂ (fun x y : EReal => x + y) ?_ (congrArg₂ (fun x y : EReal => x + y) (Ideal.mul_congr (hz _) (cos_at m c t r e _ hp)) (Ideal.mul_congr (hz _) (sin_at m c t r e _ hp)))
  exact Finset.sum_congr rfl fun k _ => Ideal.mul_congr (lat_k m c t r k n hn) (congrFun (uk_at m c t) _)

theorem pt_v (c : Dev nD) (t : Fin cfg0.N) (j : Fin 512) (h : Fin 8) (r : Fin 80) (n : Fin 16384) (hn : n.val = t.val * 512 + j.val) :
    k0_pay1 (F := Ideal) (k0_pay10 (F := Ideal) (k0_pay5 (F := Ideal) (iblk m c 0 t) (iblk m c 1 t) (iblk m c 3 t)) (iblk m c 7 t)) (k0_pay11 (F := Ideal) (iblk m c 8 t)) (ix3 0 ⟨h.val * 80 + r.val, by omega⟩ j)
      = Ov (klat (m ((c : Thread nD τ).loc main_arg0)) (m ((c : Thread nD τ).loc main_arg1)) (m ((c : Thread nD τ).loc main_arg4)) n) (m ((c : Thread nD τ).loc main_arg5)) h r := by
  refine (pay1_at _ _ _ j _).trans (Eq.trans ?_ (v_eq _ _ h r))
  refine congrArg₂ (fun x y : EReal => x + y) ?_ (congrFun (one_at m c t) _)
  exact Finset.sum_congr rfl fun k _ => Ideal.mul_congr (congrFun (uv_at m c t) _) (lat_k m c t j k n hn)

/-! ## The arrays the call leaves -/

/-- The gate's columns. -/
def O11 (z : FVec Ideal S16384x1024 .bf16) (w : FVec Ideal S1024x1440 .f32) : FVec Ideal S16384x1024 .bf16 :=
  fun i => proj z w (i 0) ⟨(i 1).val, by have := (i 1).isLt; dsimp at *; omega⟩

/-- The queries. -/
def O12 (z : FVec Ideal S16384x1024 .bf16) (w : FVec Ideal S1024x1440 .f32) (g : FVec Ideal S256 .f32) (u : FVec Ideal S256x768 .f32) : FVec Ideal S16384x1024 .bf16 :=
  fun i => Oq (qlat z w g (i 0)) u ((i 0).val % 4096) ⟨(i 1).val / 128, by have := (i 1).isLt; dsimp at *; omega⟩ ⟨(i 1).val % 128, by omega⟩

/-- The keys. -/
def O13 (z : FVec Ideal S16384x1024 .bf16) (w : FVec Ideal S1024x1440 .f32) (g : FVec Ideal S128 .f32) (u : FVec Ideal S128x1024 .f32) : FVec Ideal S16384x1024 .bf16 :=
  fun i => Ok (klat z w g (i 0)) (proj z w (i 0)) u ((i 0).val % 4096) ⟨(i 1).val / 128, by have := (i 1).isLt; dsimp at *; omega⟩ ⟨(i 1).val % 128, by omega⟩

/-- The values, transposed in blocks of 512 tokens. -/
def O14 (z : FVec Ideal S16384x1024 .bf16) (w : FVec Ideal S1024x1440 .f32) (g : FVec Ideal S128 .f32) (u : FVec Ideal S128x1024 .f32) : FVec Ideal S32x640x512 .bf16 :=
  fun i => Ov (klat z w g ⟨(i 0).val * 512 + (i 2).val, by have := (i 0).isLt; have := (i 2).isLt; dsimp at *; omega⟩) u
    ⟨(i 1).val / 80, by have := (i 1).isLt; dsimp at *; omega⟩ ⟨(i 1).val % 80, by omega⟩

theorem emb11 (t : Fin cfg0.N) (y0 : Fin 512) (y1 : Fin 1024) : ∃ q : Fin 16384, q.val = t.val * 512 + y0.val ∧
    ((cfg0.win 11).blk t).view.emb (ix2 y0 y1 : S512x1024.Idx) = (ix2 q y1 : S16384x1024.Idx) := by
  have ht : t.val < 32 := lt_of_lt_of_eq t.isLt N_0
  refine ⟨⟨t.val * 512 + y0.val, by have := y0.isLt; omega⟩, rfl, ?_⟩
  blk_ext [idx t]

theorem emb12 (t : Fin cfg0.N) (y0 : Fin 512) (y1 : Fin 1024) : ∃ q : Fin 16384, q.val = t.val * 512 + y0.val ∧
    ((cfg0.win 12).blk t).view.emb (ix2 y0 y1 : S512x1024.Idx) = (ix2 q y1 : S16384x1024.Idx) := by
  have ht : t.val < 32 := lt_of_lt_of_eq t.isLt N_0
  refine ⟨⟨t.val * 512 + y0.val, by have := y0.isLt; omega⟩, rfl, ?_⟩
  blk_ext [idx t]

theorem emb13 (t : Fin cfg0.N) (y0 : Fin 512) (y1 : Fin 1024) : ∃ q : Fin 16384, q.val = t.val * 512 + y0.val ∧
    ((cfg0.win 13).blk t).view.emb (ix2 y0 y1 : S512x1024.Idx) = (ix2 q y1 : S16384x1024.Idx) := by
  have ht : t.val < 32 := lt_of_lt_of_eq t.isLt N_0
  refine ⟨⟨t.val * 512 + y0.val, by have := y0.isLt; omega⟩, rfl, ?_⟩
  blk_ext [idx t]

theorem emb14 (t : Fin cfg0.N) (y0 : Fin 1) (y1 : Fin 640) (y2 : Fin 512) : ∃ b : Fin 32, b.val = t.val ∧
    ((cfg0.win 14).blk t).view.emb (ix3 y0 y1 y2 : S1x640x512.Idx) = (ix3 b y1 y2 : S32x640x512.Idx) := by
  have ht : t.val < 32 := lt_of_lt_of_eq t.isLt N_0
  refine ⟨⟨t.val, ht⟩, rfl, ?_⟩
  blk_ext [idx t]

/-- A column of 1024 as a head and a column of its 128. -/
theorem col128 (l : Fin 1024) : l = (⟨(⟨l.val / 128, by omega⟩ : Fin 8).val * 128 + (⟨l.val % 128, by omega⟩ : Fin 128).val, by dsimp only; omega⟩ : Fin 1024) :=
  Fin.ext (by dsimp only; omega)

/-- A row of 640 as a head and a row of its 80. -/
theorem col80 (l : Fin 640) : l = (⟨(⟨l.val / 80, by omega⟩ : Fin 8).val * 80 + (⟨l.val % 80, by omega⟩ : Fin 80).val, by dsimp only; omega⟩ : Fin 640) :=
  Fin.ext (by dsimp only; omega)

section
variable (x0 : Vec Ideal S512x1024 .bf16) (x1 : Vec Ideal S1024x1664 .bf16) (x2 : Vec Ideal S1x256 .f32) (x3 : Vec Ideal S1x128 .f32)
  (x4 x5 : Vec Ideal S256x1024 .bf16) (x6 : Vec Ideal S128x1024 .bf16) (x7 : Vec Ideal S640x128 .bf16) (x8 : Vec Ideal S640x1 .f32) (x9 x10 : Vec Ideal S512x128 .f32)

theorem out11 : out0_11 (F := Ideal) x0 x1 x2 x3 x4 x5 x6 x7 x8 x9 x10 = k0_pay3 (F := Ideal) x0 x1 := by
  unfold out0_11
  frame_out

theorem out12 : out0_12 (F := Ideal) x0 x1 x2 x3 x4 x5 x6 x7 x8 x9 x10 = k0_pay8 (F := Ideal) (k0_pay4 (F := Ideal) x0 x1 x2) x9 x10 x4 x5 := by
  unfold out0_12
  frame_out

theorem out13 : out0_13 (F := Ideal) x0 x1 x2 x3 x4 x5 x6 x7 x8 x9 x10
    = k0_pay9 (F := Ideal) (k0_pay2 (F := Ideal) x0 x1) (k0_pay5 (F := Ideal) x0 x1 x3) x9 x10 x6 := by
  unfold_out out0_13
  frame_out

theorem out14 : out0_14 (F := Ideal) x0 x1 x2 x3 x4 x5 x6 x7 x8 x9 x10
    = k0_pay1 (F := Ideal) (k0_pay10 (F := Ideal) (k0_pay5 (F := Ideal) x0 x1 x3) x7) (k0_pay11 (F := Ideal) x8) := by
  unfold_out out0_14
  frame_out

end

theorem final11 (c : Dev nD) : (dats m 0 c).arrAt 11 cfg0.N = O11 (m ((c : Thread nD τ).loc main_arg0)) (m ((c : Thread nD τ).loc main_arg1)) := by
  refine (dats m 0 c).arrAt_eq_of_covers 11 _ (by decide +kernel) fun t hf y => ?_
  blk_simp
  rw [after0_11, out11]
  idx_vars y
  obtain ⟨q, hq, he⟩ := emb11 t y0 y1
  exact ((pay3_at _ _ y0 y1).trans (P_at m c t y0 _ q hq (by dsimp only; omega))).trans (congrArg (O11 _ _) he.symm)

theorem final12 (c : Dev nD) : (dats m 0 c).arrAt 12 cfg0.N
    = O12 (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  blk_simp
  rw [after0_12, out12]
  idx_vars y
  obtain ⟨q, hq, he⟩ := emb12 t y0 y1
  exact ((congrArg (fun l => k0_pay8 (F := Ideal) _ _ _ _ _ (ix2 y0 l)) (col128 y1)).trans (pt_q m c t y0 _ _ q hq)).trans (congrArg (O12 _ _ _ _) he.symm)

theorem final13 (c : Dev nD) : (dats m 0 c).arrAt 13 cfg0.N
    = O13 (m ((c : Thread nD τ).loc main_arg0)) (m ((c : Thread nD τ).loc main_arg1)) (m ((c : Thread nD τ).loc main_arg4)) (m ((c : Thread nD τ).loc main_arg5)) := by
  refine (dats m 0 c).arrAt_eq_of_covers 13 _ (by decide +kernel) fun t hf y => ?_
  blk_simp
  rw [after0_13, out13]
  idx_vars y
  obtain ⟨q, hq, he⟩ := emb13 t y0 y1
  exact ((congrArg (fun l => k0_pay9 (F := Ideal) _ _ _ _ _ (ix2 y0 l)) (col128 y1)).trans (pt_k m c t y0 _ _ q hq)).trans (congrArg (O13 _ _ _ _) he.symm)

theorem pt_v' (c : Dev nD) (t : Fin cfg0.N) (y0 : Fin 1) (y1 : Fin 640) (j : Fin 512) (n : Fin 16384) (hn : n.val = t.val * 512 + j.val) :
    k0_pay1 (F := Ideal) (k0_pay10 (F := Ideal) (k0_pay5 (F := Ideal) (iblk m c 0 t) (iblk m c 1 t) (iblk m c 3 t)) (iblk m c 7 t)) (k0_pay11 (F := Ideal) (iblk m c 8 t)) (ix3 y0 y1 j)
      = Ov (klat (m ((c : Thread nD τ).loc main_arg0)) (m ((c : Thread nD τ).loc main_arg1)) (m ((c : Thread nD τ).loc main_arg4)) n) (m ((c : Thread nD τ).loc main_arg5))
        ⟨y1.val / 80, by omega⟩ ⟨y1.val % 80, by omega⟩ := by
  have h0 : y0 = 0 := Subsingleton.elim _ _
  rw [h0]
  refine Eq.trans ?_ (pt_v m c t j ⟨y1.val / 80, by omega⟩ ⟨y1.val % 80, by omega⟩ n hn)
  exact congrArg (fun l : Fin 640 => k0_pay1 (F := Ideal) (k0_pay10 (F := Ideal) (k0_pay5 (F := Ideal) (iblk m c 0 t) (iblk m c 1 t) (iblk m c 3 t)) (iblk m c 7 t)) (k0_pay11 (F := Ideal) (iblk m c 8 t)) (ix3 0 l j)) (col80 y1)

theorem final14 (c : Dev nD) : (dats m 0 c).arrAt 14 cfg0.N
    = O14 (m ((c : Thread nD τ).loc main_arg0)) (m ((c : Thread nD τ).loc main_arg1)) (m ((c : Thread nD τ).loc main_arg4)) (m ((c : Thread nD τ).loc main_arg5)) := by
  refine (dats m 0 c).arrAt_eq_of_covers 14 _ (by decide +kernel) fun t hf y => ?_
  blk_simp
  rw [after0_14, out14]
  idx_vars y
  obtain ⟨b, hb, he⟩ := emb14 t y0 y1 y2
  have hn : (⟨b.val * 512 + y2.val, by omega⟩ : Fin 16384).val = t.val * 512 + y2.val := by rw [← hb]
  have e1 : k0_pay1 (F := Ideal) (k0_pay10 (F := Ideal) (k0_pay5 (F := Ideal) (iblk m c 0 t) (iblk m c 1 t) (iblk m c 3 t)) (iblk m c 7 t)) (k0_pay11 (F := Ideal) (iblk m c 8 t)) (ix3 y0 y1 y2) = O14 (m ((c : Thread nD τ).loc main_arg0)) (m ((c : Thread nD τ).loc main_arg1)) (m ((c : Thread nD τ).loc main_arg4)) (m ((c : Thread nD τ).loc main_arg5)) (ix3 b y1 y2) := pt_v' m c t y0 y1 y2 _ hn
  exact e1.trans (congrArg (O14 (m ((c : Thread nD τ).loc main_arg0)) (m ((c : Thread nD τ).loc main_arg1)) (m ((c : Thread nD τ).loc main_arg4)) (m ((c : Thread nD τ).loc main_arg5))) he.symm)

end Cert.Kernel5Ideal.OddIn
end
-- ==== Proof.OddRef.lean ====
module

public import proofs.«01_k».proof.Proof.OddIn
public import Idealize.ShloMosaic.Lib.Routing.OpsOne
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference5Ideal.OddRef

open Cert.Reference5Ideal Cert.Reference5Ideal.Gen Cert.Reference5Ideal.Value
open Cert.Kernel5Ideal.OddIn (rms proj qlat klat qh kv Oq Ok Ov O11 O12 O13 O14 ang col128 col80)

/-- The reference's gate. -/
theorem r11 (z : FVec Ideal S16384x1024 .bf16) (w : FVec Ideal S1024x1440 .f32) :
    truncf .bf16 (shapeCast _ (extractStridedSlice S4x4096x1024 ![0, 0, 0] (shapeCast _ (Host.dotGeneral dot_S16384x1024_S1024x1440_S16384x1440_1_0_0_1_n_n none (extf .f32 z bitsLt_bf16_f32) w) shapeCasts_S16384x1440_S4x4096x1440) slices_S4x4096x1440_S4x4096x1024_0_0_0) shapeCasts_S4x4096x1024_S16384x1024) bitsLt_bf16_f32 = O11 z w := by
  funext i
  idx_vars i
  pointwise [O11, proj]

variable (m : (ℓ : Loc nD τ sig) → Buf (Elt Ideal) ℓ)

/-- A query of the reference. -/
theorem r12_at (c : Dev nD) (n : Fin 16384) (h : Fin 8) (e : Fin 128) :
    (show FVec Ideal S16384x1024 .bf16 from res_main_v106 m c) (ix2 n ⟨h.val * 128 + e.val, by omega⟩)
      = Oq (qlat (m ((c.tc : Thread nD τ).loc main_arg0)) (m ((c.tc : Thread nD τ).loc main_arg1)) (m ((c.tc : Thread nD τ).loc main_arg2)) n) (m ((c.tc : Thread nD τ).loc main_arg3)) (n.val % 4096) h e := by
  unfold res_main_v106
  pointwise [Oq, qlat, proj, rms, qh, ang]

/-- A key of the reference. -/
theorem r13_at (c : Dev nD) (n : Fin 16384) (h : Fin 8) (e : Fin 128) :
    (show FVec Ideal S16384x1024 .bf16 from res_main_v107 m c) (ix2 n ⟨h.val * 128 + e.val, by omega⟩)
      = Ok (klat (m ((c.tc : Thread nD τ).loc main_arg0)) (m ((c.tc : Thread nD τ).loc main_arg1)) (m ((c.tc : Thread nD τ).loc main_arg4)) n)
        (proj (m ((c.tc : Thread nD τ).loc main_arg0)) (m ((c.tc : Thread nD τ).loc main_arg1)) n) (m ((c.tc : Thread nD τ).loc main_arg5)) (n.val % 4096) h e := by
  unfold res_main_v107
  pointwise [Ok, klat, proj, rms, kv, ang]

/-- The reference's values. -/
def t14 (z : FVec Ideal S16384x1024 .bf16) (w : FVec Ideal S1024x1440 .f32) (g : FVec Ideal S128 .f32) (u : FVec Ideal S128x1024 .f32) : FVec Ideal S32x640x512 .bf16 :=
    truncf .bf16 (transpose S32x640x512 [0, 2, 1] (shapeCast _ ((concatenate S4x4096x8x80 3 [⟨S4x4096x8x64, ((extractStridedSlice S4x4096x8x64 ![0, 0, 0, 64] (shapeCast _ (Host.dotGeneral dot_S4x4096x128_S128x1024_S4x4096x1024_2_0_01_1_n_n none (mulf (mulf (extractStridedSlice S4x4096x128 ![0, 0, 1280] (shapeCast _ (Host.dotGeneral dot_S16384x1024_S1024x1440_S16384x1440_1_0_0_1_n_n none (extf .f32 z bitsLt_bf16_f32) w) shapeCasts_S16384x1440_S4x4096x1440) slices_S4x4096x1440_S4x4096x128_0_0_1280) (broadcastInDim S4x4096x128 ![0, 1, 2] bcast_S4x4096x1_S4x4096x128_0_1_2 (Host.rsqrt (addf (Host.divf (broadcastInDim S4x4096x1 ![0, 1] bcast_S4x4096_S4x4096x1_0_1 (Host.reduceAdd (mulf (extractStridedSlice S4x4096x128 ![0, 0, 1280] (shapeCast _ (Host.dotGeneral dot_S16384x1024_S1024x1440_S16384x1440_1_0_0_1_n_n none (extf .f32 z bitsLt_bf16_f32) w) shapeCasts_S16384x1440_S4x4096x1440) slices_S4x4096x1440_S4x4096x128_0_0_1280) (extractStridedSlice S4x4096x128 ![0, 0, 1280] (shapeCast _ (Host.dotGeneral dot_S16384x1024_S1024x1440_S16384x1440_1_0_0_1_n_n none (extf .f32 z bitsLt_bf16_f32) w) shapeCasts_S16384x1440_S4x4096x1440) slices_S4x4096x1440_S4x4096x128_0_0_1280)) (constant (F := Ideal) S_ .f32 0x00000000#32) reducesTo_S4x4096x128_S4x4096_d2 h_S_)) (broadcastInDim S4x4096x1 ![] bcast_S_S4x4096x1 (constant (F := Ideal) S_ .f32 0x43000000#32))) (broadcastInDim S4x4096x1 ![] bcast_S_S4x4096x1 (constant (F := Ideal) S_ .f32 0x358637BD#32)))))) (broadcastInDim S4x4096x128 ![0, 1, 2] bcast_S1x1x128_S4x4096x128_0_1_2 (broadcastInDim S1x1x128 ![2] bcast_S128_S1x1x128_2 g))) u) shapeCasts_S4x4096x1024_S4x4096x8x128) slices_S4x4096x8x128_S4x4096x8x64_0_0_0_64) : (⟨S4x4096x8x64, .f32⟩ : BufTy).Contents (Elt Ideal))⟩, ⟨S4x4096x8x1, ((broadcastInDim S4x4096x8x1 ![] bcast_S_S4x4096x8x1 (constant (F := Ideal) S_ .f32 0x3F800000#32)) : (⟨S4x4096x8x1, .f32⟩ : BufTy).Contents (Elt Ideal))⟩, ⟨S4x4096x8x15, ((broadcastInDim S4x4096x8x15 ![] bcast_S_S4x4096x8x15 (constant (F := Ideal) S_ .f32 0x00000000#32)) : (⟨S4x4096x8x15, .f32⟩ : BufTy).Contents (Elt Ideal))⟩] concatenates_S4x4096x8x64_S4x4096x8x1_S4x4096x8x15_S4x4096x8x80_d3 : (⟨S4x4096x8x80, .f32⟩ : BufTy).Contents (Elt Ideal))) shapeCasts_S4x4096x8x80_S32x512x640) transposes_S32x512x640_S32x640x512_0_2_1) bitsLt_bf16_f32

/-- A value of the reference. -/
theorem r14_at (z : FVec Ideal S16384x1024 .bf16) (w : FVec Ideal S1024x1440 .f32) (g : FVec Ideal S128 .f32) (u : FVec Ideal S128x1024 .f32)
    (b : Fin 32) (h : Fin 8) (r : Fin 80) (j : Fin 512) :
    t14 z w g u (ix3 b ⟨h.val * 80 + r.val, by omega⟩ j) = Ov (klat z w g ⟨b.val / 8 * 4096 + (b.val % 8 * 512 + j.val), by omega⟩) u h r := by
  pointwise [t14, Ov, klat, proj, rms, kv]

theorem r12 (c : Dev nD) : res_main_v106 m c = O12 (m ((c.tc : Thread nD τ).loc main_arg0)) (m ((c.tc : Thread nD τ).loc main_arg1)) (m ((c.tc : Thread nD τ).loc main_arg2)) (m ((c.tc : Thread nD τ).loc main_arg3)) := by
  funext i
  idx_vars i
  exact (congrArg (fun l : Fin 1024 => (show FVec Ideal S16384x1024 .bf16 from res_main_v106 m c) (ix2 i0 l)) (col128 i1)).trans (r12_at m c i0 _ _)

theorem r13 (c : Dev nD) : res_main_v107 m c = O13 (m ((c.tc : Thread nD τ).loc main_arg0)) (m ((c.tc : Thread nD τ).loc main_arg1)) (m ((c.tc : Thread nD τ).loc main_arg4)) (m ((c.tc : Thread nD τ).loc main_arg5)) := by
  funext i
  idx_vars i
  exact (congrArg (fun l : Fin 1024 => (show FVec Ideal S16384x1024 .bf16 from res_main_v107 m c) (ix2 i0 l)) (col128 i1)).trans (r13_at m c i0 _ _)

theorem r14 (z : FVec Ideal S16384x1024 .bf16) (w : FVec Ideal S1024x1440 .f32) (g : FVec Ideal S128 .f32) (u : FVec Ideal S128x1024 .f32) :
    t14 z w g u = O14 z w g u := by
  funext i
  idx_vars i
  refine ((congrArg (fun l : Fin 640 => t14 z w g u (ix3 i0 l i2)) (col80 i1)).trans (r14_at z w g u i0 _ _ i2)).trans ?_
  exact congrArg (fun n => Ov (klat z w g n) u _ _) (Fin.ext (show i0.val / 8 * 4096 + (i0.val % 8 * 512 + i2.val) = i0.val * 512 + i2.val by omega))

end Cert.Reference5Ideal.OddRef
end
-- ==== Proof.OddInClaim.lean ====
module

public import proofs.«01_k».proof.Defs
public import proofs.«01_k».proof.Proof.OddRef
public import Idealize.ShloMosaic.Lib.Claim

@[expose] public section

set_option maxRecDepth 16384

noncomputable section

open Idealize.ShloMosaic Idealize.ShloMosaic.TcCoe Idealize.SL.Sem

namespace Cert.Proof

open Cert.Kernel5Ideal.OddIn Cert.Reference5Ideal.OddRef in
/-- The odd layer's in-projection computes what its reference computes, all four results. -/
theorem odd_in_algebraic : Cert.algebraic_Kernel5Ideal_Reference5Ideal := by
  pair_intro
  · run_from Cert.Kernel5Ideal.Value.run_blocks m g
  · run_from Cert.Reference5Ideal.Value.run m' g'
    · exact (r11 _ _).trans (final11 m c).symm
    · refine (r12 m' c).trans (Eq.trans ?_ (final12 m c).symm)
      obtain ⟨a0, a1, a2, a3, a4, a5⟩ := hagree c
      rw [a0, a1, a2, a3]
    · refine (r13 m' c).trans (Eq.trans ?_ (final13 m c).symm)
      obtain ⟨a0, a1, a2, a3, a4, a5⟩ := hagree c
      rw [a0, a1, a4, a5]
    · refine (r14 _ _ _ _).trans (Eq.trans ?_ (final14 m c).symm)
      obtain ⟨a0, a1, a2, a3, a4, a5⟩ := hagree c
      rw [a4, a5]

end Cert.Proof

end
-- ==== Proof.AttnPre.lean ====
module

public import proofs.«01_k».proof.Pre_finite_scores
public import Idealize.ShloMosaic.Lib.ReduceAll
public import Idealize.ShloMosaic.Lib.Pointwise
public import Idealize.ShloMosaic.Lib.IdealHost

@[expose] public section

set_option maxRecDepth 16384

noncomputable section

open Idealize.ShloMosaic

namespace Cert.Pre_finite_scores.Attn

open Cert.Pre_finite_scores

/-- The shape relations the precondition's operations take. -/
instance facts : Cert.Pre_finite_scores.Facts where
  bitsLt_bf16_f32 := by decide
  shapeCasts_S32x640x512_S4x8x8x80x512 := by decide
  slices_S4x8x8x80x512_S4x8x8x1x512_0_0_0_64_0 := by decide
  shapeCasts_S4x8x8x1x512_S4x8x8x512 := by decide
  bcast_S_S4x4096x1024 := by decide
  reducesTo_S4x4096x1024_S_d0_1_2 := by decide
  h_S_ := by decide
  bcast_S_S4x8x8x512 := by decide
  reducesTo_S4x8x8x512_S_d0_1_2_3 := by decide

theorem bits_inf : Ideal.ofBits .f32 2139095040#32 = ⊤ := by simp [Ideal.ofBits, Ideal.ieee]

theorem ofBool_one {b : Bool} (h : BitVec.ofBool b = 1#1) : b = true := by revert b; decide

theorem ne_of_abs {x : Ideal .f32} (h : FloatOps.absf x < (⊤ : EReal)) : (x : EReal) ≠ ⊥ ∧ (x : EReal) ≠ ⊤ := by
  change max (x : EReal) (-x) < ⊤ at h
  constructor <;> rintro rfl <;> simp at h

variable {q k : FVec Ideal S4x4096x1024 .bf16} {vt : FVec Ideal S32x640x512 .bf16} {w3 w4 : FVec Ideal S8x1024x3584 .f32} {w5 : FVec Ideal S8x3584x1024 .f32}

theorem split (h : fn (F := Ideal) q k vt w3 w4 w5 = fun _ => 1#1) :
    (∀ i, q i ≠ ⊥ ∧ q i ≠ ⊤) ∧ (∀ i, k i ≠ ⊥ ∧ k i ≠ ⊤)
      ∧ ∀ (b : Fin 4) (h : Fin 8) (j : Fin 8) (a : Fin 512), vt (ix3 ⟨8 * b.val + j.val, by omega⟩ ⟨80 * h.val + 64, by omega⟩ a) = 1 := by
  have e := congrFun h ix0
  unfold fn fn_part1 at e
  dsimp only at e
  obtain ⟨e1, e3⟩ := IntOp.andi_eq_one.1 e
  obtain ⟨e1, e2⟩ := IntOp.andi_eq_one.1 e1
  refine ⟨fun i => ?_, fun i => ?_, fun b h j a => ?_⟩
  · have e := Host.reduce_andi_all _ _ _ _ _ e1 i
    pointwise at e
    rw [bits_inf] at e
    exact ne_of_abs (of_decide_eq_true (ofBool_one e))
  · have e := Host.reduce_andi_all _ _ _ _ _ e2 i
    pointwise at e
    rw [bits_inf] at e
    exact ne_of_abs (of_decide_eq_true (ofBool_one e))
  · have e := Host.reduce_andi_all _ _ _ _ _ e3 (ix4 b j h a)
    pointwise at e
    have e := of_decide_eq_true (ofBool_one e)
    simp only [Ideal.ofBits_one_f32, mul_comm _ 8, mul_comm _ 80] at e
    exact e

end Cert.Pre_finite_scores.Attn

end
-- ==== Proof.Frames.lean ====
module

public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Defs
public import proofs.«01_k».proof.Proof.ExpertPre
public import proofs.«01_k».proof.Proof.Gen.Reference6Ideal.Run
public import proofs.«01_k».proof.Proof.AttnPre
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.ReferenceIdeal.Run
public import proofs.«01_k».proof.Proof.Gen.Reference2Ideal.Run
public import Idealize.ShloMosaic.Lib.Claim
public import Idealize.ShloMosaic.Lib.Quiescent

@[expose] public section

noncomputable section

/-! Every program runs to its end, leaves its arguments as they were and every semaphore at zero. -/

namespace Cert.Proof

open Idealize.ShloMosaic Idealize.ShloMosaic.TcCoe Idealize.SL.Sem

theorem frame_attention : Cert.quiescent_Kernel := fun m g _ => Cert.Kernel.Gen.frame m g
theorem frame_attention_ideal : Cert.quiescent_KernelIdeal := fun m g _ => Cert.KernelIdeal.Gen.frame m g
theorem frame_ffn : Cert.quiescent_Kernel2 := fun m g _ => Cert.Kernel2.Gen.frame m g
theorem frame_ffn_ideal : Cert.quiescent_Kernel2Ideal := fun m g _ => Cert.Kernel2Ideal.Gen.frame m g

theorem frame_attention_ref : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

theorem frame_attention_ideal_pre : Cert.quiescent_KernelIdeal_pre_finite_scores := fun m g _ => Cert.KernelIdeal.Gen.frame m g

theorem frame_attention_ref_pre : Cert.quiescent_ReferenceIdeal_pre_finite_scores := fun m g _ => frame_attention_ref m g trivial

theorem frame_ffn_ref : Cert.quiescent_Reference2Ideal := fun m g _ =>
  (θ_run Cert.Reference2Ideal.defs _ _).mono (fun r h => ⟨fun c => (h c).2.2, sem_eq_zero_of_no_sems (by decide) r.2⟩)
    (Cert.Reference2Ideal.Value.run (F := Ideal) m g)

theorem frame_even_in : Cert.quiescent_Kernel3 := fun m g _ => Cert.Kernel3.Gen.frame m g
theorem frame_even_in_ideal : Cert.quiescent_Kernel3Ideal := fun m g _ => Cert.Kernel3Ideal.Gen.frame m g

theorem frame_even_in_ref : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

theorem frame_even_mix : Cert.quiescent_Kernel4 := fun m g _ => Cert.Kernel4.Gen.frame m g
theorem frame_even_mix_ideal : Cert.quiescent_Kernel4Ideal := fun m g _ => Cert.Kernel4Ideal.Gen.frame m g

theorem frame_even_mix_ref : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

theorem frame_odd_in : Cert.quiescent_Kernel5 := fun m g _ => Cert.Kernel5.Gen.frame m g
theorem frame_odd_in_ideal : Cert.quiescent_Kernel5Ideal := fun m g _ => Cert.Kernel5Ideal.Gen.frame m g

theorem frame_odd_in_ref : Cert.quiescent_Reference5Ideal := fun m g _ =>
  (θ_run Cert.Reference5Ideal.defs _ _).mono (fun r h => ⟨fun c => (h c).2.2.2.2, sem_eq_zero_of_no_sems (by decide) r.2⟩)
    (Cert.Reference5Ideal.Value.run (F := Ideal) m g)

theorem frame_expert : Cert.quiescent_Kernel6 := fun m g h => Cert.Kernel6.Gen.frame m g (Cert.Kernel6.Expert.ok_of_pre m h)
theorem frame_expert_ideal : Cert.quiescent_Kernel6Ideal := fun m g h => Cert.Kernel6Ideal.Gen.frame m g (Cert.Kernel6Ideal.Expert.ok_of_pre m h)

theorem frame_expert_ref : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem frame_expert_ref_pre : Cert.quiescent_Reference6Ideal_pre_expert_in_range := fun m g _ => frame_expert_ref m g trivial

end Cert.Proof

end
-- ==== Proof.AttnStep.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Pipeline.ReadBack
public import Idealize.ShloMosaic.Lib.WritesUnit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- One entry of a block of scores: a key's row times a query's row. -/
theorem score_at (q k : FVec Ideal S1x512x128 .bf16) (a b : Fin 512) :
    k0_pay2 (F := Ideal) q k (ix2 a b) = ∑ l : Fin 128, k (ix3 0 a l) * q (ix3 0 b l) := by
  pointwise [k0_pay2]

/-- The same block with the keys after the query masked out. -/
theorem masked_at (q k : FVec Ideal S1x512x128 .bf16) (a b : Fin 512) :
    k0_pay63 (F := Ideal) q k (ix2 a b) = if a ≤ b then ∑ l : Fin 128, k (ix3 0 a l) * q (ix3 0 b l) else ⊥ := by
  pointwise [k0_pay63]
  have hm : (Named.named (F := Ideal) κ "mask" (φ := .f32) 4048155338#32 : EReal) = ⊥ := rfl
  rw [WordCmp.cmpi_sle_ofNat (by have := a.isLt; omega) (by have := b.isLt; omega), hm]
  by_cases h : a ≤ b
  · simp [Scalar.select, h]
  · simp [Scalar.select, h]

/-- A query's running maximum after one more block of scores. -/
abbrev newM (mm : FVec Ideal S1x512 .f32) (S : FVec Ideal S512x512 .f32) : FVec Ideal S1x512 .f32 := k0_pay9 (F := Ideal) mm S

/-- A head's rows of the accumulator after one more block of scores. -/
abbrev newA (mm : FVec Ideal S1x512 .f32) (S : FVec Ideal S512x512 .f32) (vt : FVec Ideal S1x80x512 .bf16)
    (old : FVec Ideal S1x80x512 .f32) : FVec Ideal S1x80x512 .f32 :=
  k0_pay20 (F := Ideal) (k0_pay10 (F := Ideal) mm S) (k0_pay11 (F := Ideal) mm S) (k0_pay19 (F := Ideal) vt) old

theorem newM_at (mm : FVec Ideal S1x512 .f32) (S : FVec Ideal S512x512 .f32) (b : Fin 512) :
    newM mm S (ix2 0 b) = max (mm (ix2 0 b)) (Finset.univ.sup fun a : Fin 512 => (S (ix2 a b) : EReal)) := by
  pointwise [newM, k0_pay9]
  rw [show Ideal.ofBits .f32 4286578688#32 = ⊥ by simp [Ideal.ofBits, Ideal.ieee]]
  rfl

theorem newA_at (mm : FVec Ideal S1x512 .f32) (S : FVec Ideal S512x512 .f32) (vt : FVec Ideal S1x80x512 .bf16)
    (old : FVec Ideal S1x80x512 .f32) (r : Fin 80) (b : Fin 512) :
    newA mm S vt old (ix3 0 r b) = Ideal.exp2 (mm (ix2 0 b) - newM mm S (ix2 0 b)) * old (ix3 0 r b)
      + ∑ a : Fin 512, vt (ix3 0 r a) * Ideal.exp2 (S (ix2 a b) - newM mm S (ix2 0 b)) := by
  pointwise [newA, k0_pay20, k0_pay10, k0_pay11, k0_pay19]
  rfl

theorem trips1 : ∀ i : grid0.Coords, (k0_t1_loop i).trips = (i 2).val := by decide +kernel
theorem trips2 : ∀ i : grid0.Coords, (k0_t2_loop i).trips = 0 := by decide +kernel

/-- Writing one head's rows, then reading. -/
theorem read_slab {v : View sig .tc .vmem S4x80x512 .f32} (f : v.ty.Contents (Elt Ideal)) (h : ℕ) (hh : Fin 4)
    (inb : ∀ a, (![h, 0, 0] : Fin 3 → ℕ) a + S1x80x512.size a ≤ S4x80x512.size a) (w : S1x80x512.Idx → EReal)
    (L : List (View.Piece (Elt Ideal) S4x80x512 .f32)) (r : Fin 80) (b : Fin 512) :
    v.read (Elt Ideal) (v.writes (Elt Ideal) f ((⟨Rect.unit (s := S4x80x512) ![h, 0, 0] S1x80x512.size inb, w⟩ : View.Piece (Elt Ideal) S4x80x512 .f32) :: L)) (ix3 hh r b)
      = if hh.val = h then w (ix3 0 r b) else v.read (Elt Ideal) (v.writes (Elt Ideal) f L) (ix3 hh r b) := by
  split_ifs with e
  · refine View.read_writes_cons_unit_of_mem v f inb w L _ (ix3 0 r b) rfl fun a => ?_
    match a with
    | ⟨0, _⟩ => exact e
    | ⟨1, _⟩ => exact (Nat.zero_add _).symm
    | ⟨2, _⟩ => exact (Nat.zero_add _).symm
  · refine View.read_writes_cons_unit_of_not_mem v f inb w L _ rfl (0 : Fin 3) ?_
    show hh.val < h ∨ h + 1 ≤ hh.val
    omega

/-- A head's rows, read from the accumulator. -/
theorem load_slab {v : View sig .tc .vmem S4x80x512 .f32} (f : v.ty.Contents (Elt Ideal)) (h : ℕ) (hh : Fin 4)
    (inb : ∀ a, (![h, 0, 0] : Fin 3 → ℕ) a + S1x80x512.size a ≤ S4x80x512.size a) (e : hh.val = h) (r : Fin 80) (b : Fin 512) :
    View.readAt (Elt Ideal) v (Rect.unit (s := S4x80x512) ![h, 0, 0] S1x80x512.size inb).toLoadRect f (ix3 0 r b)
      = v.read (Elt Ideal) f (ix3 hh r b) := by
  rw [View.readAt_apply]
  refine congrArg (v.read (Elt Ideal) f) (funext fun a => Fin.ext ?_)
  match a with
  | ⟨0, _⟩ => show h + 1 * 0 = hh.val; omega
  | ⟨1, _⟩ => show 0 + 1 * r.val = r.val; omega
  | ⟨2, _⟩ => show 0 + 1 * b.val = b.val; omega

abbrev qh (arg3 : Memref sig .tc .vmem S1x512x512 .bf16) (X_arg3 : BufTy.Contents (Elt Ideal) arg3.view.ty) (h : ℕ) (inb : ∀ a, (![0, 0, h] : Fin 3 → ℕ) a + S1x512x128.size a ≤ S1x512x512.size a) : FVec Ideal S1x512x128 .bf16 :=
  View.readAt (Elt Ideal) arg3.view (Rect.unit (s := S1x512x512) ![0, 0, h] S1x512x128.size inb).toLoadRect X_arg3

abbrev kh (arg4 : Memref sig .tc .vmem S1x4096x512 .bf16) (X_arg4 : BufTy.Contents (Elt Ideal) arg4.view.ty) (o : Fin 3 → ℕ) (inb : ∀ a, o a + S1x512x128.size a ≤ S1x4096x512.size a) : FVec Ideal S1x512x128 .bf16 :=
  View.readAt (Elt Ideal) arg4.view (Rect.unit (s := S1x4096x512) o S1x512x128.size inb).toLoadRect X_arg4

abbrev vh (arg5 : Memref sig .tc .vmem S8x320x512 .bf16) (X_arg5 : BufTy.Contents (Elt Ideal) arg5.view.ty) (o : Fin 3 → ℕ) (inb : ∀ a, o a + S1x80x512.size a ≤ S8x320x512.size a) : FVec Ideal S1x80x512 .bf16 :=
  View.readAt (Elt Ideal) arg5.view (Rect.unit (s := S8x320x512) o S1x80x512.size inb).toLoadRect X_arg5

abbrev ah (arg13 : Memref sig .tc .vmem S4x80x512 .f32) (f : BufTy.Contents (Elt Ideal) arg13.view.ty) (h : ℕ) (inb : ∀ a, (![h, 0, 0] : Fin 3 → ℕ) a + S1x80x512.size a ≤ S4x80x512.size a) :
    FVec Ideal S1x80x512 .f32 :=
  View.readAt (Elt Ideal) arg13.view (Rect.unit (s := S4x80x512) ![h, 0, 0] S1x80x512.size inb).toLoadRect f

section Trip

variable (𝒱 : Variants) (c : Dev nD) (bd : Option 𝒱.V) (i : grid0.Coords) (arg3 : Memref sig .tc .vmem S1x512x512 .bf16) (harg3 : arg3.IsWhole) (arg4 : Memref sig .tc .vmem S1x4096x512 .bf16) (harg4 : arg4.IsWhole) (arg5 : Memref sig .tc .vmem S8x320x512 .bf16) (harg5 : arg5.IsWhole) (arg6 : Memref sig .tc .vmem S1x128x3584 .f32) (harg6 : arg6.IsWhole) (arg7 : Memref sig .tc .vmem S1x128x3584 .f32) (harg7 : arg7.IsWhole) (arg8 : Memref sig .tc .vmem S1x448x1024 .f32) (harg8 : arg8.IsWhole) (arg9 : Memref sig .tc .vmem S1x512x256 .bf16) (harg9 : arg9.IsWhole) (arg10 : Memref sig .tc .vmem S1x7x128x512 .bf16) (harg10 : arg10.IsWhole) (arg11 : Memref sig .tc .vmem S1x7x128x512 .bf16) (harg11 : arg11.IsWhole) (arg12 : Memref sig .tc .vmem S1x448x1024 .bf16) (harg12 : arg12.IsWhole) (arg13 : Memref sig .tc .vmem S4x80x512 .f32) (harg13 : arg13.IsWhole) (arg2 : BitVec 32) (X_arg3 : BufTy.Contents (Elt Ideal) arg3.view.ty) (X_arg4 : BufTy.Contents (Elt Ideal) arg4.view.ty) (X_arg5 : BufTy.Contents (Elt Ideal) arg5.view.ty) (k : Fin (k0_t1_loop i).trips)

theorem tripR_eq (acc : FVec Ideal S1x512 .f32 × FVec Ideal S1x512 .f32 × FVec Ideal S1x512 .f32 × FVec Ideal S1x512 .f32)
    (f : BufTy.Contents (Elt Ideal) arg13.view.ty) :
    ∃ i1 i2 i3 i4 j1 j2 j3 j4, tripR_k0_t1 (F := Ideal) 𝒱 c bd i arg3 harg3 arg4 harg4 arg5 harg5 arg6 harg6 arg7 harg7 arg8 harg8 arg9 harg9 arg10 harg10 arg11 harg11 arg12 harg12 arg13 harg13 arg2 X_arg3 X_arg4 X_arg5 k acc f
      = (newM acc.1 (k0_pay2 (qh arg3 X_arg3 0 i1) (kh arg4 X_arg4 (k0_off1 i k) j1)),
         newM acc.2.1 (k0_pay2 (qh arg3 X_arg3 128 i2) (kh arg4 X_arg4 (k0_off2 i k) j2)),
         newM acc.2.2.1 (k0_pay2 (qh arg3 X_arg3 256 i3) (kh arg4 X_arg4 (k0_off3 i k) j3)),
         newM acc.2.2.2 (k0_pay2 (qh arg3 X_arg3 384 i4) (kh arg4 X_arg4 (k0_off4 i k) j4))) := by
  unfold tripR_k0_t1 trip_k0_t1
  exact ⟨_, _, _, _, _, _, _, _, rfl⟩

theorem tripL_eq (acc : FVec Ideal S1x512 .f32 × FVec Ideal S1x512 .f32 × FVec Ideal S1x512 .f32 × FVec Ideal S1x512 .f32)
    (f : BufTy.Contents (Elt Ideal) arg13.view.ty) :
    ∃ i1 i2 i3 i4 j1 j2 j3 j4 v1 v2 v3 v4 a1 a2 a3 a4, tripL_k0_t1 (F := Ideal) 𝒱 c bd i arg3 harg3 arg4 harg4 arg5 harg5 arg6 harg6 arg7 harg7 arg8 harg8 arg9 harg9 arg10 harg10 arg11 harg11 arg12 harg12 arg13 harg13 arg2 X_arg3 X_arg4 X_arg5 k acc f
      = [⟨Rect.unit ![3, 0, 0] S1x80x512.size a4, newA acc.2.2.2 (k0_pay2 (qh arg3 X_arg3 384 i4) (kh arg4 X_arg4 (k0_off4 i k) j4)) (vh arg5 X_arg5 (k0_off8 i k) v4) (ah arg13 f 3 a4)⟩,
         ⟨Rect.unit ![2, 0, 0] S1x80x512.size a3, newA acc.2.2.1 (k0_pay2 (qh arg3 X_arg3 256 i3) (kh arg4 X_arg4 (k0_off3 i k) j3)) (vh arg5 X_arg5 (k0_off7 i k) v3) (ah arg13 f 2 a3)⟩,
         ⟨Rect.unit ![1, 0, 0] S1x80x512.size a2, newA acc.2.1 (k0_pay2 (qh arg3 X_arg3 128 i2) (kh arg4 X_arg4 (k0_off2 i k) j2)) (vh arg5 X_arg5 (k0_off6 i k) v2) (ah arg13 f 1 a2)⟩,
         ⟨Rect.unit ![0, 0, 0] S1x80x512.size a1, newA acc.1 (k0_pay2 (qh arg3 X_arg3 0 i1) (kh arg4 X_arg4 (k0_off1 i k) j1)) (vh arg5 X_arg5 (k0_off5 i k) v1) (ah arg13 f 0 a1)⟩] := by
  unfold tripL_k0_t1 trip_k0_t1
  exact ⟨_, _, _, _, _, _, _, _, _, _, _, _, _, _, _, _, rfl⟩

end Trip

theorem offs1 : ∀ (i : grid0.Coords) (k : Fin (k0_t1_loop i).trips), k0_off1 i k = ![0, 512 * k.val, 0] ∧ k0_off2 i k = ![0, 512 * k.val, 128]
    ∧ k0_off3 i k = ![0, 512 * k.val, 256] ∧ k0_off4 i k = ![0, 512 * k.val, 384] ∧ k0_off5 i k = ![k.val, 0, 0] ∧ k0_off6 i k = ![k.val, 80, 0]
    ∧ k0_off7 i k = ![k.val, 160, 0] ∧ k0_off8 i k = ![k.val, 240, 0] := by decide +kernel

theorem offs2 : ∀ i : grid0.Coords, k0_off17 i = ![0, 512 * (i 2).val, 0] ∧ k0_off18 i = ![0, 512 * (i 2).val, 128]
    ∧ k0_off19 i = ![0, 512 * (i 2).val, 256] ∧ k0_off20 i = ![0, 512 * (i 2).val, 384] ∧ k0_off21 i = ![(i 2).val, 0, 0] ∧ k0_off22 i = ![(i 2).val, 80, 0]
    ∧ k0_off23 i = ![(i 2).val, 160, 0] ∧ k0_off24 i = ![(i 2).val, 240, 0] := by decide +kernel

/-- The score of key `a` of block `n` for query `b`, in head `h`. -/
def sc (x0 : FVec Ideal S1x512x512 .bf16) (x1 : FVec Ideal S1x4096x512 .bf16) (h : Fin 4) (n : ℕ) (a b : Fin 512) : EReal :=
  if hn : n < 8 then ∑ l : Fin 128, x1 (ix3 0 ⟨512 * n + a.val, by omega⟩ ⟨128 * h.val + l.val, by omega⟩) * x0 (ix3 0 b ⟨128 * h.val + l.val, by omega⟩) else 0

/-- Row `r` of the values of block `n`, in head `h`. -/
def vv (x2 : FVec Ideal S8x320x512 .bf16) (h : Fin 4) (n : ℕ) (r : Fin 80) (a : Fin 512) : EReal :=
  if hn : n < 8 then x2 (ix3 ⟨n, hn⟩ ⟨80 * h.val + r.val, by omega⟩ a) else 0

theorem qh_at {arg3 : Memref sig .tc .vmem S1x512x512 .bf16} (harg3 : arg3.IsWhole) (x0 : FVec Ideal S1x512x512 .bf16) (h : Fin 4) (o : ℕ)
    (inb : ∀ a, (![0, 0, o] : Fin 3 → ℕ) a + S1x512x128.size a ≤ S1x512x512.size a) (e : o = 128 * h.val) (b : Fin 512) (l : Fin 128) :
    qh arg3 (harg3.unread x0) o inb (ix3 0 b l) = x0 (ix3 0 b ⟨128 * h.val + l.val, by omega⟩) := by
  refine Eq.trans (Memref.IsWhole.readAt_unread (Val := Elt Ideal) harg3 x0 _ _) ?_
  refine congrArg x0 (funext fun a => Fin.ext ?_)
  match a with
  | ⟨0, _⟩ => rfl
  | ⟨1, _⟩ => show 0 + 1 * b.val = b.val; omega
  | ⟨2, _⟩ => show o + 1 * l.val = 128 * h.val + l.val; omega

theorem kh_at {arg4 : Memref sig .tc .vmem S1x4096x512 .bf16} (harg4 : arg4.IsWhole) (x1 : FVec Ideal S1x4096x512 .bf16) (h : Fin 4) (n : ℕ) (hn : n < 8)
    (o : Fin 3 → ℕ) (inb : ∀ a, o a + S1x512x128.size a ≤ S1x4096x512.size a) (e : o = ![0, 512 * n, 128 * h.val]) (b : Fin 512) (l : Fin 128) :
    kh arg4 (harg4.unread x1) o inb (ix3 0 b l) = x1 (ix3 0 ⟨512 * n + b.val, by omega⟩ ⟨128 * h.val + l.val, by omega⟩) := by
  subst e
  refine Eq.trans (Memref.IsWhole.readAt_unread (Val := Elt Ideal) harg4 x1 _ _) ?_
  refine congrArg x1 (funext fun a => Fin.ext ?_)
  match a with
  | ⟨0, _⟩ => rfl
  | ⟨1, _⟩ => show 512 * n + 1 * b.val = 512 * n + b.val; omega
  | ⟨2, _⟩ => show 128 * h.val + 1 * l.val = 128 * h.val + l.val; omega

theorem vh_at {arg5 : Memref sig .tc .vmem S8x320x512 .bf16} (harg5 : arg5.IsWhole) (x2 : FVec Ideal S8x320x512 .bf16) (h : Fin 4) (n : ℕ) (hn : n < 8)
    (o : Fin 3 → ℕ) (inb : ∀ a, o a + S1x80x512.size a ≤ S8x320x512.size a) (e : o = ![n, 80 * h.val, 0]) (r : Fin 80) (l : Fin 512) :
    vh arg5 (harg5.unread x2) o inb (ix3 0 r l) = vv x2 h n r l := by
  subst e
  unfold vv
  rw [dif_pos hn]
  refine Eq.trans (Memref.IsWhole.readAt_unread (Val := Elt Ideal) harg5 x2 _ _) ?_
  refine congrArg x2 (funext fun a => Fin.ext ?_)
  match a with
  | ⟨0, _⟩ => rfl
  | ⟨1, _⟩ => show 80 * h.val + 1 * r.val = 80 * h.val + r.val; omega
  | ⟨2, _⟩ => show 0 + 1 * l.val = l.val; omega

section Scores

variable {arg3 : Memref sig .tc .vmem S1x512x512 .bf16} (harg3 : arg3.IsWhole) {arg4 : Memref sig .tc .vmem S1x4096x512 .bf16} (harg4 : arg4.IsWhole)
  (x0 : FVec Ideal S1x512x512 .bf16) (x1 : FVec Ideal S1x4096x512 .bf16) (h : Fin 4) (n : ℕ) (hn : n < 8) (o : ℕ) (o' : Fin 3 → ℕ)
  (inb : ∀ a, (![0, 0, o] : Fin 3 → ℕ) a + S1x512x128.size a ≤ S1x512x512.size a)
  (inb' : ∀ a, o' a + S1x512x128.size a ≤ S1x4096x512.size a) (e : o = 128 * h.val) (e' : o' = ![0, 512 * n, 128 * h.val]) (a b : Fin 512)

include hn e e'

theorem score_sc : k0_pay2 (F := Ideal) (qh arg3 (harg3.unread x0) o inb) (kh arg4 (harg4.unread x1) o' inb') (ix2 a b) = sc x0 x1 h n a b := by
  rw [score_at, sc, dif_pos hn]
  exact Finset.sum_congr rfl fun l _ => by rw [qh_at harg3 x0 h o inb e, kh_at harg4 x1 h n hn o' inb' e']

theorem masked_sc : k0_pay63 (F := Ideal) (qh arg3 (harg3.unread x0) o inb) (kh arg4 (harg4.unread x1) o' inb') (ix2 a b)
    = if a ≤ b then sc x0 x1 h n a b else ⊥ := by
  rw [masked_at, sc, dif_pos hn]
  congr 1
  exact Finset.sum_congr rfl fun l _ => by rw [qh_at harg3 x0 h o inb e, kh_at harg4 x1 h n hn o' inb' e']

end Scores

/-- The running maximum over the first `n` blocks of scores. -/
def runM (s : ℕ → Fin 512 → EReal) : ℕ → EReal
  | 0 => ⊥
  | n + 1 => max (runM s n) (Finset.univ.sup (s n))

/-- The running weighted sum over the first `n` blocks, rescaled at every block to its new maximum. -/
def runA (s v : ℕ → Fin 512 → EReal) : ℕ → EReal
  | 0 => 0
  | n + 1 => Ideal.exp2 (runM s n - runM s (n + 1)) * runA s v n + ∑ a : Fin 512, v n a * Ideal.exp2 (s n a - runM s (n + 1))

end Cert.KernelIdeal.Attn

end
-- ==== Proof.AttnLoop.lean ====
module

public import proofs.«01_k».proof.Proof.AttnStep
public import Idealize.ShloMosaic.Lib.Pipeline.ValueKit
public import Idealize.ShloMosaic.Lib.Pointwise
public import Idealize.ShloMosaic.Lib.Pipeline.ReadBack
public import Idealize.ShloMosaic.Lib.WritesUnit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The four heads' carried vectors, by head. -/
def comp (acc : FVec Ideal S1x512 .f32 × FVec Ideal S1x512 .f32 × FVec Ideal S1x512 .f32 × FVec Ideal S1x512 .f32) (h : Fin 4) : FVec Ideal S1x512 .f32 :=
  match h with
  | 0 => acc.1
  | 1 => acc.2.1
  | 2 => acc.2.2.1
  | 3 => acc.2.2.2

theorem newM_of (mm : FVec Ideal S1x512 .f32) (S : FVec Ideal S512x512 .f32) (s : Fin 512 → Fin 512 → EReal) (hS : ∀ a b, S (ix2 a b) = s a b) (b : Fin 512) :
    newM mm S (ix2 0 b) = max (mm (ix2 0 b)) (Finset.univ.sup fun a : Fin 512 => s a b) := by
  rw [newM_at]; simp only [hS]

theorem newA_of (mm : FVec Ideal S1x512 .f32) (S : FVec Ideal S512x512 .f32) (vt : FVec Ideal S1x80x512 .bf16) (old : FVec Ideal S1x80x512 .f32)
    (s : Fin 512 → Fin 512 → EReal) (hS : ∀ a b, S (ix2 a b) = s a b) (v : Fin 80 → Fin 512 → EReal) (hv : ∀ r a, vt (ix3 0 r a) = v r a)
    (o : Fin 80 → Fin 512 → EReal) (ho : ∀ r b, old (ix3 0 r b) = o r b) (r : Fin 80) (b : Fin 512) :
    newA mm S vt old (ix3 0 r b) = Ideal.exp2 (mm (ix2 0 b) - newM mm S (ix2 0 b)) * o r b
      + ∑ a : Fin 512, v r a * Ideal.exp2 (s a b - newM mm S (ix2 0 b)) := by
  rw [newA_at, ho]; simp only [hS, hv]

section Trip

variable (𝒱 : Variants) (c : Dev nD) (bd : Option 𝒱.V) (i : grid0.Coords) (arg3 : Memref sig .tc .vmem S1x512x512 .bf16) (harg3 : arg3.IsWhole) (arg4 : Memref sig .tc .vmem S1x4096x512 .bf16) (harg4 : arg4.IsWhole) (arg5 : Memref sig .tc .vmem S8x320x512 .bf16) (harg5 : arg5.IsWhole) (arg6 : Memref sig .tc .vmem S1x128x3584 .f32) (harg6 : arg6.IsWhole) (arg7 : Memref sig .tc .vmem S1x128x3584 .f32) (harg7 : arg7.IsWhole) (arg8 : Memref sig .tc .vmem S1x448x1024 .f32) (harg8 : arg8.IsWhole) (arg9 : Memref sig .tc .vmem S1x512x256 .bf16) (harg9 : arg9.IsWhole) (arg10 : Memref sig .tc .vmem S1x7x128x512 .bf16) (harg10 : arg10.IsWhole) (arg11 : Memref sig .tc .vmem S1x7x128x512 .bf16) (harg11 : arg11.IsWhole) (arg12 : Memref sig .tc .vmem S1x448x1024 .bf16) (harg12 : arg12.IsWhole) (arg13 : Memref sig .tc .vmem S4x80x512 .f32) (harg13 : arg13.IsWhole) (arg2 : BitVec 32)  (x0 : FVec Ideal S1x512x512 .bf16) (x1 : FVec Ideal S1x4096x512 .bf16) (x2 : FVec Ideal S8x320x512 .bf16)

theorem tripR_at (k : Fin (k0_t1_loop i).trips) (acc : FVec Ideal S1x512 .f32 × FVec Ideal S1x512 .f32 × FVec Ideal S1x512 .f32 × FVec Ideal S1x512 .f32) (f : BufTy.Contents (Elt Ideal) arg13.view.ty) (h : Fin 4) (b : Fin 512) :
    comp (tripR_k0_t1 (F := Ideal) 𝒱 c bd i arg3 harg3 arg4 harg4 arg5 harg5 arg6 harg6 arg7 harg7 arg8 harg8 arg9 harg9 arg10 harg10 arg11 harg11 arg12 harg12 arg13 harg13 arg2 (harg3.unread x0) (harg4.unread x1) (harg5.unread x2) k acc f) h (ix2 0 b)
      = max (comp acc h (ix2 0 b)) (Finset.univ.sup fun a : Fin 512 => sc x0 x1 h k.val a b) := by
  have hk : k.val < 8 := lt_of_lt_of_le k.isLt (by rw [trips1]; exact (i 2).isLt.le)
  obtain ⟨e1, e2, e3, e4, -⟩ := offs1 i k
  obtain ⟨i1, i2, i3, i4, j1, j2, j3, j4, e⟩ := tripR_eq 𝒱 c bd i arg3 harg3 arg4 harg4 arg5 harg5 arg6 harg6 arg7 harg7 arg8 harg8 arg9 harg9 arg10 harg10 arg11 harg11 arg12 harg12 arg13 harg13 arg2 (harg3.unread x0) (harg4.unread x1) (harg5.unread x2) k acc f
  rw [e]
  match h with
  | 0 => exact newM_of _ _ _ (fun a b => score_sc harg3 harg4 x0 x1 0 k.val hk _ _ i1 j1 rfl e1 a b) b
  | 1 => exact newM_of _ _ _ (fun a b => score_sc harg3 harg4 x0 x1 1 k.val hk _ _ i2 j2 rfl e2 a b) b
  | 2 => exact newM_of _ _ _ (fun a b => score_sc harg3 harg4 x0 x1 2 k.val hk _ _ i3 j3 rfl e3 a b) b
  | 3 => exact newM_of _ _ _ (fun a b => score_sc harg3 harg4 x0 x1 3 k.val hk _ _ i4 j4 rfl e4 a b) b

theorem tripL_at (k : Fin (k0_t1_loop i).trips) (acc : FVec Ideal S1x512 .f32 × FVec Ideal S1x512 .f32 × FVec Ideal S1x512 .f32 × FVec Ideal S1x512 .f32) (f : BufTy.Contents (Elt Ideal) arg13.view.ty) (h : Fin 4) (r : Fin 80) (b : Fin 512) :
    arg13.view.read (Elt Ideal) (arg13.view.writes (Elt Ideal) f (tripL_k0_t1 (F := Ideal) 𝒱 c bd i arg3 harg3 arg4 harg4 arg5 harg5 arg6 harg6 arg7 harg7 arg8 harg8 arg9 harg9 arg10 harg10 arg11 harg11 arg12 harg12 arg13 harg13 arg2 (harg3.unread x0) (harg4.unread x1) (harg5.unread x2) k acc f)) (ix3 h r b)
      = Ideal.exp2 (comp acc h (ix2 0 b) - comp (tripR_k0_t1 (F := Ideal) 𝒱 c bd i arg3 harg3 arg4 harg4 arg5 harg5 arg6 harg6 arg7 harg7 arg8 harg8 arg9 harg9 arg10 harg10 arg11 harg11 arg12 harg12 arg13 harg13 arg2 (harg3.unread x0) (harg4.unread x1) (harg5.unread x2) k acc f) h (ix2 0 b)) * arg13.view.read (Elt Ideal) f (ix3 h r b)
        + ∑ a : Fin 512, vv x2 h k.val r a * Ideal.exp2 (sc x0 x1 h k.val a b - comp (tripR_k0_t1 (F := Ideal) 𝒱 c bd i arg3 harg3 arg4 harg4 arg5 harg5 arg6 harg6 arg7 harg7 arg8 harg8 arg9 harg9 arg10 harg10 arg11 harg11 arg12 harg12 arg13 harg13 arg2 (harg3.unread x0) (harg4.unread x1) (harg5.unread x2) k acc f) h (ix2 0 b)) := by
  have hk : k.val < 8 := lt_of_lt_of_le k.isLt (by rw [trips1]; exact (i 2).isLt.le)
  obtain ⟨e1, e2, e3, e4, e5, e6, e7, e8⟩ := offs1 i k
  obtain ⟨i1, i2, i3, i4, j1, j2, j3, j4, e⟩ := tripR_eq 𝒱 c bd i arg3 harg3 arg4 harg4 arg5 harg5 arg6 harg6 arg7 harg7 arg8 harg8 arg9 harg9 arg10 harg10 arg11 harg11 arg12 harg12 arg13 harg13 arg2 (harg3.unread x0) (harg4.unread x1) (harg5.unread x2) k acc f
  obtain ⟨p1, p2, p3, p4, q1, q2, q3, q4, v1, v2, v3, v4, a1, a2, a3, a4, e'⟩ := tripL_eq 𝒱 c bd i arg3 harg3 arg4 harg4 arg5 harg5 arg6 harg6 arg7 harg7 arg8 harg8 arg9 harg9 arg10 harg10 arg11 harg11 arg12 harg12 arg13 harg13 arg2 (harg3.unread x0) (harg4.unread x1) (harg5.unread x2) k acc f
  rw [e, e', read_slab, read_slab, read_slab, read_slab]
  match h with
  | 0 =>
    refine Eq.trans (if_neg (show ¬ (0 : Fin 4).val = 3 by decide)) ?_
    refine Eq.trans (if_neg (show ¬ (0 : Fin 4).val = 2 by decide)) ?_
    refine Eq.trans (if_neg (show ¬ (0 : Fin 4).val = 1 by decide)) ?_
    refine Eq.trans (if_pos rfl) ?_
    exact newA_of _ _ _ _ _ (fun a b => score_sc harg3 harg4 x0 x1 0 k.val hk _ _ i1 j1 rfl e1 a b) _ (fun r a => vh_at harg5 x2 0 k.val hk _ v1 e5 r a)
      _ (fun r b => load_slab f 0 0 a1 rfl r b) r b
  | 1 =>
    refine Eq.trans (if_neg (show ¬ (1 : Fin 4).val = 3 by decide)) ?_
    refine Eq.trans (if_neg (show ¬ (1 : Fin 4).val = 2 by decide)) ?_
    refine Eq.trans (if_pos rfl) ?_
    exact newA_of _ _ _ _ _ (fun a b => score_sc harg3 harg4 x0 x1 1 k.val hk _ _ i2 j2 rfl e2 a b) _ (fun r a => vh_at harg5 x2 1 k.val hk _ v2 e6 r a)
      _ (fun r b => load_slab f 1 1 a2 rfl r b) r b
  | 2 =>
    refine Eq.trans (if_neg (show ¬ (2 : Fin 4).val = 3 by decide)) ?_
    refine Eq.trans (if_pos rfl) ?_
    exact newA_of _ _ _ _ _ (fun a b => score_sc harg3 harg4 x0 x1 2 k.val hk _ _ i3 j3 rfl e3 a b) _ (fun r a => vh_at harg5 x2 2 k.val hk _ v3 e7 r a)
      _ (fun r b => load_slab f 2 2 a3 rfl r b) r b
  | 3 =>
    refine Eq.trans (if_pos rfl) ?_
    exact newA_of _ _ _ _ _ (fun a b => score_sc harg3 harg4 x0 x1 3 k.val hk _ _ i4 j4 rfl e4 a b) _ (fun r a => vh_at harg5 x2 3 k.val hk _ v4 e8 r a)
      _ (fun r b => load_slab f 3 3 a4 rfl r b) r b

/-- The state after `n` blocks: each head's running maximum, and its rows of the accumulator the running weighted sum. -/
theorem st_at (G : BufTy.Contents (Elt Ideal) arg13.view.ty) (hG : ∀ h r b, arg13.view.read (Elt Ideal) G (ix3 h r b) = (0 : EReal)) :
    ∀ n, n ≤ (i 2).val → ∀ (h : Fin 4) (b : Fin 512),
      comp (st_k0_t1 (F := Ideal) 𝒱 c bd i arg3 harg3 arg4 harg4 arg5 harg5 arg6 harg6 arg7 harg7 arg8 harg8 arg9 harg9 arg10 harg10 arg11 harg11 arg12 harg12 arg13 harg13 arg2 (harg3.unread x0) (harg4.unread x1) (harg5.unread x2) G (k0_pay62, k0_pay62, k0_pay62, k0_pay62) n).1 h (ix2 0 b) = runM (fun n a => sc x0 x1 h n a b) n
      ∧ ∀ r : Fin 80, arg13.view.read (Elt Ideal) (arg13.view.writes (Elt Ideal) G (st_k0_t1 (F := Ideal) 𝒱 c bd i arg3 harg3 arg4 harg4 arg5 harg5 arg6 harg6 arg7 harg7 arg8 harg8 arg9 harg9 arg10 harg10 arg11 harg11 arg12 harg12 arg13 harg13 arg2 (harg3.unread x0) (harg4.unread x1) (harg5.unread x2) G (k0_pay62, k0_pay62, k0_pay62, k0_pay62) n).2) (ix3 h r b)
          = runA (fun n a => sc x0 x1 h n a b) (fun n a => vv x2 h n r a) n
  | 0, _, h, b => ⟨by match h with | 0 => rfl | 1 => rfl | 2 => rfl | 3 => rfl, fun r => hG h r b⟩
  | n + 1, hn, h, b => by
    have ih := st_at G hG n (Nat.le_of_succ_le hn) h b
    have hs := st_k0_t1_succ (F := Ideal) 𝒱 c bd i arg3 harg3 arg4 harg4 arg5 harg5 arg6 harg6 arg7 harg7 arg8 harg8 arg9 harg9 arg10 harg10 arg11 harg11 arg12 harg12 arg13 harg13 arg2 (harg3.unread x0) (harg4.unread x1) (harg5.unread x2) G (k0_pay62, k0_pay62, k0_pay62, k0_pay62) ⟨n, by rw [trips1]; exact hn⟩
    have hM := tripR_at 𝒱 c bd i arg3 harg3 arg4 harg4 arg5 harg5 arg6 harg6 arg7 harg7 arg8 harg8 arg9 harg9 arg10 harg10 arg11 harg11 arg12 harg12 arg13 harg13 arg2 x0 x1 x2 ⟨n, by rw [trips1]; exact hn⟩ (st_k0_t1 (F := Ideal) 𝒱 c bd i arg3 harg3 arg4 harg4 arg5 harg5 arg6 harg6 arg7 harg7 arg8 harg8 arg9 harg9 arg10 harg10 arg11 harg11 arg12 harg12 arg13 harg13 arg2 (harg3.unread x0) (harg4.unread x1) (harg5.unread x2) G (k0_pay62, k0_pay62, k0_pay62, k0_pay62) n).1
      (arg13.view.writes (Elt Ideal) G (st_k0_t1 (F := Ideal) 𝒱 c bd i arg3 harg3 arg4 harg4 arg5 harg5 arg6 harg6 arg7 harg7 arg8 harg8 arg9 harg9 arg10 harg10 arg11 harg11 arg12 harg12 arg13 harg13 arg2 (harg3.unread x0) (harg4.unread x1) (harg5.unread x2) G (k0_pay62, k0_pay62, k0_pay62, k0_pay62) n).2) h b
    rw [ih.1] at hM
    refine ⟨(congrArg (fun z => comp z.1 h (ix2 0 b)) hs).trans hM, fun r => ?_⟩
    refine (congrArg (fun z => arg13.view.read (Elt Ideal) (arg13.view.writes (Elt Ideal) G z.2) (ix3 h r b)) hs).trans ?_
    refine (congrArg (fun z => arg13.view.read (Elt Ideal) z (ix3 h r b)) (View.writes_append _ _ _ _)).trans ?_
    refine (tripL_at 𝒱 c bd i arg3 harg3 arg4 harg4 arg5 harg5 arg6 harg6 arg7 harg7 arg8 harg8 arg9 harg9 arg10 harg10 arg11 harg11 arg12 harg12 arg13 harg13 arg2 x0 x1 x2 ⟨n, by rw [trips1]; exact hn⟩ _ _ h r b).trans ?_
    rw [hM, ih.1, ih.2 r]
    rfl

end Trip

end Cert.KernelIdeal.Attn

end
-- ==== Proof.AttnPoint.lean ====
module

public import proofs.«01_k».proof.Proof.Gen.KernelIdeal.Value
public import proofs.«01_k».proof.Proof.AttnLoop
public import Idealize.ShloMosaic.Lib.Pipeline.ValueKit
public import Idealize.ShloMosaic.Lib.Pointwise
public import Idealize.ShloMosaic.Lib.Pipeline.ReadBack
public import Idealize.ShloMosaic.Lib.WritesUnit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The zeroed accumulator. -/
abbrev Z0 : List (View.Piece (Elt Ideal) S4x80x512 .f32) := kernelRun0_A.sl.HS0_1 (F := Ideal)

abbrev G0 (arg13 : Memref sig .tc .vmem S4x80x512 .f32) : BufTy.Contents (Elt Ideal) arg13.view.ty :=
  arg13.view.writes (Elt Ideal) arg13.view.junk Z0

theorem zero_at (arg13 : Memref sig .tc .vmem S4x80x512 .f32) (h : Fin 4) (r : Fin 80) (b : Fin 512) :
    arg13.view.read (Elt Ideal) (G0 arg13) (ix3 h r b) = (0 : EReal) := by
  have hz : ∀ y, k0_pay44 (F := Ideal) y = (0 : EReal) := fun y => by pointwise [k0_pay44]
  unfold G0 Z0 kernelRun0_A.sl.HS0_1
  refine (View.read_writes_cons_unit_of_mem (Val := Elt Ideal) _ _ _ _ _ _ (ix3 h r b) rfl fun a => ?_).trans (hz _)
  match a with
  | ⟨0, _⟩ => exact (Nat.zero_add _).symm
  | ⟨1, _⟩ => exact (Nat.zero_add _).symm
  | ⟨2, _⟩ => exact (Nat.zero_add _).symm

variable (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S8x320x512 .bf16) (harg5 : arg5.IsWhole) (arg6 : Memref sig .tc .vmem S1x128x3584 .f32) (harg6 : arg6.IsWhole) (arg7 : Memref sig .tc .vmem S1x128x3584 .f32) (harg7 : arg7.IsWhole) (arg8 : Memref sig .tc .vmem S1x448x1024 .f32) (harg8 : arg8.IsWhole) (arg9 : Memref sig .tc .vmem S1x512x256 .bf16) (harg9 : arg9.IsWhole) (arg10 : Memref sig .tc .vmem S1x7x128x512 .bf16) (harg10 : arg10.IsWhole) (arg11 : Memref sig .tc .vmem S1x7x128x512 .bf16) (harg11 : arg11.IsWhole) (arg12 : Memref sig .tc .vmem S1x448x1024 .bf16) (harg12 : arg12.IsWhole) (arg13 : Memref sig .tc .vmem S4x80x512 .f32) (harg13 : arg13.IsWhole)     (x0 : Vec Ideal S1x512x512 .bf16) (x1 : Vec Ideal S1x4096x512 .bf16) (x2 : Vec Ideal S8x320x512 .bf16) (x3 : Vec Ideal S1x128x3584 .f32) (x4 : Vec Ideal S1x128x3584 .f32) (x5 : Vec Ideal S1x448x1024 .f32)

/-- The state the loop over the blocks before the query's own leaves. -/
abbrev S1 : (FVec Ideal S1x512 .f32 × FVec Ideal S1x512 .f32 × FVec Ideal S1x512 .f32 × FVec Ideal S1x512 .f32) × List (View.Piece (Elt Ideal) S4x80x512 .f32) :=
  st_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (harg3.unread x0) (harg4.unread x1) (harg5.unread x2) (G0 arg13) (k0_pay62, k0_pay62, k0_pay62, k0_pay62) (i 2).val

theorem word_m0 : kernelRun0_A.sl.r_2 (F := Ideal) c i arg3 harg3 arg4 harg4 arg5 harg5 arg6 harg6 arg7 harg7 arg8 harg8 arg9 harg9 arg10 harg10 arg11 harg11 arg12 harg12 arg13 harg13 x0 x1 x2 = comp (S1 c i arg3 harg3 arg4 harg4 arg5 harg5 arg6 harg6 arg7 harg7 arg8 harg8 arg9 harg9 arg10 harg10 arg11 harg11 arg12 harg12 arg13 harg13 x0 x1 x2).1 0 := by
  unfold kernelRun0_A.sl.r_2
  rw [show Scf.trips (k0_t2_loop i).lb (k0_t2_loop i).ub (k0_t2_loop i).st = 0 from trips2 i,
    show Scf.trips (k0_t1_loop i).lb (k0_t1_loop i).ub (k0_t1_loop i).st = (i 2).val from trips1 i]
  rfl

theorem word_m1 : kernelRun0_A.sl.r_3 (F := Ideal) c i arg3 harg3 arg4 harg4 arg5 harg5 arg6 harg6 arg7 harg7 arg8 harg8 arg9 harg9 arg10 harg10 arg11 harg11 arg12 harg12 arg13 harg13 x0 x1 x2 = comp (S1 c i arg3 harg3 arg4 harg4 arg5 harg5 arg6 harg6 arg7 harg7 arg8 harg8 arg9 harg9 arg10 harg10 arg11 harg11 arg12 harg12 arg13 harg13 x0 x1 x2).1 1 := by
  unfold kernelRun0_A.sl.r_3
  rw [show Scf.trips (k0_t2_loop i).lb (k0_t2_loop i).ub (k0_t2_loop i).st = 0 from trips2 i,
    show Scf.trips (k0_t1_loop i).lb (k0_t1_loop i).ub (k0_t1_loop i).st = (i 2).val from trips1 i]
  rfl

theorem word_m2 : kernelRun0_A.sl.r_4 (F := Ideal) c i arg3 harg3 arg4 harg4 arg5 harg5 arg6 harg6 arg7 harg7 arg8 harg8 arg9 harg9 arg10 harg10 arg11 harg11 arg12 harg12 arg13 harg13 x0 x1 x2 = comp (S1 c i arg3 harg3 arg4 harg4 arg5 harg5 arg6 harg6 arg7 harg7 arg8 harg8 arg9 harg9 arg10 harg10 arg11 harg11 arg12 harg12 arg13 harg13 x0 x1 x2).1 2 := by
  unfold kernelRun0_A.sl.r_4
  rw [show Scf.trips (k0_t2_loop i).lb (k0_t2_loop i).ub (k0_t2_loop i).st = 0 from trips2 i,
    show Scf.trips (k0_t1_loop i).lb (k0_t1_loop i).ub (k0_t1_loop i).st = (i 2).val from trips1 i]
  rfl

theorem word_m3 : kernelRun0_A.sl.r_5 (F := Ideal) c i arg3 harg3 arg4 harg4 arg5 harg5 arg6 harg6 arg7 harg7 arg8 harg8 arg9 harg9 arg10 harg10 arg11 harg11 arg12 harg12 arg13 harg13 x0 x1 x2 = comp (S1 c i arg3 harg3 arg4 harg4 arg5 harg5 arg6 harg6 arg7 harg7 arg8 harg8 arg9 harg9 arg10 harg10 arg11 harg11 arg12 harg12 arg13 harg13 x0 x1 x2).1 3 := by
  unfold kernelRun0_A.sl.r_5
  rw [show Scf.trips (k0_t2_loop i).lb (k0_t2_loop i).ub (k0_t2_loop i).st = 0 from trips2 i,
    show Scf.trips (k0_t1_loop i).lb (k0_t1_loop i).ub (k0_t1_loop i).st = (i 2).val from trips1 i]
  rfl

/-- What the accumulator's writes are before the query's own block. -/
abbrev L0 : List (View.Piece (Elt Ideal) S4x80x512 .f32) := (S1 c i arg3 harg3 arg4 harg4 arg5 harg5 arg6 harg6 arg7 harg7 arg8 harg8 arg9 harg9 arg10 harg10 arg11 harg11 arg12 harg12 arg13 harg13 x0 x1 x2).2 ++ Z0

theorem word_v187 : kernelRun0_A.sl.v187 (F := Ideal) c i arg3 harg3 arg4 harg4 arg5 harg5 arg6 harg6 arg7 harg7 arg8 harg8 arg9 harg9 arg10 harg10 arg11 harg11 arg12 harg12 arg13 harg13 x0 x1 x2 = ah arg13 (arg13.view.writes (Elt Ideal) arg13.view.junk (L0 c i arg3 harg3 arg4 harg4 arg5 harg5 arg6 harg6 arg7 harg7 arg8 harg8 arg9 harg9 arg10 harg10 arg11 harg11 arg12 harg12 arg13 harg13 x0 x1 x2)) 0 (by decide) := by
  unfold kernelRun0_A.sl.v187
  rw [show Scf.trips (k0_t2_loop i).lb (k0_t2_loop i).ub (k0_t2_loop i).st = 0 from trips2 i,
    show Scf.trips (k0_t1_loop i).lb (k0_t1_loop i).ub (k0_t1_loop i).st = (i 2).val from trips1 i]
  rfl

/-- The accumulator's writes after the query's own block: each head's rows once more. -/
theorem word_acc : ∃ i1 i2 i3 i4 j1 j2 j3 j4 v1 v2 v3 v4 a1 a2 a3 a4, ∃ P1 P2 P3 P4 : FVec Ideal S1x80x512 .f32,
    kernelRun0_A.sl.HS0_4 (F := Ideal) c i arg3 harg3 arg4 harg4 arg5 harg5 arg6 harg6 arg7 harg7 arg8 harg8 arg9 harg9 arg10 harg10 arg11 harg11 arg12 harg12 arg13 harg13 x0 x1 x2 = ⟨Rect.unit ![3, 0, 0] S1x80x512.size a4, P4⟩ :: ⟨Rect.unit ![2, 0, 0] S1x80x512.size a3, P3⟩
      :: ⟨Rect.unit ![1, 0, 0] S1x80x512.size a2, P2⟩ :: ⟨Rect.unit ![0, 0, 0] S1x80x512.size a1, P1⟩ :: L0 c i arg3 harg3 arg4 harg4 arg5 harg5 arg6 harg6 arg7 harg7 arg8 harg8 arg9 harg9 arg10 harg10 arg11 harg11 arg12 harg12 arg13 harg13 x0 x1 x2
    ∧ P1 = newA (comp (S1 c i arg3 harg3 arg4 harg4 arg5 harg5 arg6 harg6 arg7 harg7 arg8 harg8 arg9 harg9 arg10 harg10 arg11 harg11 arg12 harg12 arg13 harg13 x0 x1 x2).1 0) (k0_pay63 (qh arg3 (harg3.unread x0) 0 i1) (kh arg4 (harg4.unread x1) (k0_off17 i) j1)) (vh arg5 (harg5.unread x2) (k0_off21 i) v1)
        (ah arg13 (arg13.view.writes (Elt Ideal) arg13.view.junk (L0 c i arg3 harg3 arg4 harg4 arg5 harg5 arg6 harg6 arg7 harg7 arg8 harg8 arg9 harg9 arg10 harg10 arg11 harg11 arg12 harg12 arg13 harg13 x0 x1 x2)) 0 a1)
    ∧ P2 = newA (comp (S1 c i arg3 harg3 arg4 harg4 arg5 harg5 arg6 harg6 arg7 harg7 arg8 harg8 arg9 harg9 arg10 harg10 arg11 harg11 arg12 harg12 arg13 harg13 x0 x1 x2).1 1) (k0_pay63 (qh arg3 (harg3.unread x0) 128 i2) (kh arg4 (harg4.unread x1) (k0_off18 i) j2)) (vh arg5 (harg5.unread x2) (k0_off22 i) v2)
        (ah arg13 (arg13.view.writes (Elt Ideal) arg13.view.junk (⟨Rect.unit ![0, 0, 0] S1x80x512.size a1, P1⟩ :: L0 c i arg3 harg3 arg4 harg4 arg5 harg5 arg6 harg6 arg7 harg7 arg8 harg8 arg9 harg9 arg10 harg10 arg11 harg11 arg12 harg12 arg13 harg13 x0 x1 x2)) 1 a2)
    ∧ P3 = newA (comp (S1 c i arg3 harg3 arg4 harg4 arg5 harg5 arg6 harg6 arg7 harg7 arg8 harg8 arg9 harg9 arg10 harg10 arg11 harg11 arg12 harg12 arg13 harg13 x0 x1 x2).1 2) (k0_pay63 (qh arg3 (harg3.unread x0) 256 i3) (kh arg4 (harg4.unread x1) (k0_off19 i) j3)) (vh arg5 (harg5.unread x2) (k0_off23 i) v3)
        (ah arg13 (arg13.view.writes (Elt Ideal) arg13.view.junk (⟨Rect.unit ![1, 0, 0] S1x80x512.size a2, P2⟩ :: ⟨Rect.unit ![0, 0, 0] S1x80x512.size a1, P1⟩ :: L0 c i arg3 harg3 arg4 harg4 arg5 harg5 arg6 harg6 arg7 harg7 arg8 harg8 arg9 harg9 arg10 harg10 arg11 harg11 arg12 harg12 arg13 harg13 x0 x1 x2)) 2 a3)
    ∧ P4 = newA (comp (S1 c i arg3 harg3 arg4 harg4 arg5 harg5 arg6 harg6 arg7 harg7 arg8 harg8 arg9 harg9 arg10 harg10 arg11 harg11 arg12 harg12 arg13 harg13 x0 x1 x2).1 3) (k0_pay63 (qh arg3 (harg3.unread x0) 384 i4) (kh arg4 (harg4.unread x1) (k0_off20 i) j4)) (vh arg5 (harg5.unread x2) (k0_off24 i) v4)
        (ah arg13 (arg13.view.writes (Elt Ideal) arg13.view.junk (⟨Rect.unit ![2, 0, 0] S1x80x512.size a3, P3⟩ :: ⟨Rect.unit ![1, 0, 0] S1x80x512.size a2, P2⟩ :: ⟨Rect.unit ![0, 0, 0] S1x80x512.size a1, P1⟩ :: L0 c i arg3 harg3 arg4 harg4 arg5 harg5 arg6 harg6 arg7 harg7 arg8 harg8 arg9 harg9 arg10 harg10 arg11 harg11 arg12 harg12 arg13 harg13 x0 x1 x2)) 3 a4) := by
  have e0 : kernelRun0_A.sl.HS0_1_1 (F := Ideal) c i arg3 harg3 arg4 harg4 arg5 harg5 arg6 harg6 arg7 harg7 arg8 harg8 arg9 harg9 arg10 harg10 arg11 harg11 arg12 harg12 arg13 harg13 x0 x1 x2 = ⟨Rect.unit ![0, 0, 0] S1x80x512.size inb_S4x80x512_S1x80x512_0_0_0,
      k0_pay82 (kernelRun0_A.sl.r_11 c i arg3 harg3 arg4 harg4 arg5 harg5 arg6 harg6 arg7 harg7 arg8 harg8 arg9 harg9 arg10 harg10 arg11 harg11 arg12 harg12 arg13 harg13 x0 x1 x2) (kernelRun0_A.sl.r_18 i arg5 harg5 x2) (kernelRun0_A.sl.r_19 c i arg3 harg3 arg4 harg4 arg5 harg5 arg6 harg6 arg7 harg7 arg8 harg8 arg9 harg9 arg10 harg10 arg11 harg11 arg12 harg12 arg13 harg13 x0 x1 x2) (kernelRun0_A.sl.r_20 c i arg3 harg3 arg4 harg4 arg5 harg5 arg6 harg6 arg7 harg7 arg8 harg8 arg9 harg9 arg10 harg10 arg11 harg11 arg12 harg12 arg13 harg13 x0 x1 x2)⟩ :: L0 c i arg3 harg3 arg4 harg4 arg5 harg5 arg6 harg6 arg7 harg7 arg8 harg8 arg9 harg9 arg10 harg10 arg11 harg11 arg12 harg12 arg13 harg13 x0 x1 x2 := by
    unfold kernelRun0_A.sl.HS0_1_1
    rw [show Scf.trips (k0_t2_loop i).lb (k0_t2_loop i).ub (k0_t2_loop i).st = 0 from trips2 i,
      show Scf.trips (k0_t1_loop i).lb (k0_t1_loop i).ub (k0_t1_loop i).st = (i 2).val from trips1 i]
    rfl
  unfold kernelRun0_A.sl.HS0_4 kernelRun0_A.sl.v223 kernelRun0_A.sl.HS0_3 kernelRun0_A.sl.v211 kernelRun0_A.sl.HS0_2 kernelRun0_A.sl.v199
    kernelRun0_A.sl.r_16 kernelRun0_A.sl.r_17 kernelRun0_A.sl.r_14 kernelRun0_A.sl.r_15 kernelRun0_A.sl.r_12 kernelRun0_A.sl.r_13
  rw [e0]
  unfold kernelRun0_A.sl.r_11 kernelRun0_A.sl.r_19 kernelRun0_A.sl.r_20
  rw [word_m0, word_m1, word_m2, word_m3, word_v187]
  exact ⟨_, _, _, _, _, _, _, _, _, _, _, _, _, _, _, _, _, _, _, _, rfl, rfl, rfl, rfl, rfl⟩

/-- The scores of a query of block `q`: in its own block the keys after it are masked out. -/
def cs (x0 : FVec Ideal S1x512x512 .bf16) (x1 : FVec Ideal S1x4096x512 .bf16) (q : ℕ) (h : Fin 4) (n : ℕ) (a b : Fin 512) : EReal :=
  if n = q ∧ ¬ a ≤ b then ⊥ else sc x0 x1 h n a b

theorem runM_congr {s s' : ℕ → Fin 512 → EReal} : ∀ n, (∀ m < n, s m = s' m) → runM s n = runM s' n
  | 0, _ => rfl
  | n + 1, H => by rw [runM, runM, runM_congr n fun m hm => H m (Nat.lt_succ_of_lt hm), H n (Nat.lt_succ_self n)]

theorem runA_congr {s s' : ℕ → Fin 512 → EReal} (v : ℕ → Fin 512 → EReal) : ∀ n, (∀ m < n, s m = s' m) → runA s v n = runA s' v n
  | 0, _ => rfl
  | n + 1, H => by
    rw [runA, runA, runM_congr (n + 1) H, runM_congr n fun m hm => H m (Nat.lt_succ_of_lt hm), runA_congr v n fun m hm => H m (Nat.lt_succ_of_lt hm),
      H n (Nat.lt_succ_self n)]

theorem runA_last (x0 : FVec Ideal S1x512x512 .bf16) (x1 : FVec Ideal S1x4096x512 .bf16) (x2 : FVec Ideal S8x320x512 .bf16) (q : ℕ) (h : Fin 4) (r : Fin 80) (b : Fin 512) :
    runA (fun n a => cs x0 x1 q h n a b) (fun n a => vv x2 h n r a) (q + 1)
      = Ideal.exp2 (runM (fun n a => sc x0 x1 h n a b) q - max (runM (fun n a => sc x0 x1 h n a b) q) (Finset.univ.sup fun a => if a ≤ b then sc x0 x1 h q a b else ⊥))
          * runA (fun n a => sc x0 x1 h n a b) (fun n a => vv x2 h n r a) q
        + ∑ a : Fin 512, vv x2 h q r a * Ideal.exp2 ((if a ≤ b then sc x0 x1 h q a b else ⊥)
            - max (runM (fun n a => sc x0 x1 h n a b) q) (Finset.univ.sup fun a => if a ≤ b then sc x0 x1 h q a b else ⊥)) := by
  have e : ∀ m < q, (fun a => cs x0 x1 q h m a b) = fun a => sc x0 x1 h m a b := fun m hm => funext fun a => if_neg fun hc => hm.ne hc.1
  have e' : (fun a => cs x0 x1 q h q a b) = fun a => if a ≤ b then sc x0 x1 h q a b else ⊥ := funext fun a => by
    unfold cs; by_cases hab : a ≤ b <;> simp [hab]
  rw [runA, runM, runM_congr q e, runA_congr _ q e, e']
  simp only [fun a => congrFun e' a]

theorem acc_final (h : Fin 4) (r : Fin 80) (b : Fin 512) :
    arg13.view.read (Elt Ideal) (arg13.view.writes (Elt Ideal) arg13.view.junk (kernelRun0_A.sl.HS0_4 (F := Ideal) c i arg3 harg3 arg4 harg4 arg5 harg5 arg6 harg6 arg7 harg7 arg8 harg8 arg9 harg9 arg10 harg10 arg11 harg11 arg12 harg12 arg13 harg13 x0 x1 x2)) (ix3 h r b)
      = runA (fun n a => cs x0 x1 (i 2).val h n a b) (fun n a => vv x2 h n r a) ((i 2).val + 1) := by
  have hq : (i 2).val < 8 := (i 2).isLt
  have hst := st_at Variants.none c none i arg3 harg3 arg4 harg4 arg5 harg5 arg6 harg6 arg7 harg7 arg8 harg8 arg9 harg9 arg10 harg10 arg11 harg11 arg12 harg12 arg13 harg13 (BitVec.ofNat 32 (i 2).val) x0 x1 x2 (G0 arg13) (zero_at arg13) (i 2).val le_rfl
  have hm : ∀ (h : Fin 4) (b : Fin 512), comp (S1 c i arg3 harg3 arg4 harg4 arg5 harg5 arg6 harg6 arg7 harg7 arg8 harg8 arg9 harg9 arg10 harg10 arg11 harg11 arg12 harg12 arg13 harg13 x0 x1 x2).1 h (ix2 0 b) = runM (fun n a => sc x0 x1 h n a b) (i 2).val := fun h b => (hst h b).1
  have hacc : ∀ (h : Fin 4) (b : Fin 512) (r : Fin 80), arg13.view.read (Elt Ideal) (arg13.view.writes (Elt Ideal) arg13.view.junk (L0 c i arg3 harg3 arg4 harg4 arg5 harg5 arg6 harg6 arg7 harg7 arg8 harg8 arg9 harg9 arg10 harg10 arg11 harg11 arg12 harg12 arg13 harg13 x0 x1 x2)) (ix3 h r b) = runA (fun n a => sc x0 x1 h n a b) (fun n a => vv x2 h n r a) (i 2).val :=
    fun h b r => (congrArg (fun z => arg13.view.read (Elt Ideal) z (ix3 h r b)) (View.writes_append _ _ _ _)).trans ((hst h b).2 r)
  obtain ⟨o1, o2, o3, o4, o5, o6, o7, o8⟩ := offs2 i
  obtain ⟨i1, i2, i3, i4, j1, j2, j3, j4, v1, v2, v3, v4, a1, a2, a3, a4, P1, P2, P3, P4, e, e1, e2, e3, e4⟩ := word_acc c i arg3 harg3 arg4 harg4 arg5 harg5 arg6 harg6 arg7 harg7 arg8 harg8 arg9 harg9 arg10 harg10 arg11 harg11 arg12 harg12 arg13 harg13 x0 x1 x2
  rw [e]
  match h with
  | 0 =>
    refine Eq.trans (read_slab _ 3 0 _ _ _ r b) ?_
    refine Eq.trans (if_neg (show ¬ (0 : Fin 4).val = 3 by decide)) ?_
    refine Eq.trans (read_slab _ 2 0 _ _ _ r b) ?_
    refine Eq.trans (if_neg (show ¬ (0 : Fin 4).val = 2 by decide)) ?_
    refine Eq.trans (read_slab _ 1 0 _ _ _ r b) ?_
    refine Eq.trans (if_neg (show ¬ (0 : Fin 4).val = 1 by decide)) ?_
    refine Eq.trans (read_slab _ 0 0 _ _ _ r b) ?_
    refine Eq.trans (if_pos rfl) ?_
    rw [e1]
    rw [newA_of _ _ _ _ (fun a b => if a ≤ b then sc x0 x1 0 (i 2).val a b else ⊥)
        (fun a b => masked_sc harg3 harg4 x0 x1 0 (i 2).val hq _ _ i1 j1 rfl o1 a b) _
        (fun r a => vh_at harg5 x2 0 (i 2).val hq _ v1 o5 r a)
        (fun r b => runA (fun n a => sc x0 x1 0 n a b) (fun n a => vv x2 0 n r a) (i 2).val) (fun r b => Eq.trans (load_slab _ 0 0 _ rfl r b) (hacc 0 b r)) r b,
      newM_of _ _ (fun a b => if a ≤ b then sc x0 x1 0 (i 2).val a b else ⊥)
        (fun a b => masked_sc harg3 harg4 x0 x1 0 (i 2).val hq _ _ i1 j1 rfl o1 a b) b, hm 0 b]
    exact (runA_last x0 x1 x2 (i 2).val 0 r b).symm
  | 1 =>
    refine Eq.trans (read_slab _ 3 1 _ _ _ r b) ?_
    refine Eq.trans (if_neg (show ¬ (1 : Fin 4).val = 3 by decide)) ?_
    refine Eq.trans (read_slab _ 2 1 _ _ _ r b) ?_
    refine Eq.trans (if_neg (show ¬ (1 : Fin 4).val = 2 by decide)) ?_
    refine Eq.trans (read_slab _ 1 1 _ _ _ r b) ?_
    refine Eq.trans (if_pos rfl) ?_
    rw [e2]
    rw [newA_of _ _ _ _ (fun a b => if a ≤ b then sc x0 x1 1 (i 2).val a b else ⊥)
        (fun a b => masked_sc harg3 harg4 x0 x1 1 (i 2).val hq _ _ i2 j2 rfl o2 a b) _
        (fun r a => vh_at harg5 x2 1 (i 2).val hq _ v2 o6 r a)
        (fun r b => runA (fun n a => sc x0 x1 1 n a b) (fun n a => vv x2 1 n r a) (i 2).val) (fun r b => Eq.trans (load_slab _ 1 1 _ rfl r b) (Eq.trans (Eq.trans (read_slab _ 0 1 _ _ _ r b) (if_neg (show ¬ (1 : Fin 4).val = 0 by decide))) (hacc 1 b r))) r b,
      newM_of _ _ (fun a b => if a ≤ b then sc x0 x1 1 (i 2).val a b else ⊥)
        (fun a b => masked_sc harg3 harg4 x0 x1 1 (i 2).val hq _ _ i2 j2 rfl o2 a b) b, hm 1 b]
    exact (runA_last x0 x1 x2 (i 2).val 1 r b).symm
  | 2 =>
    refine Eq.trans (read_slab _ 3 2 _ _ _ r b) ?_
    refine Eq.trans (if_neg (show ¬ (2 : Fin 4).val = 3 by decide)) ?_
    refine Eq.trans (read_slab _ 2 2 _ _ _ r b) ?_
    refine Eq.trans (if_pos rfl) ?_
    rw [e3]
    rw [newA_of _ _ _ _ (fun a b => if a ≤ b then sc x0 x1 2 (i 2).val a b else ⊥)
        (fun a b => masked_sc harg3 harg4 x0 x1 2 (i 2).val hq _ _ i3 j3 rfl o3 a b) _
        (fun r a => vh_at harg5 x2 2 (i 2).val hq _ v3 o7 r a)
        (fun r b => runA (fun n a => sc x0 x1 2 n a b) (fun n a => vv x2 2 n r a) (i 2).val) (fun r b => Eq.trans (load_slab _ 2 2 _ rfl r b) (Eq.trans (Eq.trans (read_slab _ 1 2 _ _ _ r b) (if_neg (show ¬ (2 : Fin 4).val = 1 by decide))) (Eq.trans (Eq.trans (read_slab _ 0 2 _ _ _ r b) (if_neg (show ¬ (2 : Fin 4).val = 0 by decide))) (hacc 2 b r)))) r b,
      newM_of _ _ (fun a b => if a ≤ b then sc x0 x1 2 (i 2).val a b else ⊥)
        (fun a b => masked_sc harg3 harg4 x0 x1 2 (i 2).val hq _ _ i3 j3 rfl o3 a b) b, hm 2 b]
    exact (runA_last x0 x1 x2 (i 2).val 2 r b).symm
  | 3 =>
    refine Eq.trans (read_slab _ 3 3 _ _ _ r b) ?_
    refine Eq.trans (if_pos rfl) ?_
    rw [e4]
    rw [newA_of _ _ _ _ (fun a b => if a ≤ b then sc x0 x1 3 (i 2).val a b else ⊥)
        (fun a b => masked_sc harg3 harg4 x0 x1 3 (i 2).val hq _ _ i4 j4 rfl o4 a b) _
        (fun r a => vh_at harg5 x2 3 (i 2).val hq _ v4 o8 r a)
        (fun r b => runA (fun n a => sc x0 x1 3 n a b) (fun n a => vv x2 3 n r a) (i 2).val) (fun r b => Eq.trans (load_slab _ 3 3 _ rfl r b) (Eq.trans (Eq.trans (read_slab _ 2 3 _ _ _ r b) (if_neg (show ¬ (3 : Fin 4).val = 2 by decide))) (Eq.trans (Eq.trans (read_slab _ 1 3 _ _ _ r b) (if_neg (show ¬ (3 : Fin 4).val = 1 by decide))) (Eq.trans (Eq.trans (read_slab _ 0 3 _ _ _ r b) (if_neg (show ¬ (3 : Fin 4).val = 0 by decide))) (hacc 3 b r))))) r b,
      newM_of _ _ (fun a b => if a ≤ b then sc x0 x1 3 (i 2).val a b else ⊥)
        (fun a b => masked_sc harg3 harg4 x0 x1 3 (i 2).val hq _ _ i4 j4 rfl o4 a b) b, hm 3 b]
    exact (runA_last x0 x1 x2 (i 2).val 3 r b).symm

theorem pay1_at (u0 u1 u2 : FVec Ideal S64x512 .f32) (w w' : FVec Ideal S1x80x512 .f32) (h : Fin 4) (b : Fin 512) (d : Fin 64) :
    k0_pay1 (F := Ideal) u0 u1 u2 w w' (ix3 0 b ⟨64 * h.val + d.val, by omega⟩)
      = match h with | 0 => u0 (ix2 d b) | 1 => u1 (ix2 d b) | 2 => u2 (ix2 d b) | 3 => Ideal.div (w (ix3 0 ⟨d.val, by omega⟩ b)) (w' (ix3 0 64 b)) := by
  pointwise [k0_pay1]
  match h with
  | 0 =>
    rw [dif_pos (show 64 * (0 : Fin 4).val + d.val < 64 by simp)]
    exact congrArg (fun z => u0 (ix2 z b)) (Fin.ext (by simp))
  | 1 =>
    rw [dif_neg (show ¬ 64 * (1 : Fin 4).val + d.val < 64 by simp), dif_pos (show 64 * (1 : Fin 4).val + d.val - 64 < 64 by simp)]
    exact congrArg (fun z => u1 (ix2 z b)) (Fin.ext (by simp))
  | 2 =>
    have e : (2 : Fin 4).val = 2 := rfl
    rw [dif_neg (by omega), dif_neg (by omega), dif_pos (by omega)]
    exact congrArg (fun z => u2 (ix2 z b)) (Fin.ext (by dsimp only; omega))
  | 3 =>
    have e : (3 : Fin 4).val = 3 := rfl
    rw [dif_neg (by omega), dif_neg (by omega), dif_neg (by omega)]
    exact congrArg (fun z => Ideal.div (w (ix3 0 z b)) (w' (ix3 0 64 b))) (Fin.ext (by dsimp only; omega))

theorem pay87_at (w w' : FVec Ideal S1x80x512 .f32) (b : Fin 512) (d : Fin 64) :
    k0_pay87 (F := Ideal) w w' (ix2 d b) = Ideal.div (w (ix3 0 ⟨d.val, by omega⟩ b)) (w' (ix3 0 64 b)) := by
  pointwise [k0_pay87]

theorem pay88_at (w w' : FVec Ideal S1x80x512 .f32) (b : Fin 512) (d : Fin 64) :
    k0_pay88 (F := Ideal) w w' (ix2 d b) = Ideal.div (w (ix3 0 ⟨d.val, by omega⟩ b)) (w' (ix3 0 64 b)) := by
  pointwise [k0_pay88]

theorem pay89_at (w w' : FVec Ideal S1x80x512 .f32) (b : Fin 512) (d : Fin 64) :
    k0_pay89 (F := Ideal) w w' (ix2 d b) = Ideal.div (w (ix3 0 ⟨d.val, by omega⟩ b)) (w' (ix3 0 64 b)) := by
  pointwise [k0_pay89]

/-- The block of results of one grid point, by the four heads' accumulators read back. -/
theorem out_word : ∃ i0 i1 i2 i3 in6,
    out0_A_6 (F := Ideal) c i arg3 harg3 arg4 harg4 arg5 harg5 arg6 harg6 arg7 harg7 arg8 harg8 arg9 harg9 arg10 harg10 arg11 harg11 arg12 harg12 arg13 harg13 x0 x1 x2 x3 x4 x5
      = VO0_6.read (Elt Ideal) (VO0_6.writes (Elt Ideal) VO0_6.junk [⟨Rect.unit (s := S1x512x256) ![0, 0, 0] ![1, 512, 256] in6,
          k0_pay1 (F := Ideal)
            (k0_pay87 (ah arg13 (arg13.view.writes (Elt Ideal) arg13.view.junk (kernelRun0_A.sl.HS0_4 (F := Ideal) c i arg3 harg3 arg4 harg4 arg5 harg5 arg6 harg6 arg7 harg7 arg8 harg8 arg9 harg9 arg10 harg10 arg11 harg11 arg12 harg12 arg13 harg13 x0 x1 x2)) 0 i0) (ah arg13 (arg13.view.writes (Elt Ideal) arg13.view.junk (kernelRun0_A.sl.HS0_4 (F := Ideal) c i arg3 harg3 arg4 harg4 arg5 harg5 arg6 harg6 arg7 harg7 arg8 harg8 arg9 harg9 arg10 harg10 arg11 harg11 arg12 harg12 arg13 harg13 x0 x1 x2)) 0 i0))
            (k0_pay88 (ah arg13 (arg13.view.writes (Elt Ideal) arg13.view.junk (kernelRun0_A.sl.HS0_4 (F := Ideal) c i arg3 harg3 arg4 harg4 arg5 harg5 arg6 harg6 arg7 harg7 arg8 harg8 arg9 harg9 arg10 harg10 arg11 harg11 arg12 harg12 arg13 harg13 x0 x1 x2)) 1 i1) (ah arg13 (arg13.view.writes (Elt Ideal) arg13.view.junk (kernelRun0_A.sl.HS0_4 (F := Ideal) c i arg3 harg3 arg4 harg4 arg5 harg5 arg6 harg6 arg7 harg7 arg8 harg8 arg9 harg9 arg10 harg10 arg11 harg11 arg12 harg12 arg13 harg13 x0 x1 x2)) 1 i1))
            (k0_pay89 (ah arg13 (arg13.view.writes (Elt Ideal) arg13.view.junk (kernelRun0_A.sl.HS0_4 (F := Ideal) c i arg3 harg3 arg4 harg4 arg5 harg5 arg6 harg6 arg7 harg7 arg8 harg8 arg9 harg9 arg10 harg10 arg11 harg11 arg12 harg12 arg13 harg13 x0 x1 x2)) 2 i2) (ah arg13 (arg13.view.writes (Elt Ideal) arg13.view.junk (kernelRun0_A.sl.HS0_4 (F := Ideal) c i arg3 harg3 arg4 harg4 arg5 harg5 arg6 harg6 arg7 harg7 arg8 harg8 arg9 harg9 arg10 harg10 arg11 harg11 arg12 harg12 arg13 harg13 x0 x1 x2)) 2 i2))
            (ah arg13 (arg13.view.writes (Elt Ideal) arg13.view.junk (kernelRun0_A.sl.HS0_4 (F := Ideal) c i arg3 harg3 arg4 harg4 arg5 harg5 arg6 harg6 arg7 harg7 arg8 harg8 arg9 harg9 arg10 harg10 arg11 harg11 arg12 harg12 arg13 harg13 x0 x1 x2)) 3 i3) (ah arg13 (arg13.view.writes (Elt Ideal) arg13.view.junk (kernelRun0_A.sl.HS0_4 (F := Ideal) c i arg3 harg3 arg4 harg4 arg5 harg5 arg6 harg6 arg7 harg7 arg8 harg8 arg9 harg9 arg10 harg10 arg11 harg11 arg12 harg12 arg13 harg13 x0 x1 x2)) 3 i3)⟩]) := by
  unfold out0_A_6 kernelRun0_A; dsimp only
  exact ⟨_, _, _, _, _, rfl⟩

theorem out_at (h : Fin 4) (b : Fin 512) (d : Fin 64) :
    out0_A_6 (F := Ideal) c i arg3 harg3 arg4 harg4 arg5 harg5 arg6 harg6 arg7 harg7 arg8 harg8 arg9 harg9 arg10 harg10 arg11 harg11 arg12 harg12 arg13 harg13 x0 x1 x2 x3 x4 x5 (ix3 0 b ⟨64 * h.val + d.val, by omega⟩)
      = Ideal.div (runA (fun n a => cs x0 x1 (i 2).val h n a b) (fun n a => vv x2 h n ⟨d.val, by omega⟩ a) ((i 2).val + 1))
          (runA (fun n a => cs x0 x1 (i 2).val h n a b) (fun n a => vv x2 h n 64 a) ((i 2).val + 1)) := by
  obtain ⟨i0, i1, i2, i3, in6, e⟩ := out_word c i arg3 harg3 arg4 harg4 arg5 harg5 arg6 harg6 arg7 harg7 arg8 harg8 arg9 harg9 arg10 harg10 arg11 harg11 arg12 harg12 arg13 harg13 x0 x1 x2 x3 x4 x5
  rw [e]
  refine Eq.trans (View.read_writes_cons_unit_of_mem _ _ in6 _ [] _ (ix3 0 b ⟨64 * h.val + d.val, by omega⟩) rfl fun a => by
    match a with
    | ⟨0, _⟩ => exact (Nat.zero_add _).symm
    | ⟨1, _⟩ => exact (Nat.zero_add _).symm
    | ⟨2, _⟩ => exact (Nat.zero_add _).symm) ?_
  rw [pay1_at]
  have A := acc_final c i arg3 harg3 arg4 harg4 arg5 harg5 arg6 harg6 arg7 harg7 arg8 harg8 arg9 harg9 arg10 harg10 arg11 harg11 arg12 harg12 arg13 harg13 x0 x1 x2
  match h with
  | 0 =>
    refine (pay87_at _ _ b d).trans ?_
    exact congrArg₂ Ideal.div ((load_slab _ 0 0 i0 rfl _ b).trans (A 0 _ b)) ((load_slab _ 0 0 i0 rfl _ b).trans (A 0 _ b))
  | 1 =>
    refine (pay88_at _ _ b d).trans ?_
    exact congrArg₂ Ideal.div ((load_slab _ 1 1 i1 rfl _ b).trans (A 1 _ b)) ((load_slab _ 1 1 i1 rfl _ b).trans (A 1 _ b))
  | 2 =>
    refine (pay89_at _ _ b d).trans ?_
    exact congrArg₂ Ideal.div ((load_slab _ 2 2 i2 rfl _ b).trans (A 2 _ b)) ((load_slab _ 2 2 i2 rfl _ b).trans (A 2 _ b))
  | 3 =>
    dsimp only
    exact congrArg₂ Ideal.div ((load_slab _ 3 3 i3 rfl _ b).trans (A 3 _ b)) ((load_slab _ 3 3 i3 rfl _ b).trans (A 3 _ b))

end Cert.KernelIdeal.Attn

end
-- ==== Proof.AttnOut.lean ====
module

public import proofs.«01_k».proof.Proof.Gen.KernelIdeal.Value
public import proofs.«01_k».proof.Proof.AttnPoint
public import Idealize.ShloMosaic.Lib.Pipeline.ValueKit
public import Idealize.ShloMosaic.Lib.Pointwise
public import Idealize.ShloMosaic.Lib.Pipeline.ReadBack
public import Idealize.ShloMosaic.Lib.WritesUnit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S8x320x512 .bf16) (harg5 : arg5.IsWhole) (arg6 : Memref sig .tc .vmem S1x128x3584 .f32) (harg6 : arg6.IsWhole) (arg7 : Memref sig .tc .vmem S1x128x3584 .f32) (harg7 : arg7.IsWhole) (arg8 : Memref sig .tc .vmem S1x448x1024 .f32) (harg8 : arg8.IsWhole) (arg9 : Memref sig .tc .vmem S1x512x256 .bf16) (harg9 : arg9.IsWhole) (arg10 : Memref sig .tc .vmem S1x7x128x512 .bf16) (harg10 : arg10.IsWhole) (arg11 : Memref sig .tc .vmem S1x7x128x512 .bf16) (harg11 : arg11.IsWhole) (arg12 : Memref sig .tc .vmem S1x448x1024 .bf16) (harg12 : arg12.IsWhole) (arg13 : Memref sig .tc .vmem S4x80x512 .f32) (harg13 : arg13.IsWhole)     (x0 : Vec Ideal S1x512x512 .bf16) (x1 : Vec Ideal S1x4096x512 .bf16) (x2 : Vec Ideal S8x320x512 .bf16) (x3 : Vec Ideal S1x128x3584 .f32) (x4 : Vec Ideal S1x128x3584 .f32) (x5 : Vec Ideal S1x448x1024 .f32)

/-- One of the call's seven column tiles of a block of weights. -/
theorem w7_at (f : Fin 7) (d : Fin 128) (l : Fin 512) :
    out0_A_7 (F := Ideal) c i arg3 harg3 arg4 harg4 arg5 harg5 arg6 harg6 arg7 harg7 arg8 harg8 arg9 harg9 arg10 harg10 arg11 harg11 arg12 harg12 arg13 harg13 x0 x1 x2 x3 x4 x5 (ix4 0 f d l) = x3 (ix3 0 d ⟨512 * f.val + l.val, by omega⟩) := by
  unfold out0_A_7 kernelRun0_A; dsimp only
  frame_out
  canon_tiles x h <;> idx_vars x <;> (open_payloads; pointwise; blk_ext)

/-- One of the call's seven column tiles of a block of weights. -/
theorem w8_at (f : Fin 7) (d : Fin 128) (l : Fin 512) :
    out0_A_8 (F := Ideal) c i arg3 harg3 arg4 harg4 arg5 harg5 arg6 harg6 arg7 harg7 arg8 harg8 arg9 harg9 arg10 harg10 arg11 harg11 arg12 harg12 arg13 harg13 x0 x1 x2 x3 x4 x5 (ix4 0 f d l) = x4 (ix3 0 d ⟨512 * f.val + l.val, by omega⟩) := by
  unfold out0_A_8 kernelRun0_A; dsimp only
  frame_out
  canon_tiles x h <;> idx_vars x <;> (open_payloads; pointwise; blk_ext)

theorem w9_at (d : Fin 448) (l : Fin 1024) :
    out0_A_9 (F := Ideal) c i arg3 harg3 arg4 harg4 arg5 harg5 arg6 harg6 arg7 harg7 arg8 harg8 arg9 harg9 arg10 harg10 arg11 harg11 arg12 harg12 arg13 harg13 x0 x1 x2 x3 x4 x5 (ix3 0 d l) = x5 (ix3 0 d l) := by
  unfold out0_A_9 kernelRun0_A; dsimp only
  frame_out
  pointwise [k0_pay61]

section
variable (m : (ℓ : Loc nD τ sig) → Buf (Elt Ideal) ℓ)

theorem coords_eq : ∀ t : Fin cfg0.N, (grid0.coords t 2).val = t.val % 8 := (by decide +kernel : ∀ t : Fin grid0.N, _)

theorem idx : ∀ t : Fin cfg0.N, win0_0.index t = ![t.val / 16, t.val % 8, t.val / 8 % 2] ∧ win0_1.index t = ![t.val / 16, 0, t.val / 8 % 2]
    ∧ win0_2.index t = ![t.val / 16, t.val / 8 % 2, 0] ∧ win0_3.index t = ![t.val / 8, t.val % 8, 0] ∧ win0_4.index t = ![t.val / 8, t.val % 8, 0]
    ∧ win0_5.index t = ![t.val / 8, t.val % 8, 0] ∧ win0_6.index t = ![t.val / 16, t.val % 8, t.val / 8 % 2]
    ∧ win0_7.index t = ![t.val / 8, 0, t.val % 8, 0] ∧ win0_8.index t = ![t.val / 8, 0, t.val % 8, 0] ∧ win0_9.index t = ![t.val / 8, t.val % 8, 0] :=
  (by decide +kernel : ∀ t : Fin grid0.N, _)

theorem q_at (c : Dev nD) (t : Fin cfg0.N) (r l : Fin 512) (b : Fin 4) (q : Fin 4096) (d : Fin 1024) (hb : b.val = t.val / 16)
    (hq : q.val = t.val % 8 * 512 + r.val) (hd : d.val = t.val / 8 % 2 * 512 + l.val) :
    (show FVec Ideal S1x512x512 .bf16 from iblk m c 0 t) (ix3 0 r l) = m ((c : Thread nD τ).loc main_arg0) (ix3 b q d) := by
  blk_ext [iblk, V, idx t]

theorem k_at (c : Dev nD) (t : Fin cfg0.N) (r : Fin 4096) (l : Fin 512) (b : Fin 4) (d : Fin 1024) (hb : b.val = t.val / 16)
    (hd : d.val = t.val / 8 % 2 * 512 + l.val) :
    (show FVec Ideal S1x4096x512 .bf16 from iblk m c 1 t) (ix3 0 r l) = m ((c : Thread nD τ).loc main_arg1) (ix3 b r d) := by
  blk_ext [iblk, V, idx t]

theorem v_at (c : Dev nD) (t : Fin cfg0.N) (n : Fin 8) (r : Fin 320) (l : Fin 512) (b : Fin 32) (d : Fin 640) (hb : b.val = t.val / 16 * 8 + n.val)
    (hd : d.val = t.val / 8 % 2 * 320 + r.val) :
    (show FVec Ideal S8x320x512 .bf16 from iblk m c 2 t) (ix3 n r l) = m ((c : Thread nD τ).loc main_arg2) (ix3 b d l) := by
  blk_ext [iblk, V, idx t]

theorem wg_at (c : Dev nD) (t : Fin cfg0.N) (r : Fin 128) (l : Fin 3584) (e : Fin 8) (d : Fin 1024) (he : e.val = t.val / 8) (hd : d.val = t.val % 8 * 128 + r.val) :
    (show FVec Ideal S1x128x3584 .f32 from iblk m c 3 t) (ix3 0 r l) = m ((c : Thread nD τ).loc main_arg3) (ix3 e d l) := by
  blk_ext [iblk, V, idx t]

theorem wu_at (c : Dev nD) (t : Fin cfg0.N) (r : Fin 128) (l : Fin 3584) (e : Fin 8) (d : Fin 1024) (he : e.val = t.val / 8) (hd : d.val = t.val % 8 * 128 + r.val) :
    (show FVec Ideal S1x128x3584 .f32 from iblk m c 4 t) (ix3 0 r l) = m ((c : Thread nD τ).loc main_arg4) (ix3 e d l) := by
  blk_ext [iblk, V, idx t]

theorem wd_at (c : Dev nD) (t : Fin cfg0.N) (r : Fin 448) (l : Fin 1024) (e : Fin 8) (d : Fin 3584) (he : e.val = t.val / 8) (hd : d.val = t.val % 8 * 448 + r.val) :
    (show FVec Ideal S1x448x1024 .f32 from iblk m c 5 t) (ix3 0 r l) = m ((c : Thread nD τ).loc main_arg5) (ix3 e d l) := by
  blk_ext [iblk, V, idx t]

theorem emb6 (t : Fin cfg0.N) (y : Fin 512) (l : Fin 256) : ∃ (b : Fin 4) (q : Fin 4096) (d : Fin 512), b.val = t.val / 16 ∧ q.val = t.val % 8 * 512 + y.val
    ∧ d.val = t.val / 8 % 2 * 256 + l.val ∧ ((cfg0.win 6).blk t).view.emb (ix3 0 y l : S1x512x256.Idx) = (ix3 b q d : S4x4096x512.Idx) := by
  have ht : t.val < 64 := lt_of_lt_of_eq t.isLt N_0
  refine ⟨⟨t.val / 16, by omega⟩, ⟨t.val % 8 * 512 + y.val, by omega⟩, ⟨t.val / 8 % 2 * 256 + l.val, by omega⟩, rfl, rfl, rfl, ?_⟩
  blk_ext [idx t]

theorem emb7 (t : Fin cfg0.N) (f : Fin 7) (y : Fin 128) (l : Fin 512) : ∃ (e : Fin 8) (d : Fin 1024), e.val = t.val / 8 ∧ d.val = t.val % 8 * 128 + y.val
    ∧ ((cfg0.win 7).blk t).view.emb (ix4 0 f y l : S1x7x128x512.Idx) = (ix4 e f d l : S8x7x1024x512.Idx) := by
  have ht : t.val < 64 := lt_of_lt_of_eq t.isLt N_0
  refine ⟨⟨t.val / 8, by omega⟩, ⟨t.val % 8 * 128 + y.val, by omega⟩, rfl, rfl, ?_⟩
  blk_ext [idx t]

theorem emb8 (t : Fin cfg0.N) (f : Fin 7) (y : Fin 128) (l : Fin 512) : ∃ (e : Fin 8) (d : Fin 1024), e.val = t.val / 8 ∧ d.val = t.val % 8 * 128 + y.val
    ∧ ((cfg0.win 8).blk t).view.emb (ix4 0 f y l : S1x7x128x512.Idx) = (ix4 e f d l : S8x7x1024x512.Idx) := by
  have ht : t.val < 64 := lt_of_lt_of_eq t.isLt N_0
  refine ⟨⟨t.val / 8, by omega⟩, ⟨t.val % 8 * 128 + y.val, by omega⟩, rfl, rfl, ?_⟩
  blk_ext [idx t]

theorem emb9 (t : Fin cfg0.N) (y : Fin 448) (l : Fin 1024) : ∃ (e : Fin 8) (d : Fin 3584), e.val = t.val / 8 ∧ d.val = t.val % 8 * 448 + y.val
    ∧ ((cfg0.win 9).blk t).view.emb (ix3 0 y l : S1x448x1024.Idx) = (ix3 e d l : S8x3584x1024.Idx) := by
  have ht : t.val < 64 := lt_of_lt_of_eq t.isLt N_0
  refine ⟨⟨t.val / 8, by omega⟩, ⟨t.val % 8 * 448 + y.val, by omega⟩, rfl, rfl, ?_⟩
  blk_ext [idx t]

/-- An expert's weights cut into seven column tiles. -/
def W (w : FVec Ideal S8x1024x3584 .f32) : FVec Ideal S8x7x1024x512 .bf16 :=
  fun i => w (ix3 (i 0) (i 2) ⟨512 * (i 1).val + (i 3).val, by have := (i 1).isLt; have := (i 3).isLt; dsimp at *; omega⟩)

theorem out7 (c : Dev nD) (t : Fin cfg0.N) (f : Fin 7) (d : Fin 128) (l : Fin 512) (e : Fin 8) (q : Fin 1024) (he : e.val = t.val / 8) (hq : q.val = t.val % 8 * 128 + d.val) :
    (outsAt0 m c t).2.1 (ix4 0 f d l) = W (m ((c : Thread nD τ).loc main_arg3)) (ix4 e f q l) := by
  unfold outsAt0
  have h := w7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) f d l
  dsimp only at h ⊢
  rw [h]
  exact wg_at m c t d _ e q he hq

theorem out8 (c : Dev nD) (t : Fin cfg0.N) (f : Fin 7) (d : Fin 128) (l : Fin 512) (e : Fin 8) (q : Fin 1024) (he : e.val = t.val / 8) (hq : q.val = t.val % 8 * 128 + d.val) :
    (outsAt0 m c t).2.2.1 (ix4 0 f d l) = W (m ((c : Thread nD τ).loc main_arg4)) (ix4 e f q l) := by
  unfold outsAt0
  have h := w8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) f d l
  dsimp only at h ⊢
  rw [h]
  exact wu_at m c t d _ e q he hq

theorem out9 (c : Dev nD) (t : Fin cfg0.N) (d : Fin 448) (l : Fin 1024) (e : Fin 8) (q : Fin 3584) (he : e.val = t.val / 8) (hq : q.val = t.val % 8 * 448 + d.val) :
    (outsAt0 m c t).2.2.2 (ix3 0 d l) = m ((c : Thread nD τ).loc main_arg5) (ix3 e q l) := by
  unfold outsAt0
  have h := w9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) d l
  dsimp only at h ⊢
  rw [h]
  exact wd_at m c t d _ e q he hq

theorem final7 (c : Dev nD) : (dats m 0 c).arrAt 7 cfg0.N = W (m ((c : Thread nD τ).loc main_arg3)) := by
  refine (dats m 0 c).arrAt_eq_of_covers 7 _ (by decide +kernel) fun t hf y => ?_
  blk_simp
  rw [after0_7]
  idx_vars y
  obtain rfl : y0 = 0 := Subsingleton.elim _ _
  obtain ⟨e, d, h1, h2, he⟩ := emb7 t y1 y2 y3
  exact (out7 m c t y1 y2 y3 e d h1 h2).trans (congrArg (W (m ((c : Thread nD τ).loc main_arg3))) he.symm)

theorem final8 (c : Dev nD) : (dats m 0 c).arrAt 8 cfg0.N = W (m ((c : Thread nD τ).loc main_arg4)) := by
  refine (dats m 0 c).arrAt_eq_of_covers 8 _ (by decide +kernel) fun t hf y => ?_
  blk_simp
  rw [after0_8]
  idx_vars y
  obtain rfl : y0 = 0 := Subsingleton.elim _ _
  obtain ⟨e, d, h1, h2, he⟩ := emb8 t y1 y2 y3
  exact (out8 m c t y1 y2 y3 e d h1 h2).trans (congrArg (W (m ((c : Thread nD τ).loc main_arg4))) he.symm)

theorem final9 (c : Dev nD) : (dats m 0 c).arrAt 9 cfg0.N = fun i => m ((c : Thread nD τ).loc main_arg5) i := by
  refine (dats m 0 c).arrAt_eq_of_covers 9 _ (by decide +kernel) fun t hf y => ?_
  blk_simp
  rw [after0_9]
  idx_vars y
  obtain rfl : y0 = 0 := Subsingleton.elim _ _
  obtain ⟨e, d, h1, h2, he⟩ := emb9 t y1 y2
  exact (out9 m c t y1 y2 e d h1 h2).trans (congrArg (m ((c : Thread nD τ).loc main_arg5)) he.symm)

theorem out6 (c : Dev nD) (t : Fin cfg0.N) (h : Fin 4) (b : Fin 512) (d : Fin 64) :
    (outsAt0 m c t).1 (ix3 0 b ⟨64 * h.val + d.val, by omega⟩)
      = Ideal.div (runA (fun n a => cs (iblk m c 0 t) (iblk m c 1 t) (t.val % 8) h n a b) (fun n a => vv (iblk m c 2 t) h n ⟨d.val, by omega⟩ a) (t.val % 8 + 1))
          (runA (fun n a => cs (iblk m c 0 t) (iblk m c 1 t) (t.val % 8) h n a b) (fun n a => vv (iblk m c 2 t) h n 64 a) (t.val % 8 + 1)) := by
  unfold outsAt0
  have h := out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) h b d
  rw [coords_eq] at h
  dsimp only at h ⊢
  rw [h]

end

end Cert.KernelIdeal.Attn

end
-- ==== Proof.AttnRef.lean ====
module

public import proofs.«01_k».proof.Proof.Gen.ReferenceIdeal.Run
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.ReferenceIdeal.Attn

open Cert.ReferenceIdeal Cert.ReferenceIdeal.Facts₀ Cert.ReferenceIdeal.Facts

/-! The reference's attention, entry by entry: its chain of whole-array operations cut into six parts. -/

/-- The masked scores. -/
def rS (q k : FVec Ideal S4x4096x1024 .bf16) : FVec Ideal S4x8x4096x4096 .f32 :=
  select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (mulf (Host.dotGeneral dot_S4x4096x8x128_S4x4096x8x128_S4x8x4096x4096_3_3_1_1_02_02 none (shapeCast _ (extf .f32 q bitsLt_bf16_f32) shapeCasts_S4x4096x1024_S4x4096x8x128) (shapeCast _ (extf .f32 k bitsLt_bf16_f32) shapeCasts_S4x4096x1024_S4x4096x8x128)) (broadcastInDim S4x8x4096x4096 ![] bcast_S_S4x8x4096x4096 (id (Host.log (constant S_ .f32 0x40000000#32))))) (broadcastInDim S4x8x4096x4096 ![] bcast_S_S4x8x4096x4096 (id (constant S_ .f32 0xFF800000#32)))

/-- Each query's largest score. -/
def rM (X : FVec Ideal S4x8x4096x4096 .f32) : FVec Ideal S4x8x4096 .f32 :=
  Host.reduce FloatOps.maximumf X (constant S_ .f32 0xFF800000#32) reducesTo_S4x8x4096x4096_S4x8x4096_d3 h_S_

/-- The exponentials of the scores less each query's largest. -/
def rE (X : FVec Ideal S4x8x4096x4096 .f32) (M : FVec Ideal S4x8x4096 .f32) : FVec Ideal S4x8x4096x4096 .f32 :=
  Host.exp (subf X (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) M))))

/-- The weights: the exponentials over their sums. -/
def rP (E : FVec Ideal S4x8x4096x4096 .f32) : FVec Ideal S4x8x4096x4096 .f32 :=
  Host.divf E (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd E (constant S_ .f32 0x00000000#32) reducesTo_S4x8x4096x4096_S4x8x4096_d3 h_S_)))

/-- The values, by head and position. -/
def rV (vt : FVec Ideal S32x640x512 .bf16) : FVec Ideal S4x8x4096x64 .f32 :=
  shapeCast _ (transpose S4x8x8x512x64 [0, 2, 1, 4, 3] (extractStridedSlice S4x8x8x64x512 ![0, 0, 0, 0, 0] (shapeCast _ (extf .f32 vt bitsLt_bf16_f32) shapeCasts_S32x640x512_S4x8x8x80x512) slices_S4x8x8x80x512_S4x8x8x64x512_0_0_0_0_0) transposes_S4x8x8x64x512_S4x8x8x512x64_0_2_1_4_3) shapeCasts_S4x8x8x512x64_S4x8x4096x64

/-- The results, heads beside one another. -/
def rO (P : FVec Ideal S4x8x4096x4096 .f32) (V : FVec Ideal S4x8x4096x64 .f32) : FVec Ideal S4x4096x512 .bf16 :=
  truncf .bf16 (shapeCast _ (transpose S4x4096x8x64 [0, 2, 1, 3] (Host.dotGeneral dot_S4x8x4096x4096_S4x8x4096x64_S4x8x4096x64_3_2_2_3_01_01 none P V) transposes_S4x8x4096x64_S4x4096x8x64_0_2_1_3) shapeCasts_S4x4096x8x64_S4x4096x512) bitsLt_bf16_f32

theorem res_eq (m : (ℓ : Loc nD τ sig) → Buf (Elt Ideal) ℓ) (c : Dev nD) :
    Value.res_main_v35 (F := Ideal) m c
      = rO (rP (rE (rS (m ((c.tc : Thread nD τ).loc main_arg0)) (m ((c.tc : Thread nD τ).loc main_arg1)))
          (rM (rS (m ((c.tc : Thread nD τ).loc main_arg0)) (m ((c.tc : Thread nD τ).loc main_arg1)))))) (rV (m ((c.tc : Thread nD τ).loc main_arg2))) := rfl

theorem bits_neg_inf : Ideal.ofBits .f32 4286578688#32 = ⊥ := by simp [Ideal.ofBits, Ideal.ieee]

theorem bits_two : Ideal.ofBits .f32 1073741824#32 = ((2 : ℝ) : EReal) := by
  simp [Ideal.ofBits, Ideal.ieee]
  rw [← EReal.coe_mul]
  norm_num

theorem rM_at (X : FVec Ideal S4x8x4096x4096 .f32) (b : Fin 4) (h : Fin 8) (q : Fin 4096) :
    rM X (ix3 b h q) = Finset.univ.sup fun k : Fin 4096 => (X (ix4 b h q k) : EReal) := by
  unfold rM
  refine (Host.reduce_eq_fold _ _ _ _ _ _).trans ((Shape.Reduces.fold_fiber_r4_a3 (by decide : S4x8x4096x4096.Reduces [3] S4x8x4096) _ _ _ _).trans ?_)
  rw [show (constant (F := Ideal) S_ .f32 4286578688#32 (Shape.Idx.first h_S_)) = (⊥ : EReal) from bits_neg_inf]
  rfl

theorem rE_at (X : FVec Ideal S4x8x4096x4096 .f32) (M : FVec Ideal S4x8x4096 .f32) (b : Fin 4) (h : Fin 8) (q k : Fin 4096) :
    rE X M (ix4 b h q k) = Ideal.exp (X (ix4 b h q k) - M (ix3 b h q)) := by
  unfold rE; pointwise
  rw [bits_neg_inf, max_eq_right bot_le]

theorem rP_at (E : FVec Ideal S4x8x4096x4096 .f32) (b : Fin 4) (h : Fin 8) (q k : Fin 4096) :
    rP E (ix4 b h q k) = Ideal.div (E (ix4 b h q k)) (∑ k', E (ix4 b h q k')) := by
  unfold rP; pointwise

theorem rS_at (q k : FVec Ideal S4x4096x1024 .bf16) (b : Fin 4) (h : Fin 8) (i j : Fin 4096) :
    rS q k (ix4 b h i j) = if j ≤ i then (∑ l : Fin 128, q (ix3 b i ⟨128 * h.val + l.val, by omega⟩) * k (ix3 b j ⟨128 * h.val + l.val, by omega⟩)) * (Real.log 2 : ℝ) else ⊥ := by
  unfold rS; pointwise
  have hl : (id (Host.log (constant (F := Ideal) S_ .f32 1073741824#32)) ix0 : EReal) = (Real.log 2 : ℝ) :=
    (congrArg Ideal.log bits_two).trans (if_neg (by norm_num))
  have hm : (id (constant (F := Ideal) S_ .f32 4286578688#32) ix0 : EReal) = ⊥ := bits_neg_inf
  rw [WordCmp.cmpi_sle_ofNat (by omega) (by omega), hl, hm]
  simp only [mul_comm 128]
  by_cases h : j ≤ i
  · simp [Scalar.select, h]
  · simp [Scalar.select, h]

theorem rV_at (vt : FVec Ideal S32x640x512 .bf16) (b : Fin 4) (h : Fin 8) (j : Fin 8) (a : Fin 512) (hl : j.val * 512 + a.val < 4096) (d : Fin 64) :
    rV vt (ix4 b h ⟨j.val * 512 + a.val, hl⟩ d) = vt (ix3 ⟨8 * b.val + j.val, by omega⟩ ⟨80 * h.val + d.val, by omega⟩ a) := by
  unfold rV; pointwise
  simp only [mul_comm 8, mul_comm 80]

theorem rO_at (P : FVec Ideal S4x8x4096x4096 .f32) (V : FVec Ideal S4x8x4096x64 .f32) (b : Fin 4) (h : Fin 8) (q : Fin 4096) (d : Fin 64) :
    rO P V (ix3 b q ⟨64 * h.val + d.val, by omega⟩) = ∑ k : Fin 4096, P (ix4 b h q k) * V (ix4 b h k d) := by
  unfold rO; pointwise

/-- An expert's weights in seven column tiles, as the host cuts them. -/
def rW (w : FVec Ideal S8x1024x3584 .f32) : FVec Ideal S8x7x1024x512 .bf16 :=
  truncf .bf16 (transpose S8x7x1024x512 [0, 2, 1, 3] (shapeCast _ w shapeCasts_S8x1024x3584_S8x1024x7x512) transposes_S8x1024x7x512_S8x7x1024x512_0_2_1_3) bitsLt_bf16_f32

theorem rW_at (w : FVec Ideal S8x1024x3584 .f32) (e : Fin 8) (f : Fin 7) (d : Fin 1024) (l : Fin 512) :
    rW w (ix4 e f d l) = w (ix3 e d ⟨512 * f.val + l.val, by omega⟩) := by
  unfold rW; pointwise
  simp only [mul_comm _ 512]

end Cert.ReferenceIdeal.Attn

end
-- ==== Proof.Softmax.lean ====
module

public import proofs.«01_k».proof.Proof.AttnStep

@[expose] public section

noncomputable section

open Idealize.ShloMosaic

namespace Cert.KernelIdeal.Attn

/-! The running maximum and the rescaled sums give the plain softmax. -/

theorem mul_sum_coe {ι : Type*} (t : Finset ι) (f : ι → EReal) (c : ℝ) (hc : 0 ≤ c) :
    (c : EReal) * ∑ i ∈ t, f i = ∑ i ∈ t, (c : EReal) * f i := by
  classical
  induction t using Finset.induction_on with
  | empty => simp
  | insert i t hi ih =>
    rw [Finset.sum_insert hi, Finset.sum_insert hi, ← ih]
    exact EReal.left_distrib_of_nonneg_of_ne_top (EReal.coe_nonneg.mpr hc) (EReal.coe_ne_top c) _ _

theorem coe_sum {ι : Type*} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

theorem exp2_real (r : ℝ) : Ideal.exp2 (r : EReal) = ((2 : ℝ) ^ r : ℝ) := rfl

theorem exp2_shift (x : EReal) (hx : x ≠ ⊤) (a b : ℝ) :
    Ideal.exp2 ((a : EReal) - b) * Ideal.exp2 (x - a) = Ideal.exp2 (x - b) := by
  induction x with
  | top => exact absurd rfl hx
  | bot => rw [EReal.bot_sub, EReal.bot_sub, Ideal.exp2_bot, mul_zero]
  | coe r =>
    rw [← EReal.coe_sub, ← EReal.coe_sub, ← EReal.coe_sub, exp2_real, exp2_real, exp2_real, ← EReal.coe_mul,
      ← Real.rpow_add (by norm_num)]
    congr 2; ring

/-- The exponential of a score times ln 2 is a power of two. -/
theorem exp_mul_log (x : EReal) (hx : x ≠ ⊤) (a : ℝ) :
    Ideal.exp (x * (Real.log 2 : ℝ) - (a : EReal) * (Real.log 2 : ℝ)) = Ideal.exp2 (x - a) := by
  have hl : (0 : ℝ) < Real.log 2 := Real.log_pos (by norm_num)
  induction x with
  | top => exact absurd rfl hx
  | bot =>
    rw [EReal.bot_mul_coe_of_pos hl, ← EReal.coe_mul, EReal.bot_sub, EReal.bot_sub, Ideal.exp2_bot]
    rfl
  | coe r =>
    rw [← EReal.coe_mul, ← EReal.coe_mul, ← EReal.coe_sub, ← EReal.coe_sub, exp2_real]
    refine congrArg (fun z : ℝ => (z : EReal)) ?_
    rw [Real.rpow_def_of_pos (by norm_num)]
    congr 1; ring

section
variable {s : ℕ → Fin 512 → EReal} (hs : ∀ n a, s n a ≠ ⊤) (h0 : s 0 0 ≠ ⊥)
include hs

theorem runM_ne_top (n : ℕ) : runM s n ≠ ⊤ := by
  induction n with
  | zero => exact bot_ne_top
  | succ n ih =>
    refine (max_lt (lt_top_iff_ne_top.mpr ih) ?_).ne
    exact (Finset.sup_lt_iff bot_lt_top).mpr fun a _ => lt_top_iff_ne_top.mpr (hs n a)

omit hs in
theorem le_runM (n j : ℕ) (hj : j < n) (a : Fin 512) : s j a ≤ runM s n := by
  induction n with
  | zero => exact absurd hj (Nat.not_lt_zero j)
  | succ n ih =>
    rcases Nat.lt_succ_iff_lt_or_eq.mp hj with h | rfl
    · exact (ih h).trans (le_max_left _ _)
    · exact (Finset.le_sup (f := s j) (Finset.mem_univ a)).trans (le_max_right _ _)

omit hs in
theorem runM_le (B : EReal) (n : ℕ) (h : ∀ j < n, ∀ a, s j a ≤ B) : runM s n ≤ B := by
  induction n with
  | zero => exact bot_le
  | succ n ih =>
    exact max_le (ih fun j hj => h j (Nat.lt_succ_of_lt hj)) (Finset.sup_le fun a _ => h n (Nat.lt_succ_self n) a)

include h0

theorem runM_coe (n : ℕ) (hn : 1 ≤ n) : ∃ M : ℝ, runM s n = M := by
  refine ⟨(runM s n).toReal, (EReal.coe_toReal (runM_ne_top hs n) fun h => h0 ?_).symm⟩
  exact le_bot_iff.mp (h ▸ le_runM n 0 hn 0)

theorem runA_eq (v : ℕ → Fin 512 → EReal) (n : ℕ) (hn : 1 ≤ n) :
    runA s v n = ∑ j ∈ Finset.range n, ∑ a : Fin 512, v j a * Ideal.exp2 (s j a - runM s n) := by
  induction n, hn using Nat.le_induction with
  | base => rw [runA, runA, mul_zero, zero_add, Finset.sum_range_one]
  | succ n hn ih =>
    obtain ⟨M, hM⟩ := runM_coe hs h0 n hn
    obtain ⟨M', hM'⟩ := runM_coe hs h0 (n + 1) (by omega)
    rw [runA, ih, Finset.sum_range_succ, hM, hM']
    congr 1
    rw [← EReal.coe_sub, exp2_real, mul_sum_coe _ _ _ (Real.rpow_nonneg (by norm_num) _)]
    refine Finset.sum_congr rfl fun j _ => ?_
    rw [mul_sum_coe _ _ _ (Real.rpow_nonneg (by norm_num) _)]
    refine Finset.sum_congr rfl fun a _ => ?_
    rw [mul_left_comm, ← exp2_real, EReal.coe_sub, exp2_shift _ (hs j a)]

/-- The total weight is a positive real. -/
theorem weight_pos (n : ℕ) (hn : 1 ≤ n) : ∃ L : ℝ, 0 < L ∧
    ∑ j ∈ Finset.range n, ∑ a : Fin 512, Ideal.exp2 (s j a - runM s n) = (L : EReal) := by
  obtain ⟨M, hM⟩ := runM_coe hs h0 n hn
  have w : ∀ j a, ∃ r : ℝ, 0 ≤ r ∧ Ideal.exp2 (s j a - runM s n) = r ∧ (s j a ≠ ⊥ → 0 < r) := fun j a => by
    rw [hM]
    by_cases hb : s j a = ⊥
    · exact ⟨0, le_rfl, by rw [hb, EReal.bot_sub, Ideal.exp2_bot, EReal.coe_zero], fun h => absurd hb h⟩
    · refine ⟨(2 : ℝ) ^ ((s j a).toReal - M), Real.rpow_nonneg (by norm_num) _, ?_, fun _ => Real.rpow_pos_of_pos (by norm_num) _⟩
      rw [← exp2_real, EReal.coe_sub, EReal.coe_toReal (hs j a) hb]
  choose r hr0 hre hrp using w
  refine ⟨∑ j ∈ Finset.range n, ∑ a : Fin 512, r j a, ?_, ?_⟩
  · refine Finset.sum_pos' (fun j _ => Finset.sum_nonneg fun a _ => hr0 j a) ⟨0, Finset.mem_range.mpr hn, ?_⟩
    exact Finset.sum_pos' (fun a _ => hr0 0 a) ⟨0, Finset.mem_univ _, hrp 0 0 h0⟩
  · rw [coe_sum]
    refine Finset.sum_congr rfl fun j _ => ?_
    rw [coe_sum]
    exact Finset.sum_congr rfl fun a _ => hre j a

/-- The plain softmax over all 4096 keys of the scores times ln 2, keys from block `n` on masked out, against the values:
    the quotient of the two running sums. -/
theorem softmax_eq (v : ℕ → Fin 512 → EReal) (n : ℕ) (hn : 1 ≤ n) (hn8 : n ≤ 8) (x V : Fin 4096 → EReal)
    (hx : ∀ (j : Fin 8) (a : Fin 512) (hl : j.val * 512 + a.val < 4096),
      x ⟨j.val * 512 + a.val, hl⟩ = if j.val < n then s j.val a * (Real.log 2 : ℝ) else ⊥)
    (hV : ∀ (j : Fin 8) (a : Fin 512) (hl : j.val * 512 + a.val < 4096), V ⟨j.val * 512 + a.val, hl⟩ = v j.val a) :
    ∑ k : Fin 4096, Ideal.div (Ideal.exp (x k - Finset.univ.sup x)) (∑ k' : Fin 4096, Ideal.exp (x k' - Finset.univ.sup x)) * V k
      = Ideal.div (runA s v n) (runA s (fun _ _ => 1) n) := by
  have hl : (0 : ℝ) < Real.log 2 := Real.log_pos (by norm_num)
  obtain ⟨M, hM⟩ := runM_coe hs h0 n hn
  have hmono : Monotone fun y : EReal => y * (Real.log 2 : ℝ) := fun y z h =>
    mul_le_mul_of_nonneg_right h (EReal.coe_nonneg.mpr hl.le)
  have hsplit : ∀ k : Fin 4096, ∃ (j : Fin 8) (a : Fin 512) (hl : j.val * 512 + a.val < 4096), k = ⟨j.val * 512 + a.val, hl⟩ := fun k =>
    ⟨⟨k.val / 512, by omega⟩, ⟨k.val % 512, by omega⟩, by dsimp only; omega, Fin.ext (by dsimp only; omega)⟩
  have hsup : Finset.univ.sup x = (M : EReal) * (Real.log 2 : ℝ) := by
    refine le_antisymm (Finset.sup_le fun k _ => ?_) ?_
    · obtain ⟨j, a, hl', rfl⟩ := hsplit k
      rw [hx j a hl']
      split_ifs with hj
      · exact hmono (hM ▸ le_runM n j.val hj a)
      · exact bot_le
    · have hq : (M : EReal) ≤ Finset.univ.sup x * ((Real.log 2)⁻¹ : ℝ) := by
        rw [← hM]
        refine runM_le _ n fun j hj a => ?_
        have e := hx ⟨j, by omega⟩ a (by dsimp only; omega)
        rw [if_pos (show (⟨j, by omega⟩ : Fin 8).val < n from hj)] at e
        have hle : s j a * (Real.log 2 : ℝ) ≤ Finset.univ.sup x := e ▸ Finset.le_sup (f := x) (Finset.mem_univ _)
        have h2 := mul_le_mul_of_nonneg_right hle (EReal.coe_nonneg.mpr (inv_nonneg.mpr hl.le))
        rwa [mul_assoc, ← EReal.coe_mul, mul_inv_cancel₀ hl.ne', EReal.coe_one, mul_one] at h2
      have h2 : (M : EReal) * (Real.log 2 : ℝ) ≤ Finset.univ.sup x * ((Real.log 2)⁻¹ : ℝ) * (Real.log 2 : ℝ) := hmono hq
      rwa [mul_assoc (Finset.univ.sup x), ← EReal.coe_mul ((Real.log 2)⁻¹), inv_mul_cancel₀ hl.ne', EReal.coe_one, mul_one] at h2
  have he : ∀ (j : Fin 8) (a : Fin 512) (hl : j.val * 512 + a.val < 4096),
      Ideal.exp (x ⟨j.val * 512 + a.val, hl⟩ - Finset.univ.sup x) = if j.val < n then Ideal.exp2 (s j.val a - runM s n) else 0 := fun j a hl' => by
    rw [hx j a hl', hsup, hM]
    split_ifs with hj
    · exact exp_mul_log _ (hs _ a) M
    · rw [← EReal.coe_mul, EReal.bot_sub]; rfl
  have hrange : ∀ f : ℕ → EReal, ∑ j : Fin 8, (if j.val < n then f j.val else 0) = ∑ j ∈ Finset.range n, f j := fun f => by
    rw [Fin.sum_univ_eq_sum_range (fun j => if j < n then f j else 0) 8, ← Finset.sum_filter]
    refine Finset.sum_congr (Finset.ext fun j => ?_) fun _ _ => rfl
    simp only [Finset.mem_filter, Finset.mem_range]; omega
  obtain ⟨L, hL, hLe⟩ := weight_pos hs h0 n hn
  have hden : ∑ k' : Fin 4096, Ideal.exp (x k' - Finset.univ.sup x) = (L : EReal) := by
    rw [← hLe, ← hrange fun j => ∑ a : Fin 512, Ideal.exp2 (s j a - runM s n)]
    refine (Eq.trans (Finset.sum_congr rfl fun j _ => ?_) (Fin.sum_mul_add_congr (S := 8) (n := 512) fun j a hl => (he j a hl).symm)).symm
    split_ifs <;> simp
  have hone : runA s (fun _ _ => 1) n = (L : EReal) := by
    rw [runA_eq hs h0 _ n hn, ← hLe]; simp only [one_mul]
  have hL0 : (L : EReal) ≠ 0 := by exact_mod_cast hL.ne'
  rw [hden, hone, runA_eq hs h0 v n hn]
  simp only [Ideal.div, if_neg hL0]
  rw [← EReal.coe_inv, mul_comm, mul_sum_coe _ _ _ (inv_nonneg.mpr hL.le), ← hrange fun j => ((L⁻¹ : ℝ) : EReal) * ∑ a : Fin 512, v j a * Ideal.exp2 (s j a - runM s n)]
  refine (Eq.trans (Finset.sum_congr rfl fun j _ => ?_) (Fin.sum_mul_add_congr (S := 8) (n := 512)
    (F := fun j a => (if j.val < n then Ideal.exp2 (s j.val a - runM s n) else 0) * ((L⁻¹ : ℝ) : EReal) * v j.val a) fun j a hl => ?_)).symm
  · split_ifs with hj
    · rw [mul_sum_coe _ _ _ (inv_nonneg.mpr hL.le)]
      refine Finset.sum_congr rfl fun a _ => ?_
      rw [mul_comm (v _ a), ← mul_assoc, mul_comm ((L⁻¹ : ℝ) : EReal)]
    · simp
  · rw [he j a hl, hV j a hl]

end

end Cert.KernelIdeal.Attn

end
-- ==== Proof.AttnCmp.lean ====
module

public import proofs.«01_k».proof.Proof.AttnOut
public import proofs.«01_k».proof.Proof.AttnRef
public import proofs.«01_k».proof.Proof.Softmax

@[expose] public section

set_option maxRecDepth 16384

noncomputable section

open Idealize.ShloMosaic Idealize.ShloMosaic.TcCoe Idealize.SL.Sem

namespace Cert.KernelIdeal.Attn

open Cert.KernelIdeal Cert.KernelIdeal.Gen
open Cert.ReferenceIdeal.Attn (rS rM rE rP rV rO rM_at rE_at rP_at rS_at rV_at rO_at)

/-- Blocks of values that agree up to the last one read leave the same sum. -/
theorem runA_congr_v {s v v' : ℕ → Fin 512 → EReal} : ∀ n : ℕ, (∀ m, m < n → ∀ a, v m a = v' m a) → runA s v n = runA s v' n
  | 0, _ => rfl
  | n + 1, h => by
    have i := runA_congr_v (s := s) n fun m hm => h m (by omega)
    rw [runA, runA, i, funext (h n (Nat.lt_succ_self n))]

/-- A finite sum of products of real numbers is a real number. -/
theorem dot_ne {ι : Type} [Fintype ι] (f g : ι → EReal) (hf : ∀ i, f i ≠ ⊥ ∧ f i ≠ ⊤) (hg : ∀ i, g i ≠ ⊥ ∧ g i ≠ ⊤) :
    ∑ i, f i * g i ≠ ⊥ ∧ ∑ i, f i * g i ≠ ⊤ := by
  have e : ∑ i, f i * g i = ((∑ i, (f i).toReal * (g i).toReal : ℝ) : EReal) := by
    rw [coe_sum]
    refine Finset.sum_congr rfl fun i _ => ?_
    rw [EReal.coe_mul, EReal.coe_toReal (hf i).2 (hf i).1, EReal.coe_toReal (hg i).2 (hg i).1]
  rw [e]
  exact ⟨EReal.coe_ne_bot _, EReal.coe_ne_top _⟩

/-- The attention, as its reference writes it. -/
def O (q k : FVec Ideal S4x4096x1024 .bf16) (vt : FVec Ideal S32x640x512 .bf16) : FVec Ideal S4x4096x512 .bf16 :=
  rO (rP (rE (rS q k) (rM (rS q k)))) (rV vt)

/-- What the attention asks of its arguments: real queries and keys, and a row of ones with every head's values. -/
def Ok (q k : FVec Ideal S4x4096x1024 .bf16) (vt : FVec Ideal S32x640x512 .bf16) : Prop :=
  (∀ i, q i ≠ ⊥ ∧ q i ≠ ⊤) ∧ (∀ i, k i ≠ ⊥ ∧ k i ≠ ⊤)
    ∧ ∀ (b : Fin 4) (h : Fin 8) (j : Fin 8) (a : Fin 512), vt (ix3 ⟨8 * b.val + j.val, by omega⟩ ⟨80 * h.val + 64, by omega⟩ a) = 1

/-- One head's words of one block of queries: what the loop over the key blocks leaves is what the softmax over all the keys is. -/
theorem point (q k : FVec Ideal S4x4096x1024 .bf16) (vt : FVec Ideal S32x640x512 .bf16)
    (hp : Ok q k vt)
    (x0 : FVec Ideal S1x512x512 .bf16) (x1 : FVec Ideal S1x4096x512 .bf16) (x2 : FVec Ideal S8x320x512 .bf16)
    (bb : Fin 4) (p : Fin 2) (i : Fin 8)
    (h0 : ∀ (r l : Fin 512), x0 (ix3 0 r l) = q (ix3 bb ⟨i.val * 512 + r.val, by omega⟩ ⟨p.val * 512 + l.val, by omega⟩))
    (h1 : ∀ (r : Fin 4096) (l : Fin 512), x1 (ix3 0 r l) = k (ix3 bb r ⟨p.val * 512 + l.val, by omega⟩))
    (h2 : ∀ (n : Fin 8) (r : Fin 320) (l : Fin 512), x2 (ix3 n r l) = vt (ix3 ⟨8 * bb.val + n.val, by omega⟩ ⟨p.val * 320 + r.val, by omega⟩ l))
    (h : Fin 4) (b : Fin 512) (d : Fin 64) (H : Fin 8) (hH : H.val = 4 * p.val + h.val) :
    Ideal.div (runA (fun n a => cs x0 x1 i.val h n a b) (fun n a => vv x2 h n ⟨d.val, by omega⟩ a) (i.val + 1))
        (runA (fun n a => cs x0 x1 i.val h n a b) (fun n a => vv x2 h n 64 a) (i.val + 1))
      = O q k vt (ix3 bb ⟨i.val * 512 + b.val, by omega⟩ ⟨64 * H.val + d.val, by omega⟩) := by
  obtain ⟨hq, hk, hv⟩ := hp
  have hsc : ∀ n a, sc x0 x1 h n a b ≠ ⊥ ∧ sc x0 x1 h n a b ≠ ⊤ := fun n a => by
    unfold sc
    split_ifs with hn
    · exact dot_ne _ _ (fun l => by rw [h1]; exact hk _) fun l => by rw [h0]; exact hq _
    · exact ⟨EReal.zero_ne_bot, EReal.zero_ne_top⟩
  have hone : runA (fun n a => cs x0 x1 i.val h n a b) (fun n a => vv x2 h n 64 a) (i.val + 1) = runA (fun n a => cs x0 x1 i.val h n a b) (fun _ _ => 1) (i.val + 1) :=
    runA_congr_v _ fun n hn a => by
      have hn8 : n < 8 := by omega
      unfold vv
      rw [dif_pos hn8, h2, ← hv bb H ⟨n, hn8⟩ a]
      congr 2
      ext
      simp [hH]; omega
  rw [hone]
  unfold O
  rw [rO_at]
  simp only [rP_at, rE_at, rM_at]
  refine (softmax_eq (fun n a => ?_) ?_ _ _ (by omega) (by omega) (fun k' => rS q k (ix4 bb H ⟨i.val * 512 + b.val, by omega⟩ k')) (fun k' => rV vt (ix4 bb H k' d)) (fun j a hl => ?_) fun j a hl => ?_).symm
  · unfold cs; split_ifs
    · exact bot_ne_top
    · exact (hsc n a).2
  · unfold cs
    rw [if_neg (by simp)]
    exact (hsc 0 0).1
  · rw [rS_at]
    have e : ∑ l : Fin 128, q (ix3 bb ⟨i.val * 512 + b.val, by omega⟩ ⟨128 * H.val + l.val, by omega⟩) * k (ix3 bb ⟨j.val * 512 + a.val, hl⟩ ⟨128 * H.val + l.val, by omega⟩)
        = sc x0 x1 h j.val a b := by
      unfold sc
      rw [dif_pos j.isLt]
      refine Finset.sum_congr rfl fun l _ => ?_
      rw [h0, h1, mul_comm]
      congr 3
      · ext; simp; omega
      · ext; simp [hH]; omega
      · ext; simp [hH]; omega
    have hle : ((⟨j.val * 512 + a.val, hl⟩ : Fin 4096) ≤ ⟨i.val * 512 + b.val, by omega⟩) ↔ j.val * 512 + a.val ≤ i.val * 512 + b.val := Iff.rfl
    rw [e]
    simp only [hle]
    unfold cs
    have hab : a ≤ b ↔ a.val ≤ b.val := Iff.rfl
    by_cases hj : j.val < i.val + 1
    · rw [if_pos hj]
      by_cases hm : j.val = i.val ∧ ¬ a ≤ b
      · rw [if_pos hm, if_neg (by omega), EReal.bot_mul_coe_of_pos (Real.log_pos one_lt_two)]
      · rw [if_neg hm, if_pos (by omega)]
    · rw [if_neg hj, if_neg (by omega)]
  · rw [rV_at]
    unfold vv
    rw [dif_pos j.isLt, h2]
    congr 2
    ext
    simp [hH]; omega

end Cert.KernelIdeal.Attn

end
-- ==== Proof.AttnClaim.lean ====
module

public import proofs.«01_k».proof.Defs
public import proofs.«01_k».proof.Proof.AttnCmp
public import proofs.«01_k».proof.Proof.AttnPre
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ)

/-- The attention's result, of queries and keys that are real numbers and values with their row of ones. -/
theorem final6 (c : Dev nD)
    (hp : Ok (m ((c : Thread nD τ).loc main_arg0)) (m ((c : Thread nD τ).loc main_arg1)) (m ((c : Thread nD τ).loc main_arg2))) :
    (dats m 0 c).arrAt 6 cfg0.N = O (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  idx_vars y
  obtain rfl : y0 = 0 := Subsingleton.elim _ _
  have ht : t.val < 64 := lt_of_lt_of_eq t.isLt N_0
  have hy : y2.val < 256 := y2.isLt
  obtain ⟨b, q, d, hb, hq, hd, he⟩ := emb6 t y1 y2
  refine Eq.trans ?_ (congrArg (O (m ((c : Thread nD τ).loc main_arg0)) (m ((c : Thread nD τ).loc main_arg1)) (m ((c : Thread nD τ).loc main_arg2))) he.symm)
  have e2 : y2 = ⟨64 * (⟨y2.val / 64, by omega⟩ : Fin 4).val + (⟨y2.val % 64, by omega⟩ : Fin 64).val, by dsimp; omega⟩ := Fin.ext (by dsimp; omega)
  have ho := out6 m c t ⟨y2.val / 64, by omega⟩ y1 ⟨y2.val % 64, by omega⟩
  rw [← e2] at ho
  refine ho.trans ?_
  refine (point _ _ _ hp (iblk m c 0 t) (iblk m c 1 t) (iblk m c 2 t) b ⟨t.val / 8 % 2, by omega⟩ ⟨t.val % 8, by omega⟩
    (fun r l => q_at m c t r l b _ _ hb rfl rfl) (fun r l => k_at m c t r l b _ hb rfl) (fun n r l => v_at m c t n r l _ _ (by dsimp; omega) rfl)
    ⟨y2.val / 64, by omega⟩ y1 ⟨y2.val % 64, by omega⟩ ⟨4 * (t.val / 8 % 2) + y2.val / 64, by omega⟩ rfl).trans (congrArg _ ?_)
  congr 1
  · exact Fin.ext hq.symm
  · exact Fin.ext (by dsimp; omega)

theorem tiles (w : FVec Ideal S8x1024x3584 .f32) : Cert.ReferenceIdeal.Attn.rW w = W w := by
  funext i
  idx_vars i
  exact Cert.ReferenceIdeal.Attn.rW_at w i0 i1 i2 i3

end Cert.KernelIdeal.Attn

namespace Cert.Proof

open Cert.KernelIdeal.Attn in
/-- The attention call computes what its reference computes, all four results. -/
theorem attn_algebraic : Cert.algebraic_KernelIdeal_ReferenceIdeal_pre_finite_scores := by
  pair_intro
  · run_from Cert.KernelIdeal.Gen.run_main m g
  · run_from Cert.ReferenceIdeal.Value.run m' g'
    · refine Eq.trans ?_ (final6 m c (Cert.Pre_finite_scores.Attn.split (hpre c))).symm
      obtain ⟨a0, a1, a2, -⟩ := hagree c
      refine (Cert.ReferenceIdeal.Attn.res_eq m' c).trans ?_
      rw [a0, a1, a2]
      rfl
    · exact (tiles _).trans (final7 m c).symm
    · exact (tiles _).trans (final8 m c).symm
    · exact Eq.trans rfl (final9 m c).symm

end Cert.Proof

end
-- ==== Proof.Ffn.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

/-- One unit of the hidden layer: silu of the gate times the up projection. -/
def act (a b : EReal) : EReal := a * Ideal.div 1 (1 + Ideal.exp (-a)) * b

/-- A row normed by its root mean square, times the gain. -/
def rms (x : Fin 1024 → EReal) (g : EReal) (l : Fin 1024) : EReal :=
  x l * Ideal.rsqrt (Ideal.div (∑ k, x k * x k) (Ideal.ofBits .f32 0x44800000#32) + Ideal.ofBits .f32 0x358637BD#32) * g

theorem pay1_at (r l : Fin 1024) : k0_pay1 (F := Ideal) (ix2 r l) = 0 := by pointwise [k0_pay1]

theorem pay2_at (z wg wu : FVec Ideal S1024x1024 .bf16) (acc : FVec Ideal S1024x1024 .f32) (wd : FVec Ideal S1024x1024 .bf16)
    (r l : Fin 1024) : k0_pay2 (F := Ideal) z wg wu acc wd (ix2 r l)
      = acc (ix2 r l) + ∑ k : Fin 1024, act (∑ d : Fin 1024, z (ix2 r d) * wg (ix2 d k)) (∑ d : Fin 1024, z (ix2 r d) * wu (ix2 d k)) * wd (ix2 k l) := by
  pointwise [k0_pay2, act]
  rfl

theorem pay3_at (h acc : FVec Ideal S1024x1024 .f32) (g : FVec Ideal S1x1024 .f32) (r l : Fin 1024) :
    k0_pay3 (F := Ideal) h acc g (ix2 r l) = h (ix2 r l) + rms (fun k => acc (ix2 r k)) (g (ix2 0 l)) l := by
  pointwise [k0_pay3, rms]

theorem pay4_at (h acc : FVec Ideal S1024x1024 .f32) (g g' : FVec Ideal S1x1024 .f32) (r l : Fin 1024) :
    k0_pay4 (F := Ideal) h acc g g' (ix2 r l) = rms (fun k => k0_pay3 (F := Ideal) h acc g (ix2 r k)) (g' (ix2 0 l)) l := by
  pointwise [k0_pay4, rms]

variable (m : (ℓ : Loc nD τ sig) → Buf (Elt Ideal) ℓ)

theorem idx : ∀ t : Fin cfg0.N, win0_0.index t = ![t.val / 4, 0] ∧ win0_1.index t = ![0, t.val % 4] ∧ win0_2.index t = ![0, t.val % 4]
    ∧ win0_3.index t = ![t.val % 4, 0] ∧ win0_4.index t = ![t.val / 4, 0] ∧ win0_5.index t = ![0, 0] ∧ win0_6.index t = ![0, 0]
    ∧ win0_7.index t = ![t.val / 4, 0] ∧ win0_8.index t = ![t.val / 4, 0] :=
  (by decide +kernel : ∀ t : Fin grid0.N, _)

/-- What one tile of hidden units adds to the block's sum. -/
def tile (z wg wu wd : FVec Ideal S1024x1024 .bf16) (r l : Fin 1024) : EReal :=
  ∑ k : Fin 1024, act (∑ d : Fin 1024, z (ix2 r d) * wg (ix2 d k)) (∑ d : Fin 1024, z (ix2 r d) * wu (ix2 d k)) * wd (ix2 k l)

abbrev part (c : Dev nD) (t : Fin cfg0.N) (r l : Fin 1024) : EReal :=
  tile (iblk m c 0 t) (iblk m c 1 t) (iblk m c 2 t) (iblk m c 3 t) r l

theorem step_A (c : Dev nD) (t : Fin cfg0.N) (h : t.val % 4 = 0) (j : S1024x1024.Idx) :
    (outsAt0 m c t.val t.isLt).2.2 j = 0 + part m c t (j 0) (j 1) := by
  idx_vars j
  rw [outsAt0_A m c t h (by omega)]
  frame_out
  refine (pay2_at _ _ _ _ _ _ _).trans ?_
  rw [pay1_at]
  rfl

theorem step_B (c : Dev nD) (t : Fin cfg0.N) (h : ¬t.val % 4 = 0) (j : S1024x1024.Idx) :
    (outsAt0 m c t.val t.isLt).2.2 j = (outsAt0 m c (t.val - 1) (by omega)).2.2 j + part m c t (j 0) (j 1) := by
  idx_vars j
  by_cases h' : t.val % 4 = 3
  · rw [outsAt0_C m c t h h']
    frame_out
    rw [read_unread_whole]
    exact pay2_at _ _ _ _ _ _ _
  · rw [outsAt0_B m c t h h']
    frame_out
    rw [read_unread_whole]
    exact pay2_at _ _ _ _ _ _ _

theorem last_h (c : Dev nD) (t : Fin cfg0.N) (h : t.val % 4 = 3) :
    (outsAt0 m c t.val t.isLt).1 = k0_pay3 (iblk m c 4 t) (outsAt0 m c t.val t.isLt).2.2 (iblk m c 5 t) := by
  rw [outsAt0_C m c t (by omega) h]
  frame_out

theorem last_z (c : Dev nD) (t : Fin cfg0.N) (h : t.val % 4 = 3) :
    (outsAt0 m c t.val t.isLt).2.1 = k0_pay4 (iblk m c 4 t) (outsAt0 m c t.val t.isLt).2.2 (iblk m c 5 t) (iblk m c 6 t) := by
  rw [outsAt0_C m c t (by omega) h]
  frame_out

theorem acc_last (c : Dev nD) (t : Fin cfg0.N) (h : t.val % 4 = 4 - 1) (r l : Fin 1024) :
    (show FVec Ideal S1024x1024 .f32 from (outsAt0 m c t.val t.isLt).2.2) (ix2 r l)
      = ∑ s : Fin 4, part m c ⟨4 * (t.val / 4) + s.val, Pipeline.run_point_lt_of_flush t h s⟩ r l := by
  refine (Pipeline.eq_sum_fin_of_reset_step_apply_of_flush (fun n h => (outsAt0 m c n h).2.2) 4 (fun _ => 0)
    (fun t j => part m c t (j 0) (j 1)) (step_A m c) (step_B m c) t h (ix2 r l)).trans ?_
  exact zero_add _

/-- The feed-forward sum of a token, over all hidden units. -/
def F (z : FVec Ideal S16384x1024 .bf16) (wg wu : FVec Ideal S1024x4096 .f32) (wd : FVec Ideal S4096x1024 .f32)
    (r : Fin 16384) (l : Fin 1024) : EReal :=
  ∑ k : Fin 4096, act (∑ d : Fin 1024, z (ix2 r d) * wg (ix2 d k)) (∑ d : Fin 1024, z (ix2 r d) * wu (ix2 d k)) * wd (ix2 k l)

theorem z_at (c : Dev nD) (t : Fin cfg0.N) (r d : Fin 1024) (q : Fin 16384) (hq : q.val = t.val / 4 * 1024 + r.val) :
    (show FVec Ideal S1024x1024 .bf16 from iblk m c 0 t) (ix2 r d) = m ((c : Thread nD τ).loc main_arg0) (ix2 q d) := by
  blk_ext [iblk, V, idx t]

theorem wg_at (c : Dev nD) (t : Fin cfg0.N) (d k : Fin 1024) (q : Fin 4096) (hq : q.val = t.val % 4 * 1024 + k.val) :
    (show FVec Ideal S1024x1024 .bf16 from iblk m c 1 t) (ix2 d k) = m ((c : Thread nD τ).loc main_arg1) (ix2 d q) := by
  blk_point [iblk, V, idx t]

theorem wu_at (c : Dev nD) (t : Fin cfg0.N) (d k : Fin 1024) (q : Fin 4096) (hq : q.val = t.val % 4 * 1024 + k.val) :
    (show FVec Ideal S1024x1024 .bf16 from iblk m c 2 t) (ix2 d k) = m ((c : Thread nD τ).loc main_arg2) (ix2 d q) := by
  blk_point [iblk, V, idx t]

theorem wd_at (c : Dev nD) (t : Fin cfg0.N) (k l : Fin 1024) (q : Fin 4096) (hq : q.val = t.val % 4 * 1024 + k.val) :
    (show FVec Ideal S1024x1024 .bf16 from iblk m c 3 t) (ix2 k l) = m ((c : Thread nD τ).loc main_arg3) (ix2 q l) := by
  blk_point [iblk, V, idx t]

theorem h_at (c : Dev nD) (t : Fin cfg0.N) (r d : Fin 1024) (q : Fin 16384) (hq : q.val = t.val / 4 * 1024 + r.val) :
    (show FVec Ideal S1024x1024 .f32 from iblk m c 4 t) (ix2 r d) = m ((c : Thread nD τ).loc main_arg4) (ix2 q d) := by
  blk_ext [iblk, V, idx t]

theorem g3_at (c : Dev nD) (t : Fin cfg0.N) (l : Fin 1024) :
    (show FVec Ideal S1x1024 .f32 from iblk m c 5 t) (ix2 0 l) = m ((c : Thread nD τ).loc main_arg5) (ix1 l) := by
  blk_point [iblk, V, idx t]

theorem gn_at (c : Dev nD) (t : Fin cfg0.N) (l : Fin 1024) :
    (show FVec Ideal S1x1024 .f32 from iblk m c 6 t) (ix2 0 l) = m ((c : Thread nD τ).loc main_arg6) (ix1 l) := by
  blk_point [iblk, V, idx t]

theorem acc_eq (c : Dev nD) (t : Fin cfg0.N) (h : t.val % 4 = 4 - 1) (r l : Fin 1024) (q : Fin 16384) (hq : q.val = t.val / 4 * 1024 + r.val) :
    (show FVec Ideal S1024x1024 .f32 from (outsAt0 m c t.val t.isLt).2.2) (ix2 r l)
      = F (m ((c : Thread nD τ).loc main_arg0)) (m ((c : Thread nD τ).loc main_arg1)) (m ((c : Thread nD τ).loc main_arg2))
          (m ((c : Thread nD τ).loc main_arg3)) q l := by
  rw [acc_last m c t h r l]
  unfold part tile F
  refine Fin.sum_mul_add_congr fun s k hl => ?_
  have h4 : (4 * (t.val / 4) + s.val) / 4 = t.val / 4 := by have := s.isLt; omega
  have h5 : (4 * (t.val / 4) + s.val) % 4 = s.val := by have := s.isLt; omega
  refine Ideal.mul_congr (congrArg₂ act ?_ ?_) (wd_at m c _ k l ⟨_, hl⟩ (by simp only [h5]))
  · exact Finset.sum_congr rfl fun d _ => Ideal.mul_congr (z_at m c _ r d q (by simp only [h4, hq])) (wg_at m c _ d k ⟨_, hl⟩ (by simp only [h5]))
  · exact Finset.sum_congr rfl fun d _ => Ideal.mul_congr (z_at m c _ r d q (by simp only [h4, hq])) (wu_at m c _ d k ⟨_, hl⟩ (by simp only [h5]))

/-- The new residual stream. -/
def H (z : FVec Ideal S16384x1024 .bf16) (wg wu : FVec Ideal S1024x4096 .f32) (wd : FVec Ideal S4096x1024 .f32)
    (h : FVec Ideal S16384x1024 .f32) (g3 : FVec Ideal S1024 .f32) : FVec Ideal S16384x1024 .f32 :=
  fun i => h (ix2 (i 0) (i 1)) + rms (F z wg wu wd (i 0)) (g3 (ix1 (i 1))) (i 1)

/-- The new residual stream, normed for the next layer. -/
def Z (z : FVec Ideal S16384x1024 .bf16) (wg wu : FVec Ideal S1024x4096 .f32) (wd : FVec Ideal S4096x1024 .f32)
    (h : FVec Ideal S16384x1024 .f32) (g3 gn : FVec Ideal S1024 .f32) : FVec Ideal S16384x1024 .bf16 :=
  fun i => rms (fun k => H z wg wu wd h g3 (ix2 (i 0) k)) (gn (ix1 (i 1))) (i 1)

theorem h_pt (c : Dev nD) (t : Fin cfg0.N) (h : t.val % 4 = 4 - 1) (r l : Fin 1024) (q : Fin 16384) (hq : q.val = t.val / 4 * 1024 + r.val) :
    k0_pay3 (F := Ideal) (iblk m c 4 t) (outsAt0 m c t.val t.isLt).2.2 (iblk m c 5 t) (ix2 r l)
      = H (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 q l) := by
  refine (pay3_at _ _ _ r l).trans ?_
  refine Ideal.add_congr (h_at m c t r l q hq) ?_
  exact congrArg₂ (fun x g => rms x g l) (funext fun k => acc_eq m c t h r k q hq) (g3_at m c t l)

theorem z_pt (c : Dev nD) (t : Fin cfg0.N) (h : t.val % 4 = 4 - 1) (r l : Fin 1024) (q : Fin 16384) (hq : q.val = t.val / 4 * 1024 + r.val) :
    k0_pay4 (F := Ideal) (iblk m c 4 t) (outsAt0 m c t.val t.isLt).2.2 (iblk m c 5 t) (iblk m c 6 t) (ix2 r l)
      = Z (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix2 q l) := by
  refine (pay4_at _ _ _ _ r l).trans ?_
  exact congrArg₂ (fun x g => rms x g l) (funext fun k => h_pt m c t h r k q hq) (gn_at m c t l)

theorem emb7 (t : Fin cfg0.N) (y0 y1 : Fin 1024) : ∃ q : Fin 16384, q.val = t.val / 4 * 1024 + y0.val ∧
    ((cfg0.win 7).blk t).view.emb (ix2 y0 y1 : S1024x1024.Idx) = (ix2 q y1 : S16384x1024.Idx) := by
  have ht : t.val < 64 := lt_of_lt_of_eq t.isLt N_0
  refine ⟨⟨t.val / 4 * 1024 + y0.val, by have := y0.isLt; omega⟩, rfl, ?_⟩
  blk_ext [idx t]

theorem emb8 (t : Fin cfg0.N) (y0 y1 : Fin 1024) : ∃ q : Fin 16384, q.val = t.val / 4 * 1024 + y0.val ∧
    ((cfg0.win 8).blk t).view.emb (ix2 y0 y1 : S1024x1024.Idx) = (ix2 q y1 : S16384x1024.Idx) := by
  have ht : t.val < 64 := lt_of_lt_of_eq t.isLt N_0
  refine ⟨⟨t.val / 4 * 1024 + y0.val, by have := y0.isLt; omega⟩, rfl, ?_⟩
  blk_ext [idx t]

theorem final_h (c : Dev nD) : (dats m 0 c).arrAt 7 cfg0.N
    = H (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7, last_h m c t ((flush0_7 t).mp hf)]
  idx_vars y
  obtain ⟨q, hq, he⟩ := emb7 t y0 y1
  exact (h_pt m c t ((flush0_7 t).mp hf) y0 y1 q hq).trans (congrArg _ he.symm)

theorem final_z (c : Dev nD) : (dats m 0 c).arrAt 8 cfg0.N
    = Z (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 8 _ (by decide +kernel) fun t hf y => ?_
  blk_simp
  rw [after0_8, last_z m c t ((flush0_8 t).mp hf)]
  idx_vars y
  obtain ⟨q, hq, he⟩ := emb8 t y0 y1
  exact (z_pt m c t ((flush0_8 t).mp hf) y0 y1 q hq).trans (congrArg _ he.symm)

end Cert.Kernel2Ideal.Ffn

end
-- ==== Proof.FfnClaim.lean ====
module

public import proofs.«01_k».proof.Defs
public import proofs.«01_k».proof.Proof.Ffn
public import Idealize.ShloMosaic.Lib.Claim

@[expose] public section

set_option maxRecDepth 16384

noncomputable section

open Idealize.ShloMosaic Idealize.ShloMosaic.TcCoe Idealize.SL.Sem

namespace Cert.Proof

open Cert.Kernel2Ideal.Ffn in
/-- The feed-forward call computes what its reference computes, both results. -/
theorem ffn_algebraic : Cert.algebraic_Kernel2Ideal_Reference2Ideal := by
  pair_intro
  · run_from Cert.Kernel2Ideal.Gen.run_main m g
  · run_from Cert.Reference2Ideal.Value.run m' g'
    · refine Eq.trans ?_ (final_h m c).symm
      funext i
      idx_vars i
      pointwise [H, F, act, rms]
    · refine Eq.trans ?_ (final_z m c).symm
      funext i
      idx_vars i
      pointwise [Cert.Reference2Ideal.Value.res_main_v33, H, Z, F, act, rms]
      obtain ⟨a0, a1, a2, a3, a4, a5, a6⟩ := hagree c
      rw [a0, a1, a2, a3, a4, a5, a6]

end Cert.Proof

end
-- ==== Proof.lean ====
module

public import proofs.«01_k».proof.Defs
public import proofs.«01_k».proof.Proof.ExpertClaim
public import proofs.«01_k».proof.Proof.EvenInClaim
public import proofs.«01_k».proof.Proof.EvenMixClaim
public import proofs.«01_k».proof.Proof.OddInClaim
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Frames
public import proofs.«01_k».proof.Proof.AttnClaim
public import proofs.«01_k».proof.Proof.FfnClaim
public import Idealize.ShloMosaic.Adequacy
public import Idealize.ShloMosaic.Init

@[expose] public section

noncomputable section

namespace Cert.Proof

open Idealize.ShloMosaic Idealize.SL.Sem

/-- The whole certificate: the frames, the one named constant, and the value claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_scores.Attn.facts, Cert.Pre_expert_in_range.Expert.facts,
    frame_attention, frame_attention_ideal, frame_attention_ideal_pre, frame_attention_ref, frame_attention_ref_pre,
    frame_ffn, frame_ffn_ideal, frame_ffn_ref, frame_even_in, frame_even_in_ideal, frame_even_in_ref, frame_even_mix, frame_even_mix_ideal, frame_even_mix_ref, frame_odd_in, frame_odd_in_ideal, frame_odd_in_ref,
    frame_expert, frame_expert_ideal, frame_expert_ref, frame_expert_ref_pre,
    IdealRules.named_const.statement Cert.KernelIdeal.κ "mask" .f32 0xF149F2CA#32 ⊥ rfl, attn_algebraic, trivial, ffn_algebraic, trivial, even_in_algebraic, trivial, even_mix_algebraic, trivial, odd_in_algebraic, trivial, expert_algebraic⟩

end Cert.Proof

end
